-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def preserves_Kernel_KernelIdeal : Prop :=
  IdealRules.named_const.Statement Cert.KernelIdeal.κ "scale" .f32 0x3DB504F3#32 (((Real.sqrt 128)⁻¹ : ℝ) : EReal)
  ∧ IdealRules.named_const.Statement Cert.KernelIdeal.κ "mask" .f32 0xF149F2CA#32 ⊥

def preserves_Kernel2_Kernel2Ideal : Prop :=
  True

def preserves_Kernel3_Kernel3Ideal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v30) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v18) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ preserves_Kernel2_Kernel2Ideal
    ∧ preserves_Kernel3_Kernel3Ideal
    ∧ algebraic_KernelIdeal_ReferenceIdeal_pre_finite_scores (hKernelIdeal := hKernelIdeal) (hReferenceIdeal := hReferenceIdeal) (hPre_finite_scores := hPre_finite_scores)
    ∧ algebraic_Kernel2Ideal_Reference2Ideal (hKernel2Ideal := hKernel2Ideal) (hReference2Ideal := hReference2Ideal)
    ∧ algebraic_Kernel3Ideal_Reference3Ideal (hKernel3Ideal := hKernel3Ideal) (hReference3Ideal := hReference3Ideal)
-- ==== Pre_finite_scores.lean ====
abbrev S2x16384x2048 : Shape := ⟨3, ![2, 16384, 2048]⟩
abbrev S2x16384x8x128 : Shape := ⟨4, ![2, 16384, 8, 128]⟩
abbrev S2x16384x2x128 : Shape := ⟨4, ![2, 16384, 2, 128]⟩
abbrev S2x16384x1024 : Shape := ⟨3, ![2, 16384, 1024]⟩
abbrev S8 : Shape := ⟨1, ![8]⟩
abbrev S2048x2048 : Shape := ⟨2, ![2048, 2048]⟩
abbrev S_ : Shape := ⟨0, ![]⟩

class Facts : Prop where
  bcast_S_S2x16384x8x128 : S_.BroadcastsInDim S2x16384x8x128 (![] : Fin 0 → Fin S2x16384x8x128.rank)
  bcast_S_S2x16384x2x128 : S_.BroadcastsInDim S2x16384x2x128 (![] : Fin 0 → Fin S2x16384x2x128.rank)
  bcast_S_S8 : S_.BroadcastsInDim S8 (![] : Fin 0 → Fin S8.rank)

variable [Facts]

def fn {F : FTy → Type} [FloatOps F] (main_arg0 : FVec F S2x16384x2048 .f32) (main_arg1 : FVec F S2x16384x8x128 .bf16) (main_arg2 : FVec F S2x16384x2x128 .bf16) (main_arg3 : FVec F S2x16384x2x128 .bf16) (main_arg4 : FVec F S2x16384x1024 .bf16) (main_arg5 : FVec F S8 .f32) (main_arg6 : FVec F S2048x2048 .bf16) : IVec S2x16384x8x128 1 × IVec S2x16384x2x128 1 × IVec S8 1 :=
  let main_v0 : FVec F S2x16384x8x128 .bf16 := Host.absf main_arg1
  let main_cst : FVec F S_ .bf16 := constant S_ .bf16 0x7F80#16
  let main_v1 : FVec F S2x16384x8x128 .bf16 := broadcastInDim S2x16384x8x128 ![] bcast_S_S2x16384x8x128 main_cst
  let main_v2 : IVec S2x16384x8x128 1 := cmpf .olt main_v0 main_v1
  let main_v3 : FVec F S2x16384x2x128 .bf16 := Host.absf main_arg2
  let main_cst_0 : FVec F S_ .bf16 := constant S_ .bf16 0x7F80#16
  let main_v4 : FVec F S2x16384x2x128 .bf16 := broadcastInDim S2x16384x2x128 ![] bcast_S_S2x16384x2x128 main_cst_0
  let main_v5 : IVec S2x16384x2x128 1 := cmpf .olt main_v3 main_v4
  let main_v6 : FVec F S8 .f32 := Host.absf main_arg5
  let main_cst_1 : FVec F S_ .f32 := constant S_ .f32 0x7F800000#32
  let main_v7 : FVec F S8 .f32 := broadcastInDim S8 ![] bcast_S_S8 main_cst_1
  let main_v8 : IVec S8 1 := cmpf .olt main_v6 main_v7
  (main_v2, main_v5, main_v8)
-- ==== Kernel.lean ====
abbrev S2x16384x2048 : Shape := ⟨3, ![2, 16384, 2048]⟩
abbrev S2x16384x8x128 : Shape := ⟨4, ![2, 16384, 8, 128]⟩
abbrev S2x16384x2x128 : Shape := ⟨4, ![2, 16384, 2, 128]⟩
abbrev S2x16384x1024 : Shape := ⟨3, ![2, 16384, 1024]⟩
abbrev S8 : Shape := ⟨1, ![8]⟩
abbrev S2048x2048 : Shape := ⟨2, ![2048, 2048]⟩
abbrev S32768x2048 : Shape := ⟨2, ![32768, 2048]⟩
abbrev S32768x1024 : Shape := ⟨2, ![32768, 1024]⟩
abbrev S32768x256 : Shape := ⟨2, ![32768, 256]⟩
abbrev S512x2048 : Shape := ⟨2, ![512, 2048]⟩
abbrev S512x1024 : Shape := ⟨2, ![512, 1024]⟩
abbrev S128x256 : Shape := ⟨2, ![128, 256]⟩
abbrev S512x256 : Shape := ⟨2, ![512, 256]⟩
abbrev S768x256 : Shape := ⟨2, ![768, 256]⟩
abbrev S128x384 : Shape := ⟨2, ![128, 384]⟩
abbrev S384x128 : Shape := ⟨2, ![384, 128]⟩
abbrev S128x128 : Shape := ⟨2, ![128, 128]⟩
abbrev S512x128 : Shape := ⟨2, ![512, 128]⟩
abbrev S512x384 : Shape := ⟨2, ![512, 384]⟩
abbrev S1 : Shape := ⟨1, ![1]⟩
abbrev S128 : Shape := ⟨1, ![128]⟩
abbrev S128x1 : Shape := ⟨2, ![128, 1]⟩

abbrev nBuf : Space → Nat
  | .hbm => 13
  | .vmem => 24
  | .smem => 1
  | _ => 0

abbrev bufTy : (tb : Table) → Fin (tcTables nBuf tb) → BufTy
  | .hbm, ⟨0, _⟩ => ⟨S2x16384x2048, .f32⟩
  | .hbm, ⟨1, _⟩ => ⟨S2x16384x8x128, .bf16⟩
  | .hbm, ⟨2, _⟩ => ⟨S2x16384x2x128, .bf16⟩
  | .hbm, ⟨3, _⟩ => ⟨S2x16384x2x128, .bf16⟩
  | .hbm, ⟨4, _⟩ => ⟨S2x16384x1024, .bf16⟩
  | .hbm, ⟨5, _⟩ => ⟨S8, .f32⟩
  | .hbm, ⟨6, _⟩ => ⟨S2048x2048, .bf16⟩
  | .hbm, ⟨7, _⟩ => ⟨S32768x2048, .f32⟩
  | .hbm, ⟨8, _⟩ => ⟨S32768x1024, .bf16⟩
  | .hbm, ⟨9, _⟩ => ⟨S32768x256, .bf16⟩
  | .hbm, ⟨10, _⟩ => ⟨S32768x256, .bf16⟩
  | .hbm, ⟨11, _⟩ => ⟨S32768x1024, .bf16⟩
  | .hbm, ⟨12, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S128x256, .bf16⟩
  | .local _ .vmem, ⟨5, _⟩ => ⟨S128x256, .bf16⟩
  | .local _ .vmem, ⟨6, _⟩ => ⟨S512x256, .bf16⟩
  | .local _ .vmem, ⟨7, _⟩ => ⟨S512x256, .bf16⟩
  | .local _ .vmem, ⟨8, _⟩ => ⟨S128x256, .bf16⟩
  | .local _ .vmem, ⟨9, _⟩ => ⟨S128x256, .bf16⟩
  | .local _ .vmem, ⟨10, _⟩ => ⟨S128x256, .bf16⟩
  | .local _ .vmem, ⟨11, _⟩ => ⟨S128x256, .bf16⟩
  | .local _ .vmem, ⟨12, _⟩ => ⟨S512x256, .bf16⟩
  | .local _ .vmem, ⟨13, _⟩ => ⟨S512x256, .bf16⟩
  | .local _ .vmem, ⟨14, _⟩ => ⟨S128x256, .bf16⟩
  | .local _ .vmem, ⟨15, _⟩ => ⟨S128x256, .bf16⟩
  | .local _ .vmem, ⟨16, _⟩ => ⟨S512x1024, .bf16⟩
  | .local _ .vmem, ⟨17, _⟩ => ⟨S512x1024, .bf16⟩
  | .local _ .vmem, ⟨18, _⟩ => ⟨S2048x2048, .bf16⟩
  | .local _ .vmem, ⟨19, _⟩ => ⟨S512x2048, .f32⟩
  | .local _ .vmem, ⟨20, _⟩ => ⟨S512x2048, .f32⟩
  | .local _ .vmem, ⟨21, _⟩ => ⟨S768x256, .bf16⟩
  | .local _ .vmem, ⟨22, _⟩ => ⟨S768x256, .bf16⟩
  | .local _ .vmem, ⟨23, _⟩ => ⟨S512x2048, .bf16⟩
  | .local _ .smem, ⟨0, _⟩ => ⟨S8, .f32⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .smem, ⟨0, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.muli v0 c4_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.muli v0 c4_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S2048x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== KernelIdeal.lean ====
variable {F : FTy → Type} [FloatOps F] [Named F]
def κ : String → Option EReal := fun
  | "mask" => some ⊥
  | "scale" => some (((Real.sqrt 128)⁻¹ : ℝ) : EReal)
  | _ => none
-- ==== ReferenceIdeal.lean ====
abbrev S2x16384x2048 : Shape := ⟨3, ![2, 16384, 2048]⟩
abbrev S2x16384x8x128 : Shape := ⟨4, ![2, 16384, 8, 128]⟩
abbrev S2x16384x2x128 : Shape := ⟨4, ![2, 16384, 2, 128]⟩
abbrev S2x16384x1024 : Shape := ⟨3, ![2, 16384, 1024]⟩
abbrev S8 : Shape := ⟨1, ![8]⟩
abbrev S2048x2048 : Shape := ⟨2, ![2048, 2048]⟩
abbrev S2x128x128x2x4x128 : Shape := ⟨6, ![2, 128, 128, 2, 4, 128]⟩
abbrev S_ : Shape := ⟨0, ![]⟩
abbrev S2x16640x2x128 : Shape := ⟨4, ![2, 16640, 2, 128]⟩
abbrev S2x130x128x2x128 : Shape := ⟨5, ![2, 130, 128, 2, 128]⟩
abbrev S2x128x128x2x128 : Shape := ⟨5, ![2, 128, 128, 2, 128]⟩
abbrev S2x128x384x2x128 : Shape := ⟨5, ![2, 128, 384, 2, 128]⟩
abbrev S2x128x2x384x128x4 : Shape := ⟨6, ![2, 128, 2, 384, 128, 4]⟩
abbrev S2x128x2x4x128x384 : Shape := ⟨6, ![2, 128, 2, 4, 128, 384]⟩
abbrev S128 : Shape := ⟨1, ![128]⟩
abbrev S128x1x1 : Shape := ⟨3, ![128, 1, 1]⟩
abbrev S1x128x1 : Shape := ⟨3, ![1, 128, 1]⟩
abbrev S128x128x1 : Shape := ⟨3, ![128, 128, 1]⟩
abbrev S384 : Shape := ⟨1, ![384]⟩
abbrev S1x1x384 : Shape := ⟨3, ![1, 1, 384]⟩
abbrev S128x1x384 : Shape := ⟨3, ![128, 1, 384]⟩
abbrev S128x128x384 : Shape := ⟨3, ![128, 128, 384]⟩
abbrev S1x128x1x1x128x384 : Shape := ⟨6, ![1, 128, 1, 1, 128, 384]⟩
abbrev S1x1x2x4x1x1 : Shape := ⟨6, ![1, 1, 2, 4, 1, 1]⟩
abbrev S2x128x2x4x128 : Shape := ⟨5, ![2, 128, 2, 4, 128]⟩
abbrev S2x128x2x4x128x1 : Shape := ⟨6, ![2, 128, 2, 4, 128, 1]⟩
abbrev S2x128x2x128x4x128 : Shape := ⟨6, ![2, 128, 2, 128, 4, 128]⟩
abbrev S32768x2048 : Shape := ⟨2, ![32768, 2048]⟩

abbrev nBuf : Space → Nat
  | .hbm => 104
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2x16384x8x128, .bf16⟩
  | .hbm, ⟨2, _⟩ => ⟨S2x16384x2x128, .bf16⟩
  | .hbm, ⟨3, _⟩ => ⟨S2x16384x2x128, .bf16⟩
  | .hbm, ⟨4, _⟩ => ⟨S2x16384x1024, .bf16⟩
  | .hbm, ⟨5, _⟩ => ⟨S8, .f32⟩
  | .hbm, ⟨6, _⟩ => ⟨S2048x2048, .bf16⟩
  | .hbm, ⟨7, _⟩ => ⟨S2x16384x8x128, .f32⟩
  | .hbm, ⟨8, _⟩ => ⟨S2x16384x2x128, .f32⟩
  | .hbm, ⟨9, _⟩ => ⟨S2x16384x2x128, .f32⟩
  | .hbm, ⟨10, _⟩ => ⟨S2x16384x1024, .f32⟩
  | .hbm, ⟨11, _⟩ => ⟨S2048x2048, .f32⟩
  | .hbm, ⟨12, _⟩ => ⟨S2x128x128x2x4x128, .f32⟩
  | .hbm, ⟨13, _⟩ => ⟨S_, .i32⟩
  | .hbm, ⟨14, _⟩ => ⟨S_, .f32⟩
  | .hbm, ⟨15, _⟩ => ⟨S2x16640x2x128, .f32⟩
  | .hbm, ⟨16, _⟩ => ⟨S2x130x128x2x128, .f32⟩
  | .hbm, ⟨17, _⟩ => ⟨S2x128x128x2x128, .f32⟩
  | .hbm, ⟨18, _⟩ => ⟨S2x128x128x2x128, .f32⟩
  | .hbm, ⟨19, _⟩ => ⟨S2x128x128x2x128, .f32⟩
  | .hbm, ⟨20, _⟩ => ⟨S2x128x384x2x128, .f32⟩
  | .hbm, ⟨21, _⟩ => ⟨S_, .i32⟩
  | .hbm, ⟨22, _⟩ => ⟨S_, .f32⟩
  | .hbm, ⟨23, _⟩ => ⟨S2x16640x2x128, .f32⟩
  | .hbm, ⟨24, _⟩ => ⟨S2x130x128x2x128, .f32⟩
  | .hbm, ⟨25, _⟩ => ⟨S2x128x128x2x128, .f32⟩
  | .hbm, ⟨26, _⟩ => ⟨S2x128x128x2x128, .f32⟩
  | .hbm, ⟨27, _⟩ => ⟨S2x128x128x2x128, .f32⟩
  | .hbm, ⟨28, _⟩ => ⟨S2x128x384x2x128, .f32⟩
  | .hbm, ⟨29, _⟩ => ⟨S2x128x2x384x128x4, .f32⟩
  | .hbm, ⟨30, _⟩ => ⟨S2x128x2x4x128x384, .f32⟩
  | .hbm, ⟨31, _⟩ => ⟨S_, .f32⟩
  | .hbm, ⟨32, _⟩ => ⟨S_, .f32⟩
  | .hbm, ⟨33, _⟩ => ⟨S2x128x2x4x128x384, .f32⟩
  | .hbm, ⟨34, _⟩ => ⟨S2x128x2x4x128x384, .f32⟩
  | .hbm, ⟨35, _⟩ => ⟨S128, .i32⟩
  | .hbm, ⟨36, _⟩ => ⟨S128x1x1, .i32⟩
  | .hbm, ⟨37, _⟩ => ⟨S_, .i32⟩
  | .hbm, ⟨38, _⟩ => ⟨S128x1x1, .i32⟩
  | .hbm, ⟨39, _⟩ => ⟨S128x1x1, .i32⟩
  | .hbm, ⟨40, _⟩ => ⟨S128, .i32⟩
  | .hbm, ⟨41, _⟩ => ⟨S1x128x1, .i32⟩
  | .hbm, ⟨42, _⟩ => ⟨S128x128x1, .i32⟩
  | .hbm, ⟨43, _⟩ => ⟨S128x128x1, .i32⟩
  | .hbm, ⟨44, _⟩ => ⟨S128x128x1, .i32⟩
  | .hbm, ⟨45, _⟩ => ⟨S_, .i32⟩
  | .hbm, ⟨46, _⟩ => ⟨S128x1x1, .i32⟩
  | .hbm, ⟨47, _⟩ => ⟨S128x1x1, .i32⟩
  | .hbm, ⟨48, _⟩ => ⟨S_, .i32⟩
  | .hbm, ⟨49, _⟩ => ⟨S128x1x1, .i32⟩
  | .hbm, ⟨50, _⟩ => ⟨S128x1x1, .i32⟩
  | .hbm, ⟨51, _⟩ => ⟨S384, .i32⟩
  | .hbm, ⟨52, _⟩ => ⟨S1x1x384, .i32⟩
  | .hbm, ⟨53, _⟩ => ⟨S128x1x384, .i32⟩
  | .hbm, ⟨54, _⟩ => ⟨S128x1x384, .i32⟩
  | .hbm, ⟨55, _⟩ => ⟨S128x1x384, .i32⟩
  | .hbm, ⟨56, _⟩ => ⟨S128x128x384, .i32⟩
  | .hbm, ⟨57, _⟩ => ⟨S128x128x384, .i32⟩
  | .hbm, ⟨58, _⟩ => ⟨S128x128x384, .i32⟩
  | .hbm, ⟨59, _⟩ => ⟨S128x128x384, .i32⟩
  | .hbm, ⟨60, _⟩ => ⟨S_, .i32⟩
  | .hbm, ⟨61, _⟩ => ⟨S128x128x384, .i32⟩
  | .hbm, ⟨62, _⟩ => ⟨S128x128x384, .i1⟩
  | .hbm, ⟨63, _⟩ => ⟨S_, .i32⟩
  | .hbm, ⟨64, _⟩ => ⟨S128x1x384, .i32⟩
  | .hbm, ⟨65, _⟩ => ⟨S128x1x384, .i1⟩
  | .hbm, ⟨66, _⟩ => ⟨S128x128x384, .i1⟩
  | .hbm, ⟨67, _⟩ => ⟨S128x128x384, .i1⟩
  | .hbm, ⟨68, _⟩ => ⟨S_, .i32⟩
  | .hbm, ⟨69, _⟩ => ⟨S128x1x384, .i32⟩
  | .hbm, ⟨70, _⟩ => ⟨S128x1x384, .i1⟩
  | .hbm, ⟨71, _⟩ => ⟨S128x128x384, .i1⟩
  | .hbm, ⟨72, _⟩ => ⟨S128x128x384, .i1⟩
  | .hbm, ⟨73, _⟩ => ⟨S1x128x1x1x128x384, .i1⟩
  | .hbm, ⟨74, _⟩ => ⟨S_, .f32⟩
  | .hbm, ⟨75, _⟩ => ⟨S_, .f32⟩
  | .hbm, ⟨76, _⟩ => ⟨S2x128x2x4x128x384, .i1⟩
  | .hbm, ⟨77, _⟩ => ⟨S2x128x2x4x128x384, .f32⟩
  | .hbm, ⟨78, _⟩ => ⟨S2x128x2x4x128x384, .f32⟩
  | .hbm, ⟨79, _⟩ => ⟨S1x1x2x4x1x1, .f32⟩
  | .hbm, ⟨80, _⟩ => ⟨S_, .f32⟩
  | .hbm, ⟨81, _⟩ => ⟨S2x128x2x4x128, .f32⟩
  | .hbm, ⟨82, _⟩ => ⟨S2x128x2x4x128x1, .f32⟩
  | .hbm, ⟨83, _⟩ => ⟨S2x128x2x4x128x1, .f32⟩
  | .hbm, ⟨84, _⟩ => ⟨S2x128x2x4x128x1, .f32⟩
  | .hbm, ⟨85, _⟩ => ⟨S2x128x2x4x128x384, .f32⟩
  | .hbm, ⟨86, _⟩ => ⟨S2x128x2x4x128x384, .f32⟩
  | .hbm, ⟨87, _⟩ => ⟨S2x128x2x4x128x384, .f32⟩
  | .hbm, ⟨88, _⟩ => ⟨S_, .f32⟩
  | .hbm, ⟨89, _⟩ => ⟨S2x128x2x4x128, .f32⟩
  | .hbm, ⟨90, _⟩ => ⟨S2x128x2x4x128x1, .f32⟩
  | .hbm, ⟨91, _⟩ => ⟨S2x128x2x4x128x1, .f32⟩
  | .hbm, ⟨92, _⟩ => ⟨S2x128x2x4x128x1, .f32⟩
  | .hbm, ⟨93, _⟩ => ⟨S2x128x2x4x128x1, .f32⟩
  | .hbm, ⟨94, _⟩ => ⟨S2x128x2x4x128x1, .f32⟩
  | .hbm, ⟨95, _⟩ => ⟨S2x128x2x4x128x384, .f32⟩
  | .hbm, ⟨96, _⟩ => ⟨S2x128x2x4x128x384, .f32⟩
  | .hbm, ⟨97, _⟩ => ⟨S2x128x2x128x4x128, .f32⟩
  | .hbm, ⟨98, _⟩ => ⟨S2x128x128x2x4x128, .f32⟩
  | .hbm, ⟨99, _⟩ => ⟨S2x16384x1024, .f32⟩
  | .hbm, ⟨100, _⟩ => ⟨S2x16384x2048, .f32⟩
  | .hbm, ⟨101, _⟩ => ⟨S2x16384x2048, .f32⟩
  | .hbm, ⟨102, _⟩ => ⟨S2x16384x2048, .f32⟩
  | .hbm, ⟨103, _⟩ => ⟨S32768x2048, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_call0_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_0 : Ref sig .tc := ⟨.hbm, 21, rfl⟩
abbrev main_call1_v0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_1 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_2 : Ref sig .tc := ⟨.hbm, 45, rfl⟩
abbrev main_v32 : Ref sig .tc := ⟨.hbm, 46, rfl⟩
abbrev main_v33 : Ref sig .tc := ⟨.hbm, 47, rfl⟩
abbrev main_c_3 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_c_4 : Ref sig .tc := ⟨.hbm, 60, rfl⟩
abbrev main_v45 : Ref sig .tc := ⟨.hbm, 61, rfl⟩
abbrev main_v46 : Ref sig .tc := ⟨.hbm, 62, rfl⟩
abbrev main_c_5 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_c_6 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_7 : Ref sig .tc := ⟨.hbm, 74, rfl⟩
abbrev main_call2_v0 : Ref sig .tc := ⟨.hbm, 75, rfl⟩
abbrev main_call2_v1 : Ref sig .tc := ⟨.hbm, 76, rfl⟩
abbrev main_call2_v2 : Ref sig .tc := ⟨.hbm, 77, rfl⟩
abbrev main_v56 : Ref sig .tc := ⟨.hbm, 78, rfl⟩
abbrev main_v57 : Ref sig .tc := ⟨.hbm, 79, rfl⟩
abbrev main_cst_8 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_9 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩

abbrev nD : Nat := 1
abbrev τ : Topo := Topo.v7x

variable {F : FTy → Type} [FloatOps F]
-- ==== Kernel2.lean ====
abbrev S32768x2048 : Shape := ⟨2, ![32768, 2048]⟩
abbrev S1x2048 : Shape := ⟨2, ![1, 2048]⟩
abbrev S2048x8192 : Shape := ⟨2, ![2048, 8192]⟩
abbrev S8192x2048 : Shape := ⟨2, ![8192, 2048]⟩
abbrev S1024x2048 : Shape := ⟨2, ![1024, 2048]⟩
abbrev S2x2048x1024 : Shape := ⟨3, ![2, 2048, 1024]⟩
abbrev S2x1024x2048 : Shape := ⟨3, ![2, 1024, 2048]⟩
abbrev S2x2 : Shape := ⟨2, ![2, 2]⟩
abbrev S1x1 : Shape := ⟨2, ![1, 1]⟩
abbrev S_ : Shape := ⟨0, ![]⟩
abbrev S1x2048x1024 : Shape := ⟨3, ![1, 2048, 1024]⟩
abbrev S2048x1024 : Shape := ⟨2, ![2048, 1024]⟩
abbrev S1x1024x2048 : Shape := ⟨3, ![1, 1024, 2048]⟩
abbrev S1024 : Shape := ⟨1, ![1024]⟩
abbrev S1024x1 : Shape := ⟨2, ![1024, 1]⟩
abbrev S1024x256 : Shape := ⟨2, ![1024, 256]⟩
abbrev S1x256 : Shape := ⟨2, ![1, 256]⟩
abbrev S2048x512 : Shape := ⟨2, ![2048, 512]⟩
abbrev S1024x512 : Shape := ⟨2, ![1024, 512]⟩
abbrev S512x2048 : Shape := ⟨2, ![512, 2048]⟩

abbrev nBuf : Space → Nat
  | .hbm => 6
  | .vmem => 9
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S2048x8192, .bf16⟩
  | .hbm, ⟨3, _⟩ => ⟨S8192x2048, .bf16⟩
  | .hbm, ⟨4, _⟩ => ⟨S1x2048, .f32⟩
  | .hbm, ⟨5, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048, .f32⟩
  | .local _ .vmem, ⟨4, _⟩ => ⟨S1024x2048, .f32⟩
  | .local _ .vmem, ⟨5, _⟩ => ⟨S1024x2048, .f32⟩
  | .local _ .vmem, ⟨6, _⟩ => ⟨S1024x2048, .bf16⟩
  | .local _ .vmem, ⟨7, _⟩ => ⟨S2x2048x1024, .bf16⟩
  | .local _ .vmem, ⟨8, _⟩ => ⟨S2x1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

@[reducible] def k0_t1_loop : Scf.Loop 32 :=
  let c1_i32_109 : BitVec 32 := 1#32
  let c7_i32 : BitVec 32 := 7#32
  let v145 : BitVec 32 := Scalar.addi c1_i32_109 c7_i32
  let c1_i32_110 : BitVec 32 := 1#32
  ⟨c1_i32_109, v145, c1_i32_110⟩
def k0_off1 (k0_t1 : Fin k0_t1_loop.trips) : Fin 2 → Nat :=
  let c0_i32_127 : BitVec 32 := 0#32
  let c1_i32_109 : BitVec 32 := 1#32
  let c1_i32_110 : BitVec 32 := 1#32
  let arg11 : BitVec 32 := Scf.iv c1_i32_109 c1_i32_110 k0_t1
  let c2_i32 : BitVec 32 := 2#32
  let c0_i32_121 : BitVec 32 := 0#32
  let v162 : BitVec 1 := Scalar.cmpi .eq c2_i32 c0_i32_121
  let c1_i32_122 : BitVec 32 := 1#32
  let v163 : BitVec 32 := Scalar.select v162 c1_i32_122 c2_i32
  let v164 : BitVec 32 := Scalar.remsi arg11 v163
  let c0_i32_124 : BitVec 32 := 0#32
  let v166 : BitVec 1 := Scalar.cmpi .slt v164 c0_i32_124
  let c0_i32_125 : BitVec 32 := 0#32
  let v167 : BitVec 1 := Scalar.cmpi .slt v163 c0_i32_125
  let v168 : BitVec 1 := Scalar.xori v166 v167
  let c0_i32_123 : BitVec 32 := 0#32
  let v165 : BitVec 1 := Scalar.cmpi .ne v164 c0_i32_123
  let v169 : BitVec 1 := Scalar.andi v168 v165
  let v170 : BitVec 32 := Scalar.addi v164 v163
  let v171 : BitVec 32 := Scalar.select v169 v170 v164
  ![0, v171.toNat]
def k0_off2 (k0_t1 : Fin k0_t1_loop.trips) : Fin 3 → Nat :=
  let c1_i32_109 : BitVec 32 := 1#32
  let c1_i32_110 : BitVec 32 := 1#32
  let arg11 : BitVec 32 := Scf.iv c1_i32_109 c1_i32_110 k0_t1
  let c2_i32 : BitVec 32 := 2#32
  let c0_i32_121 : BitVec 32 := 0#32
  let v162 : BitVec 1 := Scalar.cmpi .eq c2_i32 c0_i32_121
  let c1_i32_122 : BitVec 32 := 1#32
  let v163 : BitVec 32 := Scalar.select v162 c1_i32_122 c2_i32
  let v164 : BitVec 32 := Scalar.remsi arg11 v163
  let c0_i32_124 : BitVec 32 := 0#32
  let v166 : BitVec 1 := Scalar.cmpi .slt v164 c0_i32_124
  let c0_i32_125 : BitVec 32 := 0#32
  let v167 : BitVec 1 := Scalar.cmpi .slt v163 c0_i32_125
  let v168 : BitVec 1 := Scalar.xori v166 v167
  let c0_i32_123 : BitVec 32 := 0#32
  let v165 : BitVec 1 := Scalar.cmpi .ne v164 c0_i32_123
  let v169 : BitVec 1 := Scalar.andi v168 v165
  let v170 : BitVec 32 := Scalar.addi v164 v163
  let v171 : BitVec 32 := Scalar.select v169 v170 v164
  let c0_i32_128 : BitVec 32 := 0#32
  let c0_i32_129 : BitVec 32 := 0#32
  ![v171.toNat, 0, 0]
def k0_off3 (k0_t1 : Fin k0_t1_loop.trips) : Fin 2 → Nat :=
  let c0_i32_130 : BitVec 32 := 0#32
  let c1_i32_109 : BitVec 32 := 1#32
  let c1_i32_110 : BitVec 32 := 1#32
  let arg11 : BitVec 32 := Scf.iv c1_i32_109 c1_i32_110 k0_t1
  let c1024_i32_126 : BitVec 32 := 1024#32
  let v172 : BitVec 32 := Scalar.muli arg11 c1024_i32_126
  ![0, v172.toNat]
def k0_off4 (k0_t1 : Fin k0_t1_loop.trips) : Fin 2 → Nat :=
  let c1_i32_131 : BitVec 32 := 1#32
  let c1_i32_109 : BitVec 32 := 1#32
  let c1_i32_110 : BitVec 32 := 1#32
  let arg11 : BitVec 32 := Scf.iv c1_i32_109 c1_i32_110 k0_t1
  let c2_i32 : BitVec 32 := 2#32
  let c0_i32_121 : BitVec 32 := 0#32
  let v162 : BitVec 1 := Scalar.cmpi .eq c2_i32 c0_i32_121
  let c1_i32_122 : BitVec 32 := 1#32
  let v163 : BitVec 32 := Scalar.select v162 c1_i32_122 c2_i32
  let v164 : BitVec 32 := Scalar.remsi arg11 v163
  let c0_i32_124 : BitVec 32 := 0#32
  let v166 : BitVec 1 := Scalar.cmpi .slt v164 c0_i32_124
  let c0_i32_125 : BitVec 32 := 0#32
  let v167 : BitVec 1 := Scalar.cmpi .slt v163 c0_i32_125
  let v168 : BitVec 1 := Scalar.xori v166 v167
  let c0_i32_123 : BitVec 32 := 0#32
  let v165 : BitVec 1 := Scalar.cmpi .ne v164 c0_i32_123
  let v169 : BitVec 1 := Scalar.andi v168 v165
  let v170 : BitVec 32 := Scalar.addi v164 v163
  let v171 : BitVec 32 := Scalar.select v169 v170 v164
  ![1, v171.toNat]
def k0_off5 (k0_t1 : Fin k0_t1_loop.trips) : Fin 3 → Nat :=
  let c1_i32_109 : BitVec 32 := 1#32
  let c1_i32_110 : BitVec 32 := 1#32
  let arg11 : BitVec 32 := Scf.iv c1_i32_109 c1_i32_110 k0_t1
  let c2_i32 : BitVec 32 := 2#32
  let c0_i32_121 : BitVec 32 := 0#32
  let v162 : BitVec 1 := Scalar.cmpi .eq c2_i32 c0_i32_121
  let c1_i32_122 : BitVec 32 := 1#32
  let v163 : BitVec 32 := Scalar.select v162 c1_i32_122 c2_i32
  let v164 : BitVec 32 := Scalar.remsi arg11 v163
  let c0_i32_124 : BitVec 32 := 0#32
  let v166 : BitVec 1 := Scalar.cmpi .slt v164 c0_i32_124
  let c0_i32_125 : BitVec 32 := 0#32
  let v167 : BitVec 1 := Scalar.cmpi .slt v163 c0_i32_125
  let v168 : BitVec 1 := Scalar.xori v166 v167
  let c0_i32_123 : BitVec 32 := 0#32
  let v165 : BitVec 1 := Scalar.cmpi .ne v164 c0_i32_123
  let v169 : BitVec 1 := Scalar.andi v168 v165
  let v170 : BitVec 32 := Scalar.addi v164 v163
  let v171 : BitVec 32 := Scalar.select v169 v170 v164
  let c0_i32_132 : BitVec 32 := 0#32
  let c0_i32_133 : BitVec 32 := 0#32
  ![v171.toNat, 0, 0]
def k0_off6 (k0_t1 : Fin k0_t1_loop.trips) : Fin 2 → Nat :=
  let c1_i32_109 : BitVec 32 := 1#32
  let c1_i32_110 : BitVec 32 := 1#32
  let arg11 : BitVec 32 := Scf.iv c1_i32_109 c1_i32_110 k0_t1
  let c1024_i32_126 : BitVec 32 := 1024#32
  let v172 : BitVec 32 := Scalar.muli arg11 c1024_i32_126
  let c0_i32_134 : BitVec 32 := 0#32
  ![v172.toNat, 0]
def k0_cond2 (i : grid0.Coords) (k0_t1 : Fin k0_t1_loop.trips) : BitVec 1 :=
  let c1_i32_109 : BitVec 32 := 1#32
  let c1_i32_110 : BitVec 32 := 1#32
  let arg11 : BitVec 32 := Scf.iv c1_i32_109 c1_i32_110 k0_t1
  let c7_i32_135 : BitVec 32 := 7#32
  let v183 : BitVec 1 := Scalar.cmpi .eq arg11 c7_i32_135
  let arg0 : BitVec 32 := BitVec.ofNat 32 (i 0).val
  let c31_i32 : BitVec 32 := 31#32
  let v184 : BitVec 1 := Scalar.cmpi .eq arg0 c31_i32
  let v185 : BitVec 1 := Scalar.andi v183 v184
  let v_true : BitVec 1 := 1#1
  let v186 : BitVec 1 := Scalar.xori v185 v_true
  let v187 : BitVec 32 := Scalar.extui v186
  let c0_i32_136 : BitVec 32 := 0#32
  let v188 : BitVec 1 := Scalar.cmpi .ne v187 c0_i32_136
  v188

def k0_off7 (k0_t1 : Fin k0_t1_loop.trips) : Fin 2 → Nat :=
  let c0_i32_174 : BitVec 32 := 0#32
  let c1_i32_172 : BitVec 32 := 1#32
  let c1_i32_109 : BitVec 32 := 1#32
  let c1_i32_110 : BitVec 32 := 1#32
  let arg11 : BitVec 32 := Scf.iv c1_i32_109 c1_i32_110 k0_t1
  let c2_i32 : BitVec 32 := 2#32
  let c0_i32_121 : BitVec 32 := 0#32
  let v162 : BitVec 1 := Scalar.cmpi .eq c2_i32 c0_i32_121
  let c1_i32_122 : BitVec 32 := 1#32
  let v163 : BitVec 32 := Scalar.select v162 c1_i32_122 c2_i32
  let v164 : BitVec 32 := Scalar.remsi arg11 v163
  let c0_i32_124 : BitVec 32 := 0#32
  let v166 : BitVec 1 := Scalar.cmpi .slt v164 c0_i32_124
  let c0_i32_125 : BitVec 32 := 0#32
  let v167 : BitVec 1 := Scalar.cmpi .slt v163 c0_i32_125
  let v168 : BitVec 1 := Scalar.xori v166 v167
  let c0_i32_123 : BitVec 32 := 0#32
  let v165 : BitVec 1 := Scalar.cmpi .ne v164 c0_i32_123
  let v169 : BitVec 1 := Scalar.andi v168 v165
  let v170 : BitVec 32 := Scalar.addi v164 v163
  let v171 : BitVec 32 := Scalar.select v169 v170 v164
  let v225 : BitVec 32 := Scalar.subi c1_i32_172 v171
  ![0, v225.toNat]
def k0_off8 (k0_t1 : Fin k0_t1_loop.trips) : Fin 3 → Nat :=
  let c1_i32_172 : BitVec 32 := 1#32
  let c1_i32_109 : BitVec 32 := 1#32
  let c1_i32_110 : BitVec 32 := 1#32
  let arg11 : BitVec 32 := Scf.iv c1_i32_109 c1_i32_110 k0_t1
  let c2_i32 : BitVec 32 := 2#32
  let c0_i32_121 : BitVec 32 := 0#32
  let v162 : BitVec 1 := Scalar.cmpi .eq c2_i32 c0_i32_121
  let c1_i32_122 : BitVec 32 := 1#32
  let v163 : BitVec 32 := Scalar.select v162 c1_i32_122 c2_i32
  let v164 : BitVec 32 := Scalar.remsi arg11 v163
  let c0_i32_124 : BitVec 32 := 0#32
  let v166 : BitVec 1 := Scalar.cmpi .slt v164 c0_i32_124
  let c0_i32_125 : BitVec 32 := 0#32
  let v167 : BitVec 1 := Scalar.cmpi .slt v163 c0_i32_125
  let v168 : BitVec 1 := Scalar.xori v166 v167
  let c0_i32_123 : BitVec 32 := 0#32
  let v165 : BitVec 1 := Scalar.cmpi .ne v164 c0_i32_123
  let v169 : BitVec 1 := Scalar.andi v168 v165
  let v170 : BitVec 32 := Scalar.addi v164 v163
  let v171 : BitVec 32 := Scalar.select v169 v170 v164
  let v225 : BitVec 32 := Scalar.subi c1_i32_172 v171
  let c0_i32_175 : BitVec 32 := 0#32
  let c0_i32_176 : BitVec 32 := 0#32
  ![v225.toNat, 0, 0]
def k0_off9 (k0_t1 : Fin k0_t1_loop.trips) : Fin 2 → Nat :=
  let c0_i32_177 : BitVec 32 := 0#32
  let c1_i32_109 : BitVec 32 := 1#32
  let c1_i32_110 : BitVec 32 := 1#32
  let arg11 : BitVec 32 := Scf.iv c1_i32_109 c1_i32_110 k0_t1
  let c1_i32_171 : BitVec 32 := 1#32
  let v223 : BitVec 32 := Scalar.addi arg11 c1_i32_171
  let c8_i32 : BitVec 32 := 8#32
  let v224 : BitVec 32 := Scalar.remsi v223 c8_i32
  let c1024_i32_173 : BitVec 32 := 1024#32
  let v226 : BitVec 32 := Scalar.muli v224 c1024_i32_173
  ![0, v226.toNat]
def k0_off10 (k0_t1 : Fin k0_t1_loop.trips) : Fin 2 → Nat :=
  let c1_i32_178 : BitVec 32 := 1#32
  let c1_i32_172 : BitVec 32 := 1#32
  let c1_i32_109 : BitVec 32 := 1#32
  let c1_i32_110 : BitVec 32 := 1#32
  let arg11 : BitVec 32 := Scf.iv c1_i32_109 c1_i32_110 k0_t1
  let c2_i32 : BitVec 32 := 2#32
  let c0_i32_121 : BitVec 32 := 0#32
  let v162 : BitVec 1 := Scalar.cmpi .eq c2_i32 c0_i32_121
  let c1_i32_122 : BitVec 32 := 1#32
  let v163 : BitVec 32 := Scalar.select v162 c1_i32_122 c2_i32
  let v164 : BitVec 32 := Scalar.remsi arg11 v163
  let c0_i32_124 : BitVec 32 := 0#32
  let v166 : BitVec 1 := Scalar.cmpi .slt v164 c0_i32_124
  let c0_i32_125 : BitVec 32 := 0#32
  let v167 : BitVec 1 := Scalar.cmpi .slt v163 c0_i32_125
  let v168 : BitVec 1 := Scalar.xori v166 v167
  let c0_i32_123 : BitVec 32 := 0#32
  let v165 : BitVec 1 := Scalar.cmpi .ne v164 c0_i32_123
  let v169 : BitVec 1 := Scalar.andi v168 v165
  let v170 : BitVec 32 := Scalar.addi v164 v163
  let v171 : BitVec 32 := Scalar.select v169 v170 v164
  let v225 : BitVec 32 := Scalar.subi c1_i32_172 v171
  ![1, v225.toNat]
def k0_off11 (k0_t1 : Fin k0_t1_loop.trips) : Fin 3 → Nat :=
  let c1_i32_172 : BitVec 32 := 1#32
  let c1_i32_109 : BitVec 32 := 1#32
  let c1_i32_110 : BitVec 32 := 1#32
  let arg11 : BitVec 32 := Scf.iv c1_i32_109 c1_i32_110 k0_t1
  let c2_i32 : BitVec 32 := 2#32
  let c0_i32_121 : BitVec 32 := 0#32
  let v162 : BitVec 1 := Scalar.cmpi .eq c2_i32 c0_i32_121
  let c1_i32_122 : BitVec 32 := 1#32
  let v163 : BitVec 32 := Scalar.select v162 c1_i32_122 c2_i32
  let v164 : BitVec 32 := Scalar.remsi arg11 v163
  let c0_i32_124 : BitVec 32 := 0#32
  let v166 : BitVec 1 := Scalar.cmpi .slt v164 c0_i32_124
  let c0_i32_125 : BitVec 32 := 0#32
  let v167 : BitVec 1 := Scalar.cmpi .slt v163 c0_i32_125
  let v168 : BitVec 1 := Scalar.xori v166 v167
  let c0_i32_123 : BitVec 32 := 0#32
  let v165 : BitVec 1 := Scalar.cmpi .ne v164 c0_i32_123
  let v169 : BitVec 1 := Scalar.andi v168 v165
  let v170 : BitVec 32 := Scalar.addi v164 v163
  let v171 : BitVec 32 := Scalar.select v169 v170 v164
  let v225 : BitVec 32 := Scalar.subi c1_i32_172 v171
  let c0_i32_179 : BitVec 32 := 0#32
  let c0_i32_180 : BitVec 32 := 0#32
  ![v225.toNat, 0, 0]
def k0_off12 (k0_t1 : Fin k0_t1_loop.trips) : Fin 2 → Nat :=
  let c1_i32_109 : BitVec 32 := 1#32
  let c1_i32_110 : BitVec 32 := 1#32
  let arg11 : BitVec 32 := Scf.iv c1_i32_109 c1_i32_110 k0_t1
  let c1_i32_171 : BitVec 32 := 1#32
  let v223 : BitVec 32 := Scalar.addi arg11 c1_i32_171
  let c8_i32 : BitVec 32 := 8#32
  let v224 : BitVec 32 := Scalar.remsi v223 c8_i32
  let c1024_i32_173 : BitVec 32 := 1024#32
  let v226 : BitVec 32 := Scalar.muli v224 c1024_i32_173
  let c0_i32_181 : BitVec 32 := 0#32
  ![v226.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference2Ideal.lean ====
abbrev S32768x2048 : Shape := ⟨2, ![32768, 2048]⟩
abbrev S1x2048 : Shape := ⟨2, ![1, 2048]⟩
abbrev S2048x8192 : Shape := ⟨2, ![2048, 8192]⟩
abbrev S8192x2048 : Shape := ⟨2, ![8192, 2048]⟩
abbrev S_ : Shape := ⟨0, ![]⟩
abbrev S32768 : Shape := ⟨1, ![32768]⟩
abbrev S32768x1 : Shape := ⟨2, ![32768, 1]⟩
abbrev S32768x8192 : Shape := ⟨2, ![32768, 8192]⟩

abbrev nBuf : Space → Nat
  | .hbm => 44
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S2048x8192, .bf16⟩
  | .hbm, ⟨3, _⟩ => ⟨S8192x2048, .bf16⟩
  | .hbm, ⟨4, _⟩ => ⟨S1x2048, .f32⟩
  | .hbm, ⟨5, _⟩ => ⟨S2048x8192, .f32⟩
  | .hbm, ⟨6, _⟩ => ⟨S8192x2048, .f32⟩
  | .hbm, ⟨7, _⟩ => ⟨S32768x2048, .f32⟩
  | .hbm, ⟨8, _⟩ => ⟨S_, .f32⟩
  | .hbm, ⟨9, _⟩ => ⟨S32768, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S32768x1, .f32⟩
  | .hbm, ⟨18, _⟩ => ⟨S32768x2048, .f32⟩
  | .hbm, ⟨19, _⟩ => ⟨S32768x2048, .f32⟩
  | .hbm, ⟨20, _⟩ => ⟨S32768x2048, .f32⟩
  | .hbm, ⟨21, _⟩ => ⟨S32768x2048, .f32⟩
  | .hbm, ⟨22, _⟩ => ⟨S32768x8192, .f32⟩
  | .hbm, ⟨23, _⟩ => ⟨S_, .f32⟩
  | .hbm, ⟨24, _⟩ => ⟨S32768x8192, .f32⟩
  | .hbm, ⟨25, _⟩ => ⟨S32768x8192, .f32⟩
  | .hbm, ⟨26, _⟩ => ⟨S32768x8192, .f32⟩
  | .hbm, ⟨27, _⟩ => ⟨S32768x2048, .f32⟩
  | .hbm, ⟨28, _⟩ => ⟨S32768x2048, .f32⟩
  | .hbm, ⟨29, _⟩ => ⟨S32768x2048, .f32⟩
  | .hbm, ⟨30, _⟩ => ⟨S_, .f32⟩
  | .hbm, ⟨31, _⟩ => ⟨S32768, .f32⟩
  | .hbm, ⟨32, _⟩ => ⟨S32768x1, .f32⟩
  | .hbm, ⟨33, _⟩ => ⟨S_, .f32⟩
  | .hbm, ⟨34, _⟩ => ⟨S32768x1, .f32⟩
  | .hbm, ⟨35, _⟩ => ⟨S32768x1, .f32⟩
  | .hbm, ⟨36, _⟩ => ⟨S_, .f32⟩
  | .hbm, ⟨37, _⟩ => ⟨S32768x1, .f32⟩
  | .hbm, ⟨38, _⟩ => ⟨S32768x1, .f32⟩
  | .hbm, ⟨39, _⟩ => ⟨S32768x1, .f32⟩
  | .hbm, ⟨40, _⟩ => ⟨S32768x2048, .f32⟩
  | .hbm, ⟨41, _⟩ => ⟨S32768x2048, .f32⟩
  | .hbm, ⟨42, _⟩ => ⟨S32768x2048, .f32⟩
  | .hbm, ⟨43, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_cst : Ref sig .tc := ⟨.hbm, 23, rfl⟩
abbrev main_call0_v0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== Kernel3.lean ====
abbrev S32768x2048 : Shape := ⟨2, ![32768, 2048]⟩
abbrev S1x2048 : Shape := ⟨2, ![1, 2048]⟩
abbrev S2048x8192 : Shape := ⟨2, ![2048, 8192]⟩
abbrev S8192x2048 : Shape := ⟨2, ![8192, 2048]⟩
abbrev S1024x2048 : Shape := ⟨2, ![1024, 2048]⟩
abbrev S2x2048x1024 : Shape := ⟨3, ![2, 2048, 1024]⟩
abbrev S2x1024x2048 : Shape := ⟨3, ![2, 1024, 2048]⟩
abbrev S2x2 : Shape := ⟨2, ![2, 2]⟩
abbrev S1x1 : Shape := ⟨2, ![1, 1]⟩
abbrev S_ : Shape := ⟨0, ![]⟩
abbrev S1x2048x1024 : Shape := ⟨3, ![1, 2048, 1024]⟩
abbrev S2048x1024 : Shape := ⟨2, ![2048, 1024]⟩
abbrev S1x1024x2048 : Shape := ⟨3, ![1, 1024, 2048]⟩
abbrev S1024 : Shape := ⟨1, ![1024]⟩
abbrev S1024x1 : Shape := ⟨2, ![1024, 1]⟩
abbrev S1024x256 : Shape := ⟨2, ![1024, 256]⟩
abbrev S1x256 : Shape := ⟨2, ![1, 256]⟩
abbrev S2048x512 : Shape := ⟨2, ![2048, 512]⟩
abbrev S1024x512 : Shape := ⟨2, ![1024, 512]⟩
abbrev S512x2048 : Shape := ⟨2, ![512, 2048]⟩

abbrev nBuf : Space → Nat
  | .hbm => 6
  | .vmem => 9
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S2048x8192, .bf16⟩
  | .hbm, ⟨3, _⟩ => ⟨S8192x2048, .bf16⟩
  | .hbm, ⟨4, _⟩ => ⟨S1x2048, .f32⟩
  | .hbm, ⟨5, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048, .f32⟩
  | .local _ .vmem, ⟨4, _⟩ => ⟨S1024x2048, .f32⟩
  | .local _ .vmem, ⟨5, _⟩ => ⟨S1024x2048, .f32⟩
  | .local _ .vmem, ⟨6, _⟩ => ⟨S1024x2048, .bf16⟩
  | .local _ .vmem, ⟨7, _⟩ => ⟨S2x2048x1024, .bf16⟩
  | .local _ .vmem, ⟨8, _⟩ => ⟨S2x1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

@[reducible] def k0_t1_loop : Scf.Loop 32 :=
  let c1_i32_109 : BitVec 32 := 1#32
  let c7_i32 : BitVec 32 := 7#32
  let v145 : BitVec 32 := Scalar.addi c1_i32_109 c7_i32
  let c1_i32_110 : BitVec 32 := 1#32
  ⟨c1_i32_109, v145, c1_i32_110⟩
def k0_off1 (k0_t1 : Fin k0_t1_loop.trips) : Fin 2 → Nat :=
  let c0_i32_118 : BitVec 32 := 0#32
  let c1_i32_109 : BitVec 32 := 1#32
  let c1_i32_110 : BitVec 32 := 1#32
  let arg11 : BitVec 32 := Scf.iv c1_i32_109 c1_i32_110 k0_t1
  let c2_i32 : BitVec 32 := 2#32
  let c0_i32_112 : BitVec 32 := 0#32
  let v146 : BitVec 1 := Scalar.cmpi .eq c2_i32 c0_i32_112
  let c1_i32_113 : BitVec 32 := 1#32
  let v147 : BitVec 32 := Scalar.select v146 c1_i32_113 c2_i32
  let v148 : BitVec 32 := Scalar.remsi arg11 v147
  let c0_i32_115 : BitVec 32 := 0#32
  let v150 : BitVec 1 := Scalar.cmpi .slt v148 c0_i32_115
  let c0_i32_116 : BitVec 32 := 0#32
  let v151 : BitVec 1 := Scalar.cmpi .slt v147 c0_i32_116
  let v152 : BitVec 1 := Scalar.xori v150 v151
  let c0_i32_114 : BitVec 32 := 0#32
  let v149 : BitVec 1 := Scalar.cmpi .ne v148 c0_i32_114
  let v153 : BitVec 1 := Scalar.andi v152 v149
  let v154 : BitVec 32 := Scalar.addi v148 v147
  let v155 : BitVec 32 := Scalar.select v153 v154 v148
  ![0, v155.toNat]
def k0_off2 (k0_t1 : Fin k0_t1_loop.trips) : Fin 3 → Nat :=
  let c1_i32_109 : BitVec 32 := 1#32
  let c1_i32_110 : BitVec 32 := 1#32
  let arg11 : BitVec 32 := Scf.iv c1_i32_109 c1_i32_110 k0_t1
  let c2_i32 : BitVec 32 := 2#32
  let c0_i32_112 : BitVec 32 := 0#32
  let v146 : BitVec 1 := Scalar.cmpi .eq c2_i32 c0_i32_112
  let c1_i32_113 : BitVec 32 := 1#32
  let v147 : BitVec 32 := Scalar.select v146 c1_i32_113 c2_i32
  let v148 : BitVec 32 := Scalar.remsi arg11 v147
  let c0_i32_115 : BitVec 32 := 0#32
  let v150 : BitVec 1 := Scalar.cmpi .slt v148 c0_i32_115
  let c0_i32_116 : BitVec 32 := 0#32
  let v151 : BitVec 1 := Scalar.cmpi .slt v147 c0_i32_116
  let v152 : BitVec 1 := Scalar.xori v150 v151
  let c0_i32_114 : BitVec 32 := 0#32
  let v149 : BitVec 1 := Scalar.cmpi .ne v148 c0_i32_114
  let v153 : BitVec 1 := Scalar.andi v152 v149
  let v154 : BitVec 32 := Scalar.addi v148 v147
  let v155 : BitVec 32 := Scalar.select v153 v154 v148
  let c0_i32_119 : BitVec 32 := 0#32
  let c0_i32_120 : BitVec 32 := 0#32
  ![v155.toNat, 0, 0]
def k0_off3 (k0_t1 : Fin k0_t1_loop.trips) : Fin 2 → Nat :=
  let c0_i32_121 : BitVec 32 := 0#32
  let c1_i32_109 : BitVec 32 := 1#32
  let c1_i32_110 : BitVec 32 := 1#32
  let arg11 : BitVec 32 := Scf.iv c1_i32_109 c1_i32_110 k0_t1
  let c1024_i32_117 : BitVec 32 := 1024#32
  let v156 : BitVec 32 := Scalar.muli arg11 c1024_i32_117
  ![0, v156.toNat]
def k0_off4 (k0_t1 : Fin k0_t1_loop.trips) : Fin 2 → Nat :=
  let c1_i32_122 : BitVec 32 := 1#32
  let c1_i32_109 : BitVec 32 := 1#32
  let c1_i32_110 : BitVec 32 := 1#32
  let arg11 : BitVec 32 := Scf.iv c1_i32_109 c1_i32_110 k0_t1
  let c2_i32 : BitVec 32 := 2#32
  let c0_i32_112 : BitVec 32 := 0#32
  let v146 : BitVec 1 := Scalar.cmpi .eq c2_i32 c0_i32_112
  let c1_i32_113 : BitVec 32 := 1#32
  let v147 : BitVec 32 := Scalar.select v146 c1_i32_113 c2_i32
  let v148 : BitVec 32 := Scalar.remsi arg11 v147
  let c0_i32_115 : BitVec 32 := 0#32
  let v150 : BitVec 1 := Scalar.cmpi .slt v148 c0_i32_115
  let c0_i32_116 : BitVec 32 := 0#32
  let v151 : BitVec 1 := Scalar.cmpi .slt v147 c0_i32_116
  let v152 : BitVec 1 := Scalar.xori v150 v151
  let c0_i32_114 : BitVec 32 := 0#32
  let v149 : BitVec 1 := Scalar.cmpi .ne v148 c0_i32_114
  let v153 : BitVec 1 := Scalar.andi v152 v149
  let v154 : BitVec 32 := Scalar.addi v148 v147
  let v155 : BitVec 32 := Scalar.select v153 v154 v148
  ![1, v155.toNat]
def k0_off5 (k0_t1 : Fin k0_t1_loop.trips) : Fin 3 → Nat :=
  let c1_i32_109 : BitVec 32 := 1#32
  let c1_i32_110 : BitVec 32 := 1#32
  let arg11 : BitVec 32 := Scf.iv c1_i32_109 c1_i32_110 k0_t1
  let c2_i32 : BitVec 32 := 2#32
  let c0_i32_112 : BitVec 32 := 0#32
  let v146 : BitVec 1 := Scalar.cmpi .eq c2_i32 c0_i32_112
  let c1_i32_113 : BitVec 32 := 1#32
  let v147 : BitVec 32 := Scalar.select v146 c1_i32_113 c2_i32
  let v148 : BitVec 32 := Scalar.remsi arg11 v147
  let c0_i32_115 : BitVec 32 := 0#32
  let v150 : BitVec 1 := Scalar.cmpi .slt v148 c0_i32_115
  let c0_i32_116 : BitVec 32 := 0#32
  let v151 : BitVec 1 := Scalar.cmpi .slt v147 c0_i32_116
  let v152 : BitVec 1 := Scalar.xori v150 v151
  let c0_i32_114 : BitVec 32 := 0#32
  let v149 : BitVec 1 := Scalar.cmpi .ne v148 c0_i32_114
  let v153 : BitVec 1 := Scalar.andi v152 v149
  let v154 : BitVec 32 := Scalar.addi v148 v147
  let v155 : BitVec 32 := Scalar.select v153 v154 v148
  let c0_i32_123 : BitVec 32 := 0#32
  let c0_i32_124 : BitVec 32 := 0#32
  ![v155.toNat, 0, 0]
def k0_off6 (k0_t1 : Fin k0_t1_loop.trips) : Fin 2 → Nat :=
  let c1_i32_109 : BitVec 32 := 1#32
  let c1_i32_110 : BitVec 32 := 1#32
  let arg11 : BitVec 32 := Scf.iv c1_i32_109 c1_i32_110 k0_t1
  let c1024_i32_117 : BitVec 32 := 1024#32
  let v156 : BitVec 32 := Scalar.muli arg11 c1024_i32_117
  let c0_i32_125 : BitVec 32 := 0#32
  ![v156.toNat, 0]
def k0_cond2 (i : grid0.Coords) (k0_t1 : Fin k0_t1_loop.trips) : BitVec 1 :=
  let c1_i32_109 : BitVec 32 := 1#32
  let c1_i32_110 : BitVec 32 := 1#32
  let arg11 : BitVec 32 := Scf.iv c1_i32_109 c1_i32_110 k0_t1
  let c7_i32_126 : BitVec 32 := 7#32
  let v167 : BitVec 1 := Scalar.cmpi .eq arg11 c7_i32_126
  let arg0 : BitVec 32 := BitVec.ofNat 32 (i 0).val
  let c31_i32 : BitVec 32 := 31#32
  let v168 : BitVec 1 := Scalar.cmpi .eq arg0 c31_i32
  let v169 : BitVec 1 := Scalar.andi v167 v168
  let v_true : BitVec 1 := 1#1
  let v170 : BitVec 1 := Scalar.xori v169 v_true
  let v171 : BitVec 32 := Scalar.extui v170
  let c0_i32_127 : BitVec 32 := 0#32
  let v172 : BitVec 1 := Scalar.cmpi .ne v171 c0_i32_127
  v172

def k0_off7 (k0_t1 : Fin k0_t1_loop.trips) : Fin 2 → Nat :=
  let c0_i32_165 : BitVec 32 := 0#32
  let c1_i32_163 : BitVec 32 := 1#32
  let c1_i32_109 : BitVec 32 := 1#32
  let c1_i32_110 : BitVec 32 := 1#32
  let arg11 : BitVec 32 := Scf.iv c1_i32_109 c1_i32_110 k0_t1
  let c2_i32 : BitVec 32 := 2#32
  let c0_i32_112 : BitVec 32 := 0#32
  let v146 : BitVec 1 := Scalar.cmpi .eq c2_i32 c0_i32_112
  let c1_i32_113 : BitVec 32 := 1#32
  let v147 : BitVec 32 := Scalar.select v146 c1_i32_113 c2_i32
  let v148 : BitVec 32 := Scalar.remsi arg11 v147
  let c0_i32_115 : BitVec 32 := 0#32
  let v150 : BitVec 1 := Scalar.cmpi .slt v148 c0_i32_115
  let c0_i32_116 : BitVec 32 := 0#32
  let v151 : BitVec 1 := Scalar.cmpi .slt v147 c0_i32_116
  let v152 : BitVec 1 := Scalar.xori v150 v151
  let c0_i32_114 : BitVec 32 := 0#32
  let v149 : BitVec 1 := Scalar.cmpi .ne v148 c0_i32_114
  let v153 : BitVec 1 := Scalar.andi v152 v149
  let v154 : BitVec 32 := Scalar.addi v148 v147
  let v155 : BitVec 32 := Scalar.select v153 v154 v148
  let v209 : BitVec 32 := Scalar.subi c1_i32_163 v155
  ![0, v209.toNat]
def k0_off8 (k0_t1 : Fin k0_t1_loop.trips) : Fin 3 → Nat :=
  let c1_i32_163 : BitVec 32 := 1#32
  let c1_i32_109 : BitVec 32 := 1#32
  let c1_i32_110 : BitVec 32 := 1#32
  let arg11 : BitVec 32 := Scf.iv c1_i32_109 c1_i32_110 k0_t1
  let c2_i32 : BitVec 32 := 2#32
  let c0_i32_112 : BitVec 32 := 0#32
  let v146 : BitVec 1 := Scalar.cmpi .eq c2_i32 c0_i32_112
  let c1_i32_113 : BitVec 32 := 1#32
  let v147 : BitVec 32 := Scalar.select v146 c1_i32_113 c2_i32
  let v148 : BitVec 32 := Scalar.remsi arg11 v147
  let c0_i32_115 : BitVec 32 := 0#32
  let v150 : BitVec 1 := Scalar.cmpi .slt v148 c0_i32_115
  let c0_i32_116 : BitVec 32 := 0#32
  let v151 : BitVec 1 := Scalar.cmpi .slt v147 c0_i32_116
  let v152 : BitVec 1 := Scalar.xori v150 v151
  let c0_i32_114 : BitVec 32 := 0#32
  let v149 : BitVec 1 := Scalar.cmpi .ne v148 c0_i32_114
  let v153 : BitVec 1 := Scalar.andi v152 v149
  let v154 : BitVec 32 := Scalar.addi v148 v147
  let v155 : BitVec 32 := Scalar.select v153 v154 v148
  let v209 : BitVec 32 := Scalar.subi c1_i32_163 v155
  let c0_i32_166 : BitVec 32 := 0#32
  let c0_i32_167 : BitVec 32 := 0#32
  ![v209.toNat, 0, 0]
def k0_off9 (k0_t1 : Fin k0_t1_loop.trips) : Fin 2 → Nat :=
  let c0_i32_168 : BitVec 32 := 0#32
  let c1_i32_109 : BitVec 32 := 1#32
  let c1_i32_110 : BitVec 32 := 1#32
  let arg11 : BitVec 32 := Scf.iv c1_i32_109 c1_i32_110 k0_t1
  let c1_i32_162 : BitVec 32 := 1#32
  let v207 : BitVec 32 := Scalar.addi arg11 c1_i32_162
  let c8_i32 : BitVec 32 := 8#32
  let v208 : BitVec 32 := Scalar.remsi v207 c8_i32
  let c1024_i32_164 : BitVec 32 := 1024#32
  let v210 : BitVec 32 := Scalar.muli v208 c1024_i32_164
  ![0, v210.toNat]
def k0_off10 (k0_t1 : Fin k0_t1_loop.trips) : Fin 2 → Nat :=
  let c1_i32_169 : BitVec 32 := 1#32
  let c1_i32_163 : BitVec 32 := 1#32
  let c1_i32_109 : BitVec 32 := 1#32
  let c1_i32_110 : BitVec 32 := 1#32
  let arg11 : BitVec 32 := Scf.iv c1_i32_109 c1_i32_110 k0_t1
  let c2_i32 : BitVec 32 := 2#32
  let c0_i32_112 : BitVec 32 := 0#32
  let v146 : BitVec 1 := Scalar.cmpi .eq c2_i32 c0_i32_112
  let c1_i32_113 : BitVec 32 := 1#32
  let v147 : BitVec 32 := Scalar.select v146 c1_i32_113 c2_i32
  let v148 : BitVec 32 := Scalar.remsi arg11 v147
  let c0_i32_115 : BitVec 32 := 0#32
  let v150 : BitVec 1 := Scalar.cmpi .slt v148 c0_i32_115
  let c0_i32_116 : BitVec 32 := 0#32
  let v151 : BitVec 1 := Scalar.cmpi .slt v147 c0_i32_116
  let v152 : BitVec 1 := Scalar.xori v150 v151
  let c0_i32_114 : BitVec 32 := 0#32
  let v149 : BitVec 1 := Scalar.cmpi .ne v148 c0_i32_114
  let v153 : BitVec 1 := Scalar.andi v152 v149
  let v154 : BitVec 32 := Scalar.addi v148 v147
  let v155 : BitVec 32 := Scalar.select v153 v154 v148
  let v209 : BitVec 32 := Scalar.subi c1_i32_163 v155
  ![1, v209.toNat]
def k0_off11 (k0_t1 : Fin k0_t1_loop.trips) : Fin 3 → Nat :=
  let c1_i32_163 : BitVec 32 := 1#32
  let c1_i32_109 : BitVec 32 := 1#32
  let c1_i32_110 : BitVec 32 := 1#32
  let arg11 : BitVec 32 := Scf.iv c1_i32_109 c1_i32_110 k0_t1
  let c2_i32 : BitVec 32 := 2#32
  let c0_i32_112 : BitVec 32 := 0#32
  let v146 : BitVec 1 := Scalar.cmpi .eq c2_i32 c0_i32_112
  let c1_i32_113 : BitVec 32 := 1#32
  let v147 : BitVec 32 := Scalar.select v146 c1_i32_113 c2_i32
  let v148 : BitVec 32 := Scalar.remsi arg11 v147
  let c0_i32_115 : BitVec 32 := 0#32
  let v150 : BitVec 1 := Scalar.cmpi .slt v148 c0_i32_115
  let c0_i32_116 : BitVec 32 := 0#32
  let v151 : BitVec 1 := Scalar.cmpi .slt v147 c0_i32_116
  let v152 : BitVec 1 := Scalar.xori v150 v151
  let c0_i32_114 : BitVec 32 := 0#32
  let v149 : BitVec 1 := Scalar.cmpi .ne v148 c0_i32_114
  let v153 : BitVec 1 := Scalar.andi v152 v149
  let v154 : BitVec 32 := Scalar.addi v148 v147
  let v155 : BitVec 32 := Scalar.select v153 v154 v148
  let v209 : BitVec 32 := Scalar.subi c1_i32_163 v155
  let c0_i32_170 : BitVec 32 := 0#32
  let c0_i32_171 : BitVec 32 := 0#32
  ![v209.toNat, 0, 0]
def k0_off12 (k0_t1 : Fin k0_t1_loop.trips) : Fin 2 → Nat :=
  let c1_i32_109 : BitVec 32 := 1#32
  let c1_i32_110 : BitVec 32 := 1#32
  let arg11 : BitVec 32 := Scf.iv c1_i32_109 c1_i32_110 k0_t1
  let c1_i32_162 : BitVec 32 := 1#32
  let v207 : BitVec 32 := Scalar.addi arg11 c1_i32_162
  let c8_i32 : BitVec 32 := 8#32
  let v208 : BitVec 32 := Scalar.remsi v207 c8_i32
  let c1024_i32_164 : BitVec 32 := 1024#32
  let v210 : BitVec 32 := Scalar.muli v208 c1024_i32_164
  let c0_i32_172 : BitVec 32 := 0#32
  ![v210.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S32768x2048 : Shape := ⟨2, ![32768, 2048]⟩
abbrev S1x2048 : Shape := ⟨2, ![1, 2048]⟩
abbrev S2048x8192 : Shape := ⟨2, ![2048, 8192]⟩
abbrev S8192x2048 : Shape := ⟨2, ![8192, 2048]⟩
abbrev S_ : Shape := ⟨0, ![]⟩
abbrev S32768 : Shape := ⟨1, ![32768]⟩
abbrev S32768x1 : Shape := ⟨2, ![32768, 1]⟩
abbrev S32768x8192 : Shape := ⟨2, ![32768, 8192]⟩

abbrev nBuf : Space → Nat
  | .hbm => 29
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S2048x8192, .bf16⟩
  | .hbm, ⟨3, _⟩ => ⟨S8192x2048, .bf16⟩
  | .hbm, ⟨4, _⟩ => ⟨S1x2048, .f32⟩
  | .hbm, ⟨5, _⟩ => ⟨S2048x8192, .f32⟩
  | .hbm, ⟨6, _⟩ => ⟨S8192x2048, .f32⟩
  | .hbm, ⟨7, _⟩ => ⟨S32768x2048, .f32⟩
  | .hbm, ⟨8, _⟩ => ⟨S_, .f32⟩
  | .hbm, ⟨9, _⟩ => ⟨S32768, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S32768x1, .f32⟩
  | .hbm, ⟨18, _⟩ => ⟨S32768x2048, .f32⟩
  | .hbm, ⟨19, _⟩ => ⟨S32768x2048, .f32⟩
  | .hbm, ⟨20, _⟩ => ⟨S32768x2048, .f32⟩
  | .hbm, ⟨21, _⟩ => ⟨S32768x2048, .f32⟩
  | .hbm, ⟨22, _⟩ => ⟨S32768x8192, .f32⟩
  | .hbm, ⟨23, _⟩ => ⟨S_, .f32⟩
  | .hbm, ⟨24, _⟩ => ⟨S32768x8192, .f32⟩
  | .hbm, ⟨25, _⟩ => ⟨S32768x8192, .f32⟩
  | .hbm, ⟨26, _⟩ => ⟨S32768x8192, .f32⟩
  | .hbm, ⟨27, _⟩ => ⟨S32768x2048, .f32⟩
  | .hbm, ⟨28, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_cst : Ref sig .tc := ⟨.hbm, 23, rfl⟩
abbrev main_call0_v0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== Proof.MlpBody.lean ====
/-
  The feed-forward call, one point of its grid. Eight blocks of the two weight matrices stream through a pair of
  buffers; at any moment at most one block (one column block of `w_up`, the matching row block of `w_down`) is on its
  way into one slot of the pair, the other slot being read. The state between two steps is therefore told by the number
  of the block on its way (`pend`), or by nothing being on its way (`idle`).
-/
module

public import proofs.«01_k».proof.Defs
public import proofs.«01_k».proof.Proof.Gen.Kernel2Ideal.Launch
public import proofs.«01_k».proof.Proof.Gen.Kernel2Ideal.Skeleton
public import proofs.«01_k».proof.Proof.Gen.Kernel2Ideal.Loops
public import proofs.«01_k».proof.Proof.Gen.Kernel2Ideal.Points
public import Idealize.ShloMosaic.Lib.Pipeline.KitQuiescent
public import Idealize.ShloMosaic.Lib.Ring
public import Idealize.ShloMosaic.Lib.VecWindow
public import Idealize.ShloMosaic.Lib.Affine
public import Idealize.ShloMosaic.Lib.Tactic

@[expose] public section

noncomputable section

namespace Cert.Proof.MlpBody

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The ghost state: the staging pipeline's, and counters for the kernel's own copies. -/
abbrev Gh (nD : Nat) (τ : Topo) : Type := UR sig nD τ × Counters
local notation "𝕄" => MT nD τ sig Unit (Elt F) ℕ (Gh nD τ) ℕ
abbrev noVar : Variants := Variants.none

omit [FloatOps F] in
theorem ent_of_eq {P Q : sProp 𝕄} (e : P = Q) : P ⊢ Q := by subst e; exact .rfl

/-! ## Names of the blocks, the slots and the semaphores -/

/-- Block number `n`, counted round the eight. -/
def b8 (n : ℕ) : Fin 8 := ⟨n % 8, Nat.mod_lt _ (by decide)⟩
/-- Slot number `n`, counted round the two. -/
def s2 (n : ℕ) : Fin 2 := ⟨n % 2, Nat.mod_lt _ (by decide)⟩

abbrev wuM : Memref sig .tc .hbm S2048x8192 .bf16 := Memref.whole main_arg2
abbrev wdM : Memref sig .tc .hbm S8192x2048 .bf16 := Memref.whole main_arg3
abbrev hM : Memref sig .tc .vmem S1024x2048 .bf16 := Memref.whole cc0_scratch0
abbrev ubM : Memref sig .tc .vmem S2x2048x1024 .bf16 := Memref.whole cc0_scratch1
abbrev dbM : Memref sig .tc .vmem S2x1024x2048 .bf16 := Memref.whole cc0_scratch2

abbrev ublkOff (b : Fin 8) : Fin 2 → Nat := ![0, 1024 * b.val]
abbrev dblkOff (b : Fin 8) : Fin 2 → Nat := ![1024 * b.val, 0]
abbrev slOff (s : Fin 2) : Fin 3 → Nat := ![s.val, 0, 0]
abbrev semOff (a s : Fin 2) : Fin 2 → Nat := ![a.val, s.val]
theorem ublk_inb : ∀ (b : Fin 8) a, ublkOff b a + S2048x1024.size a ≤ S2048x8192.size a := by decide +kernel
theorem dblk_inb : ∀ (b : Fin 8) a, dblkOff b a + S1024x2048.size a ≤ S8192x2048.size a := by decide +kernel
theorem usl_inb : ∀ (s : Fin 2) a, slOff s a + S1x2048x1024.size a ≤ S2x2048x1024.size a := by decide +kernel
theorem dsl_inb : ∀ (s : Fin 2) a, slOff s a + S1x1024x2048.size a ≤ S2x1024x2048.size a := by decide +kernel
theorem sem_inb : ∀ (a s : Fin 2) i, semOff a s i + S1x1.size i ≤ S2x2.size i := by decide +kernel

/-- Column block `b` of `w_up`. -/
def ublk (b : Fin 8) : Memref sig .tc .hbm S2048x1024 .bf16 :=
  wuM.slice (Rect.unit (s := S2048x8192) (ublkOff b) S2048x1024.size (ublk_inb b)) (fun _ => rfl)
/-- Row block `b` of `w_down`. -/
def dblk (b : Fin 8) : Memref sig .tc .hbm S1024x2048 .bf16 :=
  wdM.slice (Rect.unit (s := S8192x2048) (dblkOff b) S1024x2048.size (dblk_inb b)) (fun _ => rfl)
/-- Slot `s` of the buffer of `w_up`'s blocks. -/
def usl (s : Fin 2) : Memref sig .tc .vmem S2048x1024 .bf16 :=
  (ubM.slice (Rect.unit (s := S2x2048x1024) (slOff s) S1x2048x1024.size (usl_inb s)) (fun _ => rfl)).squeeze S2048x1024 squeezes_S1x2048x1024_S2048x1024
/-- Slot `s` of the buffer of `w_down`'s blocks. -/
def dsl (s : Fin 2) : Memref sig .tc .vmem S1024x2048 .bf16 :=
  (dbM.slice (Rect.unit (s := S2x1024x2048) (slOff s) S1x1024x2048.size (dsl_inb s)) (fun _ => rfl)).squeeze S1024x2048 squeezes_S1x1024x2048_S1024x2048
/-- The semaphore of slot `s` of the buffer `a` (0 for `w_up`, 1 for `w_down`). -/
def csm (a s : Fin 2) : DmaSems sig S_ :=
  (cc0_scratch3.slice (Rect.unit (s := S2x2) (semOff a s) S1x1.size (sem_inb a s))).squeeze S_ squeezes_S1x1_S_

instance (b : Fin 8) : ClosedOff (ublkOff b) := ⟨ublkOff b, rfl⟩
instance (b : Fin 8) : ClosedOff (dblkOff b) := ⟨dblkOff b, rfl⟩
instance (s : Fin 2) : ClosedOff (slOff s) := ⟨slOff s, rfl⟩

abbrev Trip := Fin k0_t1_loop.trips

theorem off1_eq : ∀ k : Trip, k0_off1 k = semOff 0 (s2 (k.val + 1)) := by decide +kernel
theorem off2_eq : ∀ k : Trip, k0_off2 k = slOff (s2 (k.val + 1)) := by decide +kernel
theorem off3_eq : ∀ k : Trip, k0_off3 k = ublkOff (b8 (k.val + 1)) := by decide +kernel
theorem off4_eq : ∀ k : Trip, k0_off4 k = semOff 1 (s2 (k.val + 1)) := by decide +kernel
theorem off5_eq : ∀ k : Trip, k0_off5 k = slOff (s2 (k.val + 1)) := by decide +kernel
theorem off6_eq : ∀ k : Trip, k0_off6 k = dblkOff (b8 (k.val + 1)) := by decide +kernel
theorem off7_eq : ∀ k : Trip, k0_off7 k = semOff 0 (s2 (k.val + 2)) := by decide +kernel
theorem off8_eq : ∀ k : Trip, k0_off8 k = slOff (s2 (k.val + 2)) := by decide +kernel
theorem off9_eq : ∀ k : Trip, k0_off9 k = ublkOff (b8 (k.val + 2)) := by decide +kernel
theorem off10_eq : ∀ k : Trip, k0_off10 k = semOff 1 (s2 (k.val + 2)) := by decide +kernel
theorem off11_eq : ∀ k : Trip, k0_off11 k = slOff (s2 (k.val + 2)) := by decide +kernel
theorem off12_eq : ∀ k : Trip, k0_off12 k = dblkOff (b8 (k.val + 2)) := by decide +kernel

instance (k : Trip) : ClosedOff (k0_off2 k) := ⟨slOff (s2 (k.val + 1)), off2_eq k⟩
instance (k : Trip) : ClosedOff (k0_off5 k) := ⟨slOff (s2 (k.val + 1)), off5_eq k⟩

/-! ### The body's slices under these names -/

section Canon

private theorem csm_of {off : Fin 2 → Nat} {a s : Fin 2} (e : off = semOff a s) (hh) :
    (cc0_scratch3.slice (Rect.unit (s := S2x2) off S1x1.size hh)).squeeze S_ squeezes_S1x1_S_ = csm a s :=
  congrArg (fun A : DmaSems sig S1x1 => A.squeeze S_ squeezes_S1x1_S_) (SemArray.slice_unit_congr _ e _ _)
private theorem usl_of {off : Fin 3 → Nat} {s : Fin 2} (e : off = slOff s) (hh hs) :
    (ubM.slice (Rect.unit (s := S2x2048x1024) off S1x2048x1024.size hh) hs).squeeze S2048x1024 squeezes_S1x2048x1024_S2048x1024 = usl s :=
  congrArg (fun M : Memref sig .tc .vmem S1x2048x1024 .bf16 => M.squeeze S2048x1024 squeezes_S1x2048x1024_S2048x1024) (Memref.slice_unit_congr _ e _ _ _ _)
private theorem dsl_of {off : Fin 3 → Nat} {s : Fin 2} (e : off = slOff s) (hh hs) :
    (dbM.slice (Rect.unit (s := S2x1024x2048) off S1x1024x2048.size hh) hs).squeeze S1024x2048 squeezes_S1x1024x2048_S1024x2048 = dsl s :=
  congrArg (fun M : Memref sig .tc .vmem S1x1024x2048 .bf16 => M.squeeze S1024x2048 squeezes_S1x1024x2048_S1024x2048) (Memref.slice_unit_congr _ e _ _ _ _)
private theorem ublk_of {off : Fin 2 → Nat} {b : Fin 8} (e : off = ublkOff b) (hh hs) :
    wuM.slice (Rect.unit (s := S2048x8192) off S2048x1024.size hh) hs = ublk b := Memref.slice_unit_congr _ e _ (ublk_inb b) _ (fun _ => rfl)
private theorem dblk_of {off : Fin 2 → Nat} {b : Fin 8} (e : off = dblkOff b) (hh hs) :
    wdM.slice (Rect.unit (s := S8192x2048) off S1024x2048.size hh) hs = dblk b := Memref.slice_unit_congr _ e _ (dblk_inb b) _ (fun _ => rfl)

@[sl_canon] theorem sem00 (hh) : (cc0_scratch3.slice (Rect.unit (s := S2x2) ![0, 0] S1x1.size hh)).squeeze S_ squeezes_S1x1_S_ = csm 0 0 := csm_of (by decide) _
@[sl_canon] theorem sem01 (hh) : (cc0_scratch3.slice (Rect.unit (s := S2x2) ![0, 1] S1x1.size hh)).squeeze S_ squeezes_S1x1_S_ = csm 0 1 := csm_of (by decide) _
@[sl_canon] theorem sem10 (hh) : (cc0_scratch3.slice (Rect.unit (s := S2x2) ![1, 0] S1x1.size hh)).squeeze S_ squeezes_S1x1_S_ = csm 1 0 := csm_of (by decide) _
@[sl_canon] theorem sem11 (hh) : (cc0_scratch3.slice (Rect.unit (s := S2x2) ![1, 1] S1x1.size hh)).squeeze S_ squeezes_S1x1_S_ = csm 1 1 := csm_of (by decide) _
@[sl_canon] theorem usl0 (hh hs) : (ubM.slice (Rect.unit (s := S2x2048x1024) ![0, 0, 0] S1x2048x1024.size hh) hs).squeeze S2048x1024 squeezes_S1x2048x1024_S2048x1024 = usl 0 := usl_of (by decide) _ _
@[sl_canon] theorem usl1 (hh hs) : (ubM.slice (Rect.unit (s := S2x2048x1024) ![1, 0, 0] S1x2048x1024.size hh) hs).squeeze S2048x1024 squeezes_S1x2048x1024_S2048x1024 = usl 1 := usl_of (by decide) _ _
@[sl_canon] theorem dsl0 (hh hs) : (dbM.slice (Rect.unit (s := S2x1024x2048) ![0, 0, 0] S1x1024x2048.size hh) hs).squeeze S1024x2048 squeezes_S1x1024x2048_S1024x2048 = dsl 0 := dsl_of (by decide) _ _
@[sl_canon] theorem dsl1 (hh hs) : (dbM.slice (Rect.unit (s := S2x1024x2048) ![1, 0, 0] S1x1024x2048.size hh) hs).squeeze S1024x2048 squeezes_S1x1024x2048_S1024x2048 = dsl 1 := dsl_of (by decide) _ _
@[sl_canon] theorem ublk0 (hh hs) : wuM.slice (Rect.unit (s := S2048x8192) ![0, 0] S2048x1024.size hh) hs = ublk 0 := ublk_of (by decide) _ _
@[sl_canon] theorem ublk1 (hh hs) : wuM.slice (Rect.unit (s := S2048x8192) ![0, 1024] S2048x1024.size hh) hs = ublk 1 := ublk_of (by decide) _ _
@[sl_canon] theorem dblk0 (hh hs) : wdM.slice (Rect.unit (s := S8192x2048) ![0, 0] S1024x2048.size hh) hs = dblk 0 := dblk_of (by decide) _ _
@[sl_canon] theorem dblk1 (hh hs) : wdM.slice (Rect.unit (s := S8192x2048) ![1024, 0] S1024x2048.size hh) hs = dblk 1 := dblk_of (by decide) _ _

@[sl_canon] theorem semUk (k : Trip) (hh) : (cc0_scratch3.slice (Rect.unit (s := S2x2) (k0_off1 k) S1x1.size hh)).squeeze S_ squeezes_S1x1_S_ = csm 0 (s2 (k.val + 1)) := csm_of (off1_eq k) _
@[sl_canon] theorem semDk (k : Trip) (hh) : (cc0_scratch3.slice (Rect.unit (s := S2x2) (k0_off4 k) S1x1.size hh)).squeeze S_ squeezes_S1x1_S_ = csm 1 (s2 (k.val + 1)) := csm_of (off4_eq k) _
@[sl_canon] theorem semUn (k : Trip) (hh) : (cc0_scratch3.slice (Rect.unit (s := S2x2) (k0_off7 k) S1x1.size hh)).squeeze S_ squeezes_S1x1_S_ = csm 0 (s2 (k.val + 2)) := csm_of (off7_eq k) _
@[sl_canon] theorem semDn (k : Trip) (hh) : (cc0_scratch3.slice (Rect.unit (s := S2x2) (k0_off10 k) S1x1.size hh)).squeeze S_ squeezes_S1x1_S_ = csm 1 (s2 (k.val + 2)) := csm_of (off10_eq k) _
@[sl_canon] theorem uslk (k : Trip) (hh hs) : (ubM.slice (Rect.unit (s := S2x2048x1024) (k0_off2 k) S1x2048x1024.size hh) hs).squeeze S2048x1024 squeezes_S1x2048x1024_S2048x1024 = usl (s2 (k.val + 1)) := usl_of (off2_eq k) _ _
@[sl_canon] theorem usln (k : Trip) (hh hs) : (ubM.slice (Rect.unit (s := S2x2048x1024) (k0_off8 k) S1x2048x1024.size hh) hs).squeeze S2048x1024 squeezes_S1x2048x1024_S2048x1024 = usl (s2 (k.val + 2)) := usl_of (off8_eq k) _ _
@[sl_canon] theorem dslk (k : Trip) (hh hs) : (dbM.slice (Rect.unit (s := S2x1024x2048) (k0_off5 k) S1x1024x2048.size hh) hs).squeeze S1024x2048 squeezes_S1x1024x2048_S1024x2048 = dsl (s2 (k.val + 1)) := dsl_of (off5_eq k) _ _
@[sl_canon] theorem dsln (k : Trip) (hh hs) : (dbM.slice (Rect.unit (s := S2x1024x2048) (k0_off11 k) S1x1024x2048.size hh) hs).squeeze S1024x2048 squeezes_S1x1024x2048_S1024x2048 = dsl (s2 (k.val + 2)) := dsl_of (off11_eq k) _ _
@[sl_canon] theorem ublkk (k : Trip) (hh hs) : wuM.slice (Rect.unit (s := S2048x8192) (k0_off3 k) S2048x1024.size hh) hs = ublk (b8 (k.val + 1)) := ublk_of (off3_eq k) _ _
@[sl_canon] theorem ublkn (k : Trip) (hh hs) : wuM.slice (Rect.unit (s := S2048x8192) (k0_off9 k) S2048x1024.size hh) hs = ublk (b8 (k.val + 2)) := ublk_of (off9_eq k) _ _
@[sl_canon] theorem dblkk (k : Trip) (hh hs) : wdM.slice (Rect.unit (s := S8192x2048) (k0_off6 k) S1024x2048.size hh) hs = dblk (b8 (k.val + 1)) := dblk_of (off6_eq k) _ _
@[sl_canon] theorem dblkn (k : Trip) (hh hs) : wdM.slice (Rect.unit (s := S8192x2048) (k0_off12 k) S1024x2048.size hh) hs = dblk (b8 (k.val + 2)) := dblk_of (off12_eq k) _ _

end Canon

/-! ## What is held -/

section Held
variable (c : Dev nD) (XU : Buf (Elt F) (wuM.view.loc (c : Thread nD τ))) (XD : Buf (Elt F) (wdM.view.loc (c : Thread nD τ)))

abbrev cellP (a s : Fin 2) : sProp 𝕄 := semVal ((c : Thread nD τ), SemLoc.dma (csm a s).sem) 0
abbrev slotU (s : Fin 2) (f : Buf (Elt F) ((usl s).view.loc (c : Thread nD τ))) : sProp 𝕄 :=
  (usl s).view.loc (c : Thread nD τ) ↦[(usl s).view.set]{fullShare} f
abbrev slotD (s : Fin 2) (f : Buf (Elt F) ((dsl s).view.loc (c : Thread nD τ))) : sProp 𝕄 :=
  (dsl s).view.loc (c : Thread nD τ) ↦[(dsl s).view.set]{fullShare} f
abbrev homeU (b : Fin 8) : sProp 𝕄 := (ublk b).view.loc (c : Thread nD τ) ↦[(ublk b).view.set]{fullShare} XU
abbrev homeD (b : Fin 8) : sProp 𝕄 := (dblk b).view.loc (c : Thread nD τ) ↦[(dblk b).view.set]{fullShare} XD
/-- Block `b` of `w_up` as values, and of `w_down`. -/
abbrev payU (b : Fin 8) : S2048x1024.Idx → Elt F .bf16 := ReadAs.same.apply ((ublk b).view.read (Elt F) XU)
abbrev payD (b : Fin 8) : S1024x2048.Idx → Elt F .bf16 := ReadAs.same.apply ((dblk b).view.read (Elt F) XD)
abbrev landU (s : Fin 2) (b : Fin 8) (f : Buf (Elt F) ((usl s).view.loc (c : Thread nD τ))) : Buf (Elt F) ((usl s).view.loc (c : Thread nD τ)) :=
  (usl s).view.writes (Elt F) f [⟨Rect.whole S2048x1024, payU c XU b⟩]
abbrev landD (s : Fin 2) (b : Fin 8) (f : Buf (Elt F) ((dsl s).view.loc (c : Thread nD τ))) : Buf (Elt F) ((dsl s).view.loc (c : Thread nD τ)) :=
  (dsl s).view.writes (Elt F) f [⟨Rect.whole S1024x2048, payD c XD b⟩]
/-- Block `b` on its way into slot `s`. -/
abbrev flyU (s : Fin 2) (b : Fin 8) (f : Buf (Elt F) ((usl s).view.loc (c : Thread nD τ))) : sProp 𝕄 :=
  Transfers.Flight countersEmb (c : Thread nD τ) (SemLoc.dma (csm 0 s).sem) () 131072 iprop(slotU c s (landU c XU s b f) ∗ homeU c XU b)
abbrev flyD (s : Fin 2) (b : Fin 8) (f : Buf (Elt F) ((dsl s).view.loc (c : Thread nD τ))) : sProp 𝕄 :=
  Transfers.Flight countersEmb (c : Thread nD τ) (SemLoc.dma (csm 1 s).sem) () 131072 iprop(slotD c s (landD c XD s b f) ∗ homeD c XD b)

/-- Slot `s` free: both buffers of it at anything, both semaphores at zero. -/
def freeS (s : Fin 2) : sProp 𝕄 :=
  iprop((∃ f, slotU c s f) ∗ (∃ f, slotD c s f) ∗ cellP c 0 s ∗ cellP c 1 s)
/-- Block number `n` on its way, the rest of both matrices home, the other slot free. -/
def pend (n : ℕ) : sProp 𝕄 :=
  iprop(bigSep (Finset.univ.erase (b8 n)) (homeU c XU) ∗ bigSep (Finset.univ.erase (b8 n)) (homeD c XD)
    ∗ (∃ f, flyU c XU (s2 n) (b8 n) f) ∗ (∃ f, flyD c XD (s2 n) (b8 n) f) ∗ freeS c (s2 (n + 1)))
/-- Nothing on its way: both matrices home, both slots free. -/
def idle : sProp 𝕄 :=
  iprop(bigSep Finset.univ (homeU c XU) ∗ bigSep Finset.univ (homeD c XD) ∗ freeS c 0 ∗ freeS c 1)

omit [FloatOps F] in
theorem take (P : Fin 8 → sProp 𝕄) (a b : Fin 8) (h : b ≠ a) :
    bigSep (Finset.univ.erase a) P = iprop(P b ∗ bigSep ((Finset.univ.erase a).erase b) P) := by
  conv_lhs => rw [← Finset.insert_erase (show b ∈ Finset.univ.erase a from Finset.mem_erase.2 ⟨h, Finset.mem_univ _⟩)]
  rw [bigSep_insert (Finset.notMem_erase _ _)]
  rfl
omit [FloatOps F] in
theorem takeU (P : Fin 8 → sProp 𝕄) (a : Fin 8) :
    bigSep Finset.univ P = iprop(P a ∗ bigSep (Finset.univ.erase a) P) := by
  conv_lhs => rw [← Finset.insert_erase (Finset.mem_univ a)]
  rw [bigSep_insert (Finset.notMem_erase _ _)]
  rfl
theorem b8_ne (n : ℕ) : b8 (n + 1) ≠ b8 n := by
  intro h; have := congrArg Fin.val h; simp only [b8] at this; omega
theorem s2_two (n : ℕ) : s2 (n + 2) = s2 n := Fin.ext (by simp [s2])

end Held

/-! ## One trip -/

section TripRun
variable (c : Dev nD) (XU : Buf (Elt F) (wuM.view.loc (c : Thread nD τ))) (XD : Buf (Elt F) (wdM.view.loc (c : Thread nD τ)))
  (i : grid0.Coords)
  (arg1 : Memref sig .tc .vmem S1024x2048 .f32) (harg1 : arg1.IsWhole)
  (arg2 : Memref sig .tc .vmem S1x2048 .f32) (harg2 : arg2.IsWhole)
  (arg5 : Memref sig .tc .vmem S1x2048 .f32) (harg5 : arg5.IsWhole)
  (arg6 : Memref sig .tc .vmem S1024x2048 .f32) (harg6 : arg6.IsWhole)
  (arg0 : BitVec 32) (v124 : FVec F S1024x2048 .f32) (v125 : Vec F S1024x2048 .f32)

abbrev oP (fo : Buf (Elt F) (arg6.view.loc (c : Thread nD τ))) : sProp 𝕄 := arg6.view.loc (c : Thread nD τ) ↦[arg6.view.set]{fullShare} fo
abbrev hP (fh : Buf (Elt F) (hM.view.loc (c : Thread nD τ))) : sProp 𝕄 := hM.view.loc (c : Thread nD τ) ↦[hM.view.set]{fullShare} fh

abbrev RW : Rect S1024x2048 := Rect.unit (s := S1024x2048) ![0, 0] S1024x2048.size inb_S1024x2048_S1024x2048_0_0

abbrev tripG (k : Trip) : Prog (TpuEff nD τ sig (Elt F) Λ₀ .tc) Unit :=
  k0_t1_body (F := F) i arg1 harg1 arg2 harg2 wuM (Memref.isWhole_whole _) wdM (Memref.isWhole_whole _) arg5 harg5 arg6 harg6
    hM (Memref.isWhole_whole _) ubM (Memref.isWhole_whole _) dbM (Memref.isWhole_whole _) cc0_scratch3 arg0 v124 v125 k ()

abbrev RUlo : Rect S2048x1024 := Rect.unit (s := S2048x1024) ![0, 0] S2048x512.size inb_S2048x1024_S2048x512_0_0
abbrev RUhi : Rect S2048x1024 := Rect.unit (s := S2048x1024) ![0, 512] S2048x512.size inb_S2048x1024_S2048x512_0_512
abbrev RDlo : Rect S1024x2048 := Rect.unit (s := S1024x2048) ![0, 0] S512x2048.size inb_S1024x2048_S512x2048_0_0
abbrev RDhi : Rect S1024x2048 := Rect.unit (s := S1024x2048) ![512, 0] S512x2048.size inb_S1024x2048_S512x2048_512_0

/-- What a trip makes of the result block `o`, from the normalized rows `h` and its blocks `wu`, `wd` of the weights. -/
def nextO (h : Vec F S1024x2048 .bf16) (wu : S2048x1024.Idx → Elt F .bf16) (wd : S1024x2048.Idx → Elt F .bf16) (o : Vec F S1024x2048 .f32) : Vec F S1024x2048 .f32 :=
  k0_pay3 h (fun j => wu (RUhi.toLoadRect.idx j)) (fun j => wd (RDhi.toLoadRect.idx j)) (k0_pay2 h (fun j => wu (RUlo.toLoadRect.idx j)) (fun j => wd (RDlo.toLoadRect.idx j)) o)

/-- A load inside a buffer last written whole reads the values written. -/
theorem readCov_inside {sp : Space} {s : Shape} {e : EltTy} (v : View sig .tc sp s e) (w : s.Idx → Elt F e) (B : LoadRect s) :
    v.readCov [⟨Rect.whole s, w⟩] B = fun j => w (B.idx j) := by
  funext j
  have h : v.read (Elt F) (v.writes (Elt F) v.junk [⟨Rect.whole s, w⟩]) = w :=
    View.read_writes_full v v.junk (off := fun _ => 0) (fun a => by simp) w []
  exact congrFun h (B.idx j)

omit [FloatOps F] in
/-- A buffer held at contents that read as `v` is held at `v`. -/
theorem hold_of_read [∀ e, Nonempty (Elt F e)] {sp : Space} {s : Shape} {e : EltTy} (M : Memref sig .tc sp s e) (v : s.Idx → Elt F e) :
    iprop(∃ f, ⌜M.view.read (Elt F) f = v⌝ ∗ (M.view.loc (c : Thread nD τ) ↦[M.view.set]{fullShare} f))
      ⊢ (M.view.loc (c : Thread nD τ) ↦[M.view.set]{fullShare} M.view.rep v : sProp 𝕄) := by
  iintro ⟨%f, %h, H⟩
  subst h
  iapply (pointsTo_rep_entails (c : Thread nD τ) M f fullShare)
  iexact H

set_option maxHeartbeats 4000000 in
/-- A trip that sends for the next block. -/
theorem tripGo (k : Trip) (k0_h2 : k0_cond2 i k = 1#1) (hv : S1024x2048.Idx → Elt F .bf16) (ov : S1024x2048.Idx → Elt F .f32) :
      iprop(oP c arg6 (arg6.view.rep ov) ∗ hP c (hM.view.rep hv) ∗ (∃ W, owes (c : Thread nD τ) 0 W) ∗ pend c XU XD (k.val + 1))
      ⊢ wp frame (wpE (defs₀ (F := F)) noVar (c : Thread nD τ) none) Set.univ (tripG i arg1 harg1 arg2 harg2 arg5 harg5 arg6 harg6 arg0 v124 v125 k)
        (fun _ => iprop(oP c arg6 (arg6.view.rep (nextO hv (payU c XU (b8 (k.val + 1))) (payD c XD (b8 (k.val + 1))) ov))
          ∗ hP c (hM.view.rep hv) ∗ (∃ W, owes (c : Thread nD τ) 0 W) ∗ pend c XU XD (k.val + 2))) := by
    unfold pend freeS
    rw [s2_two (k.val + 1), take (homeU c XU) (b8 (k.val + 1)) (b8 (k.val + 2)) (b8_ne _), take (homeD c XD) (b8 (k.val + 1)) (b8 (k.val + 2)) (b8_ne _),
      take (homeU c XU) (b8 (k.val + 2)) (b8 (k.val + 1)) (b8_ne _).symm, take (homeD c XD) (b8 (k.val + 2)) (b8 (k.val + 1)) (b8_ne _).symm]
    rw [Finset.erase_right_comm (a := b8 (k.val + 2))]
    iintro ⟨HO, HH, ⟨%W, HW⟩, ⟨HUn, HUr⟩, ⟨HDn, HDr⟩, ⟨%fu, HFU⟩, ⟨%fd, HFD⟩, ⟨⟨%gu, HSU⟩, ⟨%gd, HSD⟩, HC0, HC1⟩⟩
    dsimp only [tripG]
    sl_unfold [k0_t1_body]
    sl_exec
    sl_step
    isplitl [HO]
    · iapply (hold_of_read c arg6)
      iexists _
      isplitr; rotate_left
      · iexact HO
      · ipureintro
        rw [View.read_writes_full]
        unfold tripGo.sl.v209 tripGo.sl.v217 tripGo.sl.v219
        unfold tripGo.sl.HO_1
        unfold tripGo.sl.v192 tripGo.sl.v200
        try unfold tripGo.sl.r
        rw [View.readCov_full, View.readAt_full, View.readAt_full, View.read_rep, View.read_rep,
          readCov_inside, readCov_inside, readCov_inside, readCov_inside]
        rfl
    isplitl [HH]; · iexact HH
    isplitl [HW]; · iexists _; iexact HW
    isplitl [HUr HFU_src]
    · isplitl [HFU_src]; · iexact HFU_src
      iexact HUr
    isplitl [HDr HFD_src]
    · isplitl [HFD_src]; · iexact HFD_src
      iexact HDr
    isplitl [HC0]; · iexists _; iexact HC0
    isplitl [HC1]; · iexists _; iexact HC1
    isplitl [HFU_dst]; · iexists _; iexact HFU_dst
    isplitl [HFD_dst]; · iexists _; iexact HFD_dst
    isplitl [HFU]; · iexact HFU
    iexact HFD

set_option maxHeartbeats 4000000 in
/-- A trip that sends for nothing: the last of the last point. -/
theorem tripStay (k : Trip) (k0_h2 : ¬ k0_cond2 i k = 1#1) (hv : S1024x2048.Idx → Elt F .bf16) (ov : S1024x2048.Idx → Elt F .f32) :
      iprop(oP c arg6 (arg6.view.rep ov) ∗ hP c (hM.view.rep hv) ∗ (∃ W, owes (c : Thread nD τ) 0 W) ∗ pend c XU XD (k.val + 1))
      ⊢ wp frame (wpE (defs₀ (F := F)) noVar (c : Thread nD τ) none) Set.univ (tripG i arg1 harg1 arg2 harg2 arg5 harg5 arg6 harg6 arg0 v124 v125 k)
        (fun _ => iprop(oP c arg6 (arg6.view.rep (nextO hv (payU c XU (b8 (k.val + 1))) (payD c XD (b8 (k.val + 1))) ov))
          ∗ hP c (hM.view.rep hv) ∗ (∃ W, owes (c : Thread nD τ) 0 W)
          ∗ bigSep Finset.univ (homeU c XU) ∗ bigSep Finset.univ (homeD c XD) ∗ freeS c (s2 (k.val + 1)) ∗ freeS c (s2 (k.val + 2)))) := by
    unfold pend
    rw [takeU (homeU c XU) (b8 (k.val + 1)), takeU (homeD c XD) (b8 (k.val + 1))]
    iintro ⟨HO, HH, ⟨%W, HW⟩, HUr, HDr, ⟨%fu, HFU⟩, ⟨%fd, HFD⟩, HS⟩
    dsimp only [tripG]
    sl_unfold [k0_t1_body]
    sl_exec
    sl_step
    isplitl [HO]
    · iapply (hold_of_read c arg6)
      iexists _
      isplitr; rotate_left
      · iexact HO
      · ipureintro
        rw [View.read_writes_full]
        unfold tripStay.sl.v209 tripStay.sl.v217 tripStay.sl.v219
        unfold tripStay.sl.HO_1
        unfold tripStay.sl.v192 tripStay.sl.v200
        try unfold tripStay.sl.r
        rw [View.readCov_full, View.readAt_full, View.readAt_full, View.read_rep, View.read_rep,
          readCov_inside, readCov_inside, readCov_inside, readCov_inside]
        rfl
    isplitl [HH]; · iexact HH
    isplitl [HW]; · iexists _; iexact HW
    isplitl [HUr HFU_src]
    · isplitl [HFU_src]; · iexact HFU_src
      iexact HUr
    isplitl [HDr HFD_src]
    · isplitl [HFD_src]; · iexact HFD_src
      iexact HDr
    isplitr [HS]
    · unfold freeS
      isplitl [HFU_dst]; · iexists _; iexact HFU_dst
      isplitl [HFD_dst]; · iexists _; iexact HFD_dst
      isplitl [HFU]; · iexact HFU
      iexact HFD
    iexact HS

end TripRun

/-! ## One point of the grid -/

section Point
variable (c : Dev nD) (XU : Buf (Elt F) (wuM.view.loc (c : Thread nD τ))) (XD : Buf (Elt F) (wdM.view.loc (c : Thread nD τ)))
  (i : grid0.Coords)
  (arg1 : Memref sig .tc .vmem S1024x2048 .f32) (harg1 : arg1.IsWhole)
  (arg2 : Memref sig .tc .vmem S1x2048 .f32) (harg2 : arg2.IsWhole)
  (arg5 : Memref sig .tc .vmem S1x2048 .f32) (harg5 : arg5.IsWhole)
  (arg6 : Memref sig .tc .vmem S1024x2048 .f32) (harg6 : arg6.IsWhole)

/-- The condition of the first point. -/
abbrev atFirst : Prop := (Scalar.cmpi .ne (Scalar.extui (Scalar.cmpi .eq (BitVec.ofNat 32 (i 0).val) 0#32) : BitVec 32) 0#32 : BitVec 1) = 1#1
theorem atFirst_iff : ∀ i : grid0.Coords, atFirst i ↔ (i 0).val = 0 := by decide +kernel
theorem sends_iff : ∀ (i : grid0.Coords) (k : Trip), k0_cond2 i k = 1#1 ↔ ¬ (k.val + 1 = k0_t1_loop.trips ∧ (i 0).val = 31) := by decide +kernel

/-- What is on its way after `k` trips at the point. -/
def tail (k : ℕ) : sProp 𝕄 := if k = k0_t1_loop.trips ∧ (i 0).val = 31 then idle c XU XD else pend c XU XD (k + 1)

/-- The result block after `k` trips. -/
def oV (hv : S1024x2048.Idx → Elt F .bf16) (o0 : S1024x2048.Idx → Elt F .f32) : ℕ → S1024x2048.Idx → Elt F .f32
  | 0 => o0
  | k + 1 => nextO hv (payU c XU (b8 (k + 1))) (payD c XD (b8 (k + 1))) (oV hv o0 k)

/-- Before trip `k`. -/
def inv (hv : S1024x2048.Idx → Elt F .bf16) (o0 : S1024x2048.Idx → Elt F .f32) (k : ℕ) (_ : PUnit) : sProp 𝕄 :=
  iprop(oP c arg6 (arg6.view.rep (oV c XU XD hv o0 k)) ∗ hP c (hM.view.rep hv) ∗ (∃ W, owes (c : Thread nD τ) 0 W) ∗ tail c XU XD i k)

theorem freeS_two (n : ℕ) : iprop(freeS c (s2 n) ∗ freeS c (s2 (n + 1))) ⊢ (iprop(freeS c 0 ∗ freeS c 1) : sProp 𝕄) := by
  rcases Nat.mod_two_eq_zero_or_one n with h | h
  · have e0 : s2 n = 0 := Fin.ext h
    have e1 : s2 (n + 1) = 1 := Fin.ext (show (n + 1) % 2 = 1 by omega)
    rw [e0, e1]
  · have e0 : s2 n = 1 := Fin.ext h
    have e1 : s2 (n + 1) = 0 := Fin.ext (show (n + 1) % 2 = 0 by omega)
    rw [e0, e1]; iintro ⟨H1, H0⟩; isplitl [H0]
    · iexact H0
    iexact H1

/-- The trips keep `inv`. -/
theorem inv_step (arg0 : BitVec 32) (v124 : FVec F S1024x2048 .f32) (v125 : Vec F S1024x2048 .f32)
    (hv : S1024x2048.Idx → Elt F .bf16) (o0 : S1024x2048.Idx → Elt F .f32) (k : Trip) (u : PUnit) :
    inv c XU XD i arg6 hv o0 k.val u
      ⊢ wp frame (wpE (defs₀ (F := F)) noVar (c : Thread nD τ) none) Set.univ (tripG i arg1 harg1 arg2 harg2 arg5 harg5 arg6 harg6 arg0 v124 v125 k)
        (inv c XU XD i arg6 hv o0 (k.val + 1)) := by
  have hk : ¬ (k.val = k0_t1_loop.trips ∧ (i 0).val = 31) := fun h => absurd h.1 (Nat.ne_of_lt k.isLt)
  by_cases h : k0_cond2 i k = 1#1
  · have h' := (sends_iff i k).1 h
    unfold inv tail
    rw [if_neg hk, if_neg h']
    exact tripGo c XU XD i arg1 harg1 arg2 harg2 arg5 harg5 arg6 harg6 arg0 v124 v125 k h hv _
  · have h' := not_not.1 (fun x => h ((sends_iff i k).2 x))
    unfold inv tail
    rw [if_neg hk, if_pos h']
    iintro H
    iapply (wp_wand_r Idealize.ShloMosaic.frame (wpE (defs₀ (F := F)) noVar (c : Thread nD τ) none) Set.univ)
    isplitl [H]
    · iapply (tripStay c XU XD i arg1 harg1 arg2 harg2 arg5 harg5 arg6 harg6 arg0 v124 v125 k h hv _); iexact H
    · iintro %_ ⟨HO, HH, HW, HU, HD, HS⟩
      isplitl [HO]; · iexact HO
      isplitl [HH]; · iexact HH
      isplitl [HW]; · iexact HW
      unfold idle
      isplitl [HU]; · iexact HU
      isplitl [HD]; · iexact HD
      iapply (freeS_two c (k.val + 1)); iexact HS

abbrev bodyG : Prog (TpuEff nD τ sig (Elt F) Λ₀ .tc) PUnit :=
  cc0_mlp i arg1 harg1 arg2 harg2 wuM (Memref.isWhole_whole _) wdM (Memref.isWhole_whole _) arg5 harg5 arg6 harg6
    hM (Memref.isWhole_whole _) ubM (Memref.isWhole_whole _) dbM (Memref.isWhole_whole _) cc0_scratch3

abbrev xP (x : S1024x2048.Idx → Elt F .f32) : sProp 𝕄 := arg1.view.loc (c : Thread nD τ) ↦[arg1.view.set]{fullShare} arg1.view.rep x
abbrev gP (M : Memref sig .tc .vmem S1x2048 .f32) (g : S1x2048.Idx → Elt F .f32) : sProp 𝕄 := M.view.loc (c : Thread nD τ) ↦[M.view.set]{fullShare} M.view.rep g

theorem pend_zero : pend c XU XD 0 = iprop(bigSep (Finset.univ.erase 0) (homeU c XU) ∗ bigSep (Finset.univ.erase 0) (homeD c XD)
    ∗ (∃ f, flyU c XU 0 0 f) ∗ (∃ f, flyD c XD 0 0 f) ∗ freeS c 1) := rfl
theorem pend_one : pend c XU XD 1 = iprop(bigSep (Finset.univ.erase 1) (homeU c XU) ∗ bigSep (Finset.univ.erase 1) (homeD c XD)
    ∗ (∃ f, flyU c XU 1 1 f) ∗ (∃ f, flyD c XD 1 1 f) ∗ freeS c 0) := rfl

abbrev RX0 : Rect S1024x2048 := Rect.unit (s := S1024x2048) ![0, 0] S1024x256.size inb_S1024x2048_S1024x256_0_0
abbrev RX256 : Rect S1024x2048 := Rect.unit (s := S1024x2048) ![0, 256] S1024x256.size inb_S1024x2048_S1024x256_0_256
abbrev RX512 : Rect S1024x2048 := Rect.unit (s := S1024x2048) ![0, 512] S1024x256.size inb_S1024x2048_S1024x256_0_512
abbrev RX768 : Rect S1024x2048 := Rect.unit (s := S1024x2048) ![0, 768] S1024x256.size inb_S1024x2048_S1024x256_0_768
abbrev RX1024 : Rect S1024x2048 := Rect.unit (s := S1024x2048) ![0, 1024] S1024x256.size inb_S1024x2048_S1024x256_0_1024
abbrev RX1280 : Rect S1024x2048 := Rect.unit (s := S1024x2048) ![0, 1280] S1024x256.size inb_S1024x2048_S1024x256_0_1280
abbrev RX1536 : Rect S1024x2048 := Rect.unit (s := S1024x2048) ![0, 1536] S1024x256.size inb_S1024x2048_S1024x256_0_1536
abbrev RX1792 : Rect S1024x2048 := Rect.unit (s := S1024x2048) ![0, 1792] S1024x256.size inb_S1024x2048_S1024x256_0_1792
abbrev RG0 : Rect S1x2048 := Rect.unit (s := S1x2048) ![0, 0] S1x256.size inb_S1x2048_S1x256_0_0
abbrev RG256 : Rect S1x2048 := Rect.unit (s := S1x2048) ![0, 256] S1x256.size inb_S1x2048_S1x256_0_256
abbrev RG512 : Rect S1x2048 := Rect.unit (s := S1x2048) ![0, 512] S1x256.size inb_S1x2048_S1x256_0_512
abbrev RG768 : Rect S1x2048 := Rect.unit (s := S1x2048) ![0, 768] S1x256.size inb_S1x2048_S1x256_0_768
abbrev RG1024 : Rect S1x2048 := Rect.unit (s := S1x2048) ![0, 1024] S1x256.size inb_S1x2048_S1x256_0_1024
abbrev RG1280 : Rect S1x2048 := Rect.unit (s := S1x2048) ![0, 1280] S1x256.size inb_S1x2048_S1x256_0_1280
abbrev RG1536 : Rect S1x2048 := Rect.unit (s := S1x2048) ![0, 1536] S1x256.size inb_S1x2048_S1x256_0_1536
abbrev RG1792 : Rect S1x2048 := Rect.unit (s := S1x2048) ![0, 1792] S1x256.size inb_S1x2048_S1x256_0_1792

/-- The eight pieces the normalized rows are written in, last first. -/
def hL (x : Vec F S1024x2048 .f32) (g : Vec F S1x2048 .f32) : List (View.Piece (Elt F) S1024x2048 .bf16) :=
  [⟨RX1792, k0_pay14 (k0_pay4 x) (fun j => x (RX1792.toLoadRect.idx j)) (fun j => g (RG1792.toLoadRect.idx j))⟩,
   ⟨RX1536, k0_pay13 (k0_pay12 (k0_pay4 x) (fun j => x (RX1536.toLoadRect.idx j))) (fun j => g (RG1536.toLoadRect.idx j))⟩,
   ⟨RX1280, k0_pay11 (k0_pay4 x) (fun j => x (RX1280.toLoadRect.idx j)) (fun j => g (RG1280.toLoadRect.idx j))⟩,
   ⟨RX1024, k0_pay10 (k0_pay4 x) (fun j => x (RX1024.toLoadRect.idx j)) (fun j => g (RG1024.toLoadRect.idx j))⟩,
   ⟨RX768, k0_pay9 (k0_pay4 x) (fun j => x (RX768.toLoadRect.idx j)) (fun j => g (RG768.toLoadRect.idx j))⟩,
   ⟨RX512, k0_pay8 (k0_pay7 x (fun j => x (RX512.toLoadRect.idx j)) (fun j => g (RG512.toLoadRect.idx j)))⟩,
   ⟨RX256, k0_pay6 x (fun j => x (RX256.toLoadRect.idx j)) (fun j => g (RG256.toLoadRect.idx j))⟩,
   ⟨RX0, k0_pay5 x (fun j => x (RX0.toLoadRect.idx j)) (fun j => g (RG0.toLoadRect.idx j))⟩]
/-- The normalized rows. -/
def hV (x : Vec F S1024x2048 .f32) (g : Vec F S1x2048 .f32) : Vec F S1024x2048 .bf16 := hM.view.read (Elt F) (hM.view.writes (Elt F) hM.view.junk (hL x g))
/-- The result block after the first block of the weights. -/
def o0V (x : Vec F S1024x2048 .f32) (g : Vec F S1x2048 .f32) : Vec F S1024x2048 .f32 :=
  k0_pay17 (hV x g) (fun j => payU c XU 0 (RUhi.toLoadRect.idx j)) (fun j => payD c XD 0 (RDhi.toLoadRect.idx j))
    (k0_pay16 (k0_pay15 (hV x g) (fun j => payU c XU 0 (RUlo.toLoadRect.idx j)) (fun j => payD c XD 0 (RDlo.toLoadRect.idx j))) x)
/-- The block of the result a point leaves. -/
def outV (x : Vec F S1024x2048 .f32) (g fg : Vec F S1x2048 .f32) : Vec F S1024x2048 .f32 :=
  k0_pay1 (k0_pay18 (oV c XU XD (hV x g) (o0V c XU XD x g) k0_t1_loop.trips)) fg (k0_pay19 (oV c XU XD (hV x g) (o0V c XU XD x g) k0_t1_loop.trips)) (Scalar.ofBits .f32 0x45000000#32)

omit [FloatOps F] in
/-- A load at contents that read as `v`. -/
theorem readAt_rep [∀ e, Nonempty (Elt F e)] {sp : Space} {s : Shape} {e : EltTy} (M : Memref sig .tc sp s e) (v : s.Idx → Elt F e) (B : LoadRect s) :
    M.view.readAt (Elt F) B (M.view.rep v) = fun j => v (B.idx j) := by
  funext j; rw [View.readAt_apply, View.read_rep]

/-- A load of a whole buffer last written in pieces. -/
theorem readCov_read {sp : Space} {e : EltTy} (v : View sig .tc sp S1024x2048 e) (L : List (View.Piece (Elt F) S1024x2048 e)) :
    v.readCov L RW.toLoadRect = v.read (Elt F) (v.writes (Elt F) v.junk L) := by
  show v.readAt (Elt F) RW.toLoadRect (v.writes (Elt F) v.junk L) = _
  rw [View.readAt_full]

theorem tail_zero : tail c XU XD i 0 = pend c XU XD 1 := by
  unfold tail; rw [if_neg (fun h => absurd h.1 (by decide))]

set_option maxHeartbeats 8000000 in
theorem runLater (k0_h1 : ¬ atFirst i) (x : S1024x2048.Idx → Elt F .f32) (g fg : S1x2048.Idx → Elt F .f32) (fo : Buf (Elt F) (arg6.view.loc (c : Thread nD τ)))
    (fh : Buf (Elt F) (hM.view.loc (c : Thread nD τ))) (W : Waits sig Unit) :
    iprop(xP c arg1 x ∗ gP c arg2 g ∗ gP c arg5 fg ∗ oP c arg6 fo ∗ hP c fh ∗ owes (c : Thread nD τ) 0 W ∗ pend c XU XD 0)
      ⊢ wp frame (wpE (defs₀ (F := F)) noVar (c : Thread nD τ) none) Set.univ (bodyG i arg1 harg1 arg2 harg2 arg5 harg5 arg6 harg6)
        (fun _ => iprop(xP c arg1 x ∗ gP c arg2 g ∗ gP c arg5 fg ∗ oP c arg6 (arg6.view.rep (outV c XU XD x g fg)) ∗ (∃ f, hP c f) ∗ (∃ W, owes (c : Thread nD τ) 0 W) ∗ tail c XU XD i k0_t1_loop.trips)) := by
  rw [pend_zero, take (homeU c XU) 0 1 (by decide), take (homeD c XD) 0 1 (by decide)]
  unfold freeS
  iintro ⟨HX, HG, HF, HO, HH, HW, ⟨HU1, HUr⟩, ⟨HD1, HDr⟩, ⟨%fu, HC0⟩, ⟨%fd, HC1⟩, ⟨⟨%gu, HSU⟩, ⟨%gd, HSD⟩, HC2, HC3⟩⟩
  sl_exec
  have hh : hM.view.read (Elt F) (hM.view.writes (Elt F) hM.view.junk (runLater.sl.HH_8 arg1 arg2 x g)) = hV x g := by
    unfold runLater.sl.HH_8 hV runLater.sl.r_2 runLater.sl.r runLater.sl.r_1
    rw [View.readAt_full, View.read_rep]
    simp only [readAt_rep]
    unfold hL
    rfl
  have ho : arg6.view.read (Elt F) (arg6.view.writes (Elt F) arg6.view.junk (runLater.sl.HO_2 c XU XD arg1 arg2 arg6 x g)) = o0V c XU XD x g := by
    unfold runLater.sl.HO_2
    rw [View.read_writes_full]
    unfold runLater.sl.v112 runLater.sl.v131 runLater.sl.v139 runLater.sl.v141 runLater.sl.HO_1 runLater.sl.r_3 runLater.sl.r_4 runLater.sl.v115 runLater.sl.v123
    try unfold runLater.sl.v112
    rw [readCov_read hM.view, hh, readCov_read arg6.view, View.read_writes_full, View.readAt_full, View.read_rep]
    simp only [readCov_inside]
    rfl
  ihave HH' := (hold_of_read c hM (hV x g)) $$ [HH]
  · iexists _
    isplitr; rotate_left
    · iexact HH
    · ipureintro; exact hh
  ihave HO' := (hold_of_read c arg6 (o0V c XU XD x g)) $$ [HO]
  · iexists _
    isplitr; rotate_left
    · iexact HO
    · ipureintro; exact ho
  sl_for (inv c XU XD i arg6 (hV x g) (o0V c XU XD x g)) $$ [HO' HH' HW HUr HDr HC0_dst HC0_src HC0 HC1_dst HC1_src HC1 HC2 HC3]
  case region => exact fun k u => inv_step c XU XD i arg1 harg1 arg2 harg2 arg5 harg5 arg6 harg6 _ _ _ (hV x g) (o0V c XU XD x g) k u
  · unfold inv
    rw [tail_zero, pend_one, take (homeU c XU) 1 0 (by decide), take (homeD c XD) 1 0 (by decide), Finset.erase_right_comm (a := 1)]
    unfold freeS
    isplitl [HO']; · iexact HO'
    isplitl [HH']; · iexact HH'
    isplitl [HW]; · iexists _; iexact HW
    isplitl [HUr HC0_src]
    · isplitl [HC0_src]; · iexact HC0_src
      iexact HUr
    isplitl [HDr HC1_src]
    · isplitl [HC1_src]; · iexact HC1_src
      iexact HDr
    isplitl [HC2]; · iexists _; iexact HC2
    isplitl [HC3]; · iexists _; iexact HC3
    isplitl [HC0_dst]; · iexists _; iexact HC0_dst
    isplitl [HC1_dst]; · iexists _; iexact HC1_dst
    isplitl [HC0]; · iexact HC0
    iexact HC1
  iintro %_ HI
  unfold inv
  icases HI with ⟨HO, HH, ⟨%W', HW⟩, HT⟩
  sl_exec
  sl_step
  isplitl [HX]; · iexact HX
  isplitl [HG]; · iexact HG
  isplitl [HF]; · iexact HF
  isplitl [HO]
  · iapply (hold_of_read c arg6)
    iexists _
    isplitr; rotate_left
    · iexact HO
    · ipureintro
      rw [View.read_writes_full]
      unfold runLater.sl.r_5 runLater.sl.r_6 runLater.sl.r_7 runLater.sl.cst_117 outV
      rw [View.readAt_full, View.read_rep, View.readAt_full, View.read_rep]
  isplitl [HH]; · iexists _; iexact HH
  isplitl [HW]; · iexists _; iexact HW
  iexact HT

set_option maxHeartbeats 8000000 in
theorem runFirst (k0_h1 : atFirst i) (x : S1024x2048.Idx → Elt F .f32) (g fg : S1x2048.Idx → Elt F .f32) (fo : Buf (Elt F) (arg6.view.loc (c : Thread nD τ)))
    (fh : Buf (Elt F) (hM.view.loc (c : Thread nD τ))) (W : Waits sig Unit) :
    iprop(xP c arg1 x ∗ gP c arg2 g ∗ gP c arg5 fg ∗ oP c arg6 fo ∗ hP c fh ∗ owes (c : Thread nD τ) 0 W ∗ idle c XU XD)
      ⊢ wp frame (wpE (defs₀ (F := F)) noVar (c : Thread nD τ) none) Set.univ (bodyG i arg1 harg1 arg2 harg2 arg5 harg5 arg6 harg6)
        (fun _ => iprop(xP c arg1 x ∗ gP c arg2 g ∗ gP c arg5 fg ∗ oP c arg6 (arg6.view.rep (outV c XU XD x g fg)) ∗ (∃ f, hP c f) ∗ (∃ W, owes (c : Thread nD τ) 0 W) ∗ tail c XU XD i k0_t1_loop.trips)) := by
  unfold idle
  rw [takeU (homeU c XU) 0, takeU (homeD c XD) 0, take (homeU c XU) 0 1 (by decide), take (homeD c XD) 0 1 (by decide)]
  unfold freeS
  iintro ⟨HX, HG, HF, HO, HH, HW, ⟨HU0, HU1, HUr⟩, ⟨HD0, HD1, HDr⟩, ⟨⟨%fu, HSU0⟩, ⟨%fd, HSD0⟩, HC0, HC1⟩, ⟨⟨%gu, HSU⟩, ⟨%gd, HSD⟩, HC2, HC3⟩⟩
  sl_exec
  have hh : hM.view.read (Elt F) (hM.view.writes (Elt F) hM.view.junk (runFirst.sl.HH_8 arg1 arg2 x g)) = hV x g := by
    unfold runFirst.sl.HH_8 hV runFirst.sl.r_2 runFirst.sl.r runFirst.sl.r_1
    rw [View.readAt_full, View.read_rep]
    simp only [readAt_rep]
    unfold hL
    rfl
  have ho : arg6.view.read (Elt F) (arg6.view.writes (Elt F) arg6.view.junk (runFirst.sl.HO_2 c XU XD arg1 arg2 arg6 x g)) = o0V c XU XD x g := by
    unfold runFirst.sl.HO_2
    rw [View.read_writes_full]
    unfold runFirst.sl.v112 runFirst.sl.v131 runFirst.sl.v139 runFirst.sl.v141 runFirst.sl.HO_1 runFirst.sl.r_3 runFirst.sl.r_4 runFirst.sl.v115 runFirst.sl.v123
    try unfold runFirst.sl.v112
    rw [readCov_read hM.view, hh, readCov_read arg6.view, View.read_writes_full, View.readAt_full, View.read_rep]
    simp only [readCov_inside]
    rfl
  ihave HH' := (hold_of_read c hM (hV x g)) $$ [HH]
  · iexists _
    isplitr; rotate_left
    · iexact HH
    · ipureintro; exact hh
  ihave HO' := (hold_of_read c arg6 (o0V c XU XD x g)) $$ [HO]
  · iexists _
    isplitr; rotate_left
    · iexact HO
    · ipureintro; exact ho
  sl_for (inv c XU XD i arg6 (hV x g) (o0V c XU XD x g)) $$ [HO' HH' HW HUr HDr HSU0 HU0 HC0 HSD0 HD0 HC1 HC2 HC3]
  case region => exact fun k u => inv_step c XU XD i arg1 harg1 arg2 harg2 arg5 harg5 arg6 harg6 _ _ _ (hV x g) (o0V c XU XD x g) k u
  · unfold inv
    rw [tail_zero, pend_one, take (homeU c XU) 1 0 (by decide), take (homeD c XD) 1 0 (by decide), Finset.erase_right_comm (a := 1)]
    unfold freeS
    isplitl [HO']; · iexact HO'
    isplitl [HH']; · iexact HH'
    isplitl [HW]; · iexists _; iexact HW
    isplitl [HUr HU0]
    · isplitl [HU0]; · iexact HU0
      iexact HUr
    isplitl [HDr HD0]
    · isplitl [HD0]; · iexact HD0
      iexact HDr
    isplitl [HC2]; · iexists _; iexact HC2
    isplitl [HC3]; · iexists _; iexact HC3
    isplitl [HSU0]; · iexists _; iexact HSU0
    isplitl [HSD0]; · iexists _; iexact HSD0
    isplitl [HC0]; · iexact HC0
    iexact HC1
  iintro %_ HI
  unfold inv
  icases HI with ⟨HO, HH, ⟨%W', HW⟩, HT⟩
  sl_exec
  sl_step
  isplitl [HX]; · iexact HX
  isplitl [HG]; · iexact HG
  isplitl [HF]; · iexact HF
  isplitl [HO]
  · iapply (hold_of_read c arg6)
    iexists _
    isplitr; rotate_left
    · iexact HO
    · ipureintro
      rw [View.read_writes_full]
      unfold runFirst.sl.r_5 runFirst.sl.r_6 runFirst.sl.r_7 runFirst.sl.cst_117 outV
      rw [View.readAt_full, View.read_rep, View.readAt_full, View.read_rep]
  isplitl [HH]; · iexists _; iexact HH
  isplitl [HW]; · iexists _; iexact HW
  iexact HT

theorem seven : k0_t1_loop.trips = 7 := by decide

/-- What is on its way before a point. -/
def before : sProp 𝕄 := if (i 0).val = 0 then idle c XU XD else pend c XU XD 0
/-- What is on its way after it. -/
def afterP : sProp 𝕄 := if (i 0).val = 31 then idle c XU XD else pend c XU XD 0

theorem tail_end : tail c XU XD i k0_t1_loop.trips = afterP c XU XD i := by
  unfold tail afterP
  by_cases h : (i 0).val = 31
  · rw [if_pos ⟨rfl, h⟩, if_pos h]
  · rw [if_neg (fun x => h x.2), if_neg h, seven]; rfl

/-- A point of the grid. -/
theorem runPoint (x : S1024x2048.Idx → Elt F .f32) (g fg : S1x2048.Idx → Elt F .f32) (fo : Buf (Elt F) (arg6.view.loc (c : Thread nD τ)))
    (fh : Buf (Elt F) (hM.view.loc (c : Thread nD τ))) (W : Waits sig Unit) :
    iprop(xP c arg1 x ∗ gP c arg2 g ∗ gP c arg5 fg ∗ oP c arg6 fo ∗ hP c fh ∗ owes (c : Thread nD τ) 0 W ∗ before c XU XD i)
      ⊢ wp frame (wpE (defs₀ (F := F)) noVar (c : Thread nD τ) none) Set.univ (bodyG i arg1 harg1 arg2 harg2 arg5 harg5 arg6 harg6)
        (fun _ => iprop(xP c arg1 x ∗ gP c arg2 g ∗ gP c arg5 fg ∗ oP c arg6 (arg6.view.rep (outV c XU XD x g fg)) ∗ (∃ f, hP c f) ∗ (∃ W, owes (c : Thread nD τ) 0 W) ∗ afterP c XU XD i)) := by
  rw [← tail_end]
  unfold before
  by_cases h : (i 0).val = 0
  · rw [if_pos h]
    exact runFirst c XU XD i arg1 harg1 arg2 harg2 arg5 harg5 arg6 harg6 ((atFirst_iff i).2 h) x g fg fo fh W
  · rw [if_neg h]
    exact runLater c XU XD i arg1 harg1 arg2 harg2 arg5 harg5 arg6 harg6 (fun e => h ((atFirst_iff i).1 e)) x g fg fo fh W

end Point

end Cert.Proof.MlpBody

end
-- ==== Proof.MlpRun.lean ====
/-
  The feed-forward call, its launch: both weight matrices are their eight blocks, both buffers their two slots, and the
  32 points of the grid run one after another, the state between two points told by what is on its way.
-/
module

public import proofs.«01_k».proof.Proof.MlpBody
public import Idealize.ShloMosaic.Lib.Pipeline.FrameBody

@[expose] public section

noncomputable section

namespace Cert.Proof.MlpBody

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

local notation "𝕄" => MT nD τ sig Unit (Elt F) ℕ (Gh nD τ) ℕ
abbrev emb : Emb (UR sig nD τ) (MT nD τ sig Unit (Elt F) ℕ (Gh nD τ) ℕ) := embL

abbrev start : MemSt nD τ sig (Elt F) := ⟨m, fun _ => 0, ρ⟩
/-- A buffer's contents at the start. -/
abbrev V (c : Dev nD) (b : Ref sig .tc) : Buf (Elt F) ((c : Thread nD τ).loc b) := m ((c : Thread nD τ).loc b)
abbrev WU (c : Dev nD) : Buf (Elt F) (wuM.view.loc (c : Thread nD τ)) := m _
abbrev WD (c : Dev nD) : Buf (Elt F) (wdM.view.loc (c : Thread nD τ)) := m _

abbrev osem : Fin 4 → SemLoc sig := fun
  | 0 => .dma (csm 0 0).sem | 1 => .dma (csm 0 1).sem | 2 => .dma (csm 1 0).sem | 3 => .dma (csm 1 1).sem
  | ⟨_ + 4, h⟩ => absurd h (Nat.not_lt.2 (Nat.le_add_left _ _))
theorem ownSemFacts : Pipeline.OwnSemFacts spec0 osem := by decide

/-! ## Blocks and slots as sets of elements -/

abbrev BU (b : Fin 8) : Finset S2048x8192.Idx := (Rect.unit (s := S2048x8192) (ublkOff b) S2048x1024.size (ublk_inb b)).set
abbrev BD (b : Fin 8) : Finset S8192x2048.Idx := (Rect.unit (s := S8192x2048) (dblkOff b) S1024x2048.size (dblk_inb b)).set
abbrev SU (s : Fin 2) : Finset S2x2048x1024.Idx := (Rect.unit (s := S2x2048x1024) (slOff s) S1x2048x1024.size (usl_inb s)).set
abbrev SD (s : Fin 2) : Finset S2x1024x2048.Idx := (Rect.unit (s := S2x1024x2048) (slOff s) S1x1024x2048.size (dsl_inb s)).set

theorem ublk_set (b : Fin 8) : (ublk b).view.set = BU b := View.set_slice_whole _ _
theorem dblk_set (b : Fin 8) : (dblk b).view.set = BD b := View.set_slice_whole _ _
theorem usl_set (s : Fin 2) : (usl s).view.set = SU s := (View.set_reshape _ _).trans (View.set_slice_whole _ _)
theorem dsl_set (s : Fin 2) : (dsl s).view.set = SD s := (View.set_reshape _ _).trans (View.set_slice_whole _ _)

theorem mem_BU (b : Fin 8) (y : S2048x8192.Idx) : y ∈ BU b ↔ (y 1).val / 1024 = b.val := by
  rw [Rect.mem_set_unit]
  have h0 : (y 0).val < 2048 := (y 0).isLt
  constructor
  · intro H; have a : 1024 * b.val ≤ (y 1).val ∧ (y 1).val < 1024 * b.val + 1024 := H 1; omega
  · intro H i; fin_cases i
    · show 0 ≤ (y 0).val ∧ (y 0).val < 0 + 2048; omega
    · show 1024 * b.val ≤ (y 1).val ∧ (y 1).val < 1024 * b.val + 1024; omega
theorem mem_BD (b : Fin 8) (y : S8192x2048.Idx) : y ∈ BD b ↔ (y 0).val / 1024 = b.val := by
  rw [Rect.mem_set_unit]
  have h1 : (y 1).val < 2048 := (y 1).isLt
  constructor
  · intro H; have a : 1024 * b.val ≤ (y 0).val ∧ (y 0).val < 1024 * b.val + 1024 := H 0; omega
  · intro H i; fin_cases i
    · show 1024 * b.val ≤ (y 0).val ∧ (y 0).val < 1024 * b.val + 1024; omega
    · show 0 ≤ (y 1).val ∧ (y 1).val < 0 + 2048; omega
theorem mem_SU (s : Fin 2) (y : S2x2048x1024.Idx) : y ∈ SU s ↔ (y 0).val = s.val := by
  rw [Rect.mem_set_unit]
  have h1 : (y 1).val < 2048 := (y 1).isLt
  have h2 : (y 2).val < 1024 := (y 2).isLt
  constructor
  · intro H; have a : s.val ≤ (y 0).val ∧ (y 0).val < s.val + 1 := H 0; omega
  · intro H i; fin_cases i
    · show s.val ≤ (y 0).val ∧ (y 0).val < s.val + 1; omega
    · show 0 ≤ (y 1).val ∧ (y 1).val < 0 + 2048; omega
    · show 0 ≤ (y 2).val ∧ (y 2).val < 0 + 1024; omega
theorem mem_SD (s : Fin 2) (y : S2x1024x2048.Idx) : y ∈ SD s ↔ (y 0).val = s.val := by
  rw [Rect.mem_set_unit]
  have h1 : (y 1).val < 1024 := (y 1).isLt
  have h2 : (y 2).val < 2048 := (y 2).isLt
  constructor
  · intro H; have a : s.val ≤ (y 0).val ∧ (y 0).val < s.val + 1 := H 0; omega
  · intro H i; fin_cases i
    · show s.val ≤ (y 0).val ∧ (y 0).val < s.val + 1; omega
    · show 0 ≤ (y 1).val ∧ (y 1).val < 0 + 1024; omega
    · show 0 ≤ (y 2).val ∧ (y 2).val < 0 + 2048; omega

section Sets
theorem BU_disjoint : ∀ b b' : Fin 8, b ≠ b' → Disjoint (BU b) (BU b') := by
  intro b b' hne; rw [Finset.disjoint_left]; intro y hy hy'; rw [mem_BU] at hy hy'; exact hne (Fin.ext (hy.symm.trans hy'))
theorem BD_disjoint : ∀ b b' : Fin 8, b ≠ b' → Disjoint (BD b) (BD b') := by
  intro b b' hne; rw [Finset.disjoint_left]; intro y hy hy'; rw [mem_BD] at hy hy'; exact hne (Fin.ext (hy.symm.trans hy'))
theorem SU_disjoint : ∀ s s' : Fin 2, s ≠ s' → Disjoint (SU s) (SU s') := by
  intro b b' hne; rw [Finset.disjoint_left]; intro y hy hy'; rw [mem_SU] at hy hy'; exact hne (Fin.ext (hy.symm.trans hy'))
theorem SD_disjoint : ∀ s s' : Fin 2, s ≠ s' → Disjoint (SD s) (SD s') := by
  intro b b' hne; rw [Finset.disjoint_left]; intro y hy hy'; rw [mem_SD] at hy hy'; exact hne (Fin.ext (hy.symm.trans hy'))
theorem BU_cover : (Finset.univ : Finset (Fin 8)).biUnion BU = Finset.univ := by
  ext y; simp only [Finset.mem_biUnion, Finset.mem_univ, true_and, iff_true]
  have h : (y 1).val < 8192 := (y 1).isLt
  exact ⟨⟨(y 1).val / 1024, by omega⟩, by rw [mem_BU]⟩
theorem BD_cover : (Finset.univ : Finset (Fin 8)).biUnion BD = Finset.univ := by
  ext y; simp only [Finset.mem_biUnion, Finset.mem_univ, true_and, iff_true]
  have h : (y 0).val < 8192 := (y 0).isLt
  exact ⟨⟨(y 0).val / 1024, by omega⟩, by rw [mem_BD]⟩
theorem SU_cover : (Finset.univ : Finset (Fin 2)).biUnion SU = Finset.univ := by
  ext y; simp only [Finset.mem_biUnion, Finset.mem_univ, true_and, iff_true]; exact ⟨(y 0).cast (by decide), by rw [mem_SU]; rfl⟩
theorem SD_cover : (Finset.univ : Finset (Fin 2)).biUnion SD = Finset.univ := by
  ext y; simp only [Finset.mem_biUnion, Finset.mem_univ, true_and, iff_true]; exact ⟨(y 0).cast (by decide), by rw [mem_SD]; rfl⟩
end Sets

theorem bigSep2 (P : Fin 2 → sProp 𝕄) : bigSep Finset.univ P = iprop(P 0 ∗ P 1) :=
  bigSep_univ_eq_bigSepL [(0 : Fin 2), (1 : Fin 2)] (by decide) (by decide) P
theorem bigSep4 (P : Fin 4 → sProp 𝕄) : bigSep Finset.univ P = iprop(P 0 ∗ P 1 ∗ P 2 ∗ P 3) :=
  bigSep_univ_eq_bigSepL [(0 : Fin 4), (1 : Fin 4), (2 : Fin 4), (3 : Fin 4)] (by decide) (by decide) P

/-- `w_up` whole is its blocks, and `w_down`. -/
theorem wu_eq (c : Dev nD) :
    (((c : Thread nD τ).loc main_arg2) ↦{fullShare} m ((c : Thread nD τ).loc main_arg2) : sProp 𝕄) = bigSep Finset.univ (homeU c (WU m c)) := by
  rw [Ring.pointsTo_blocks (ℓ := (c : Thread nD τ).loc main_arg2) BU BU_disjoint BU_cover]
  exact bigSep_congr fun b _ => by rw [← ublk_set]; rfl
theorem wd_eq (c : Dev nD) :
    (((c : Thread nD τ).loc main_arg3) ↦{fullShare} m ((c : Thread nD τ).loc main_arg3) : sProp 𝕄) = bigSep Finset.univ (homeD c (WD m c)) := by
  rw [Ring.pointsTo_blocks (ℓ := (c : Thread nD τ).loc main_arg3) BD BD_disjoint BD_cover]
  exact bigSep_congr fun b _ => by rw [← dblk_set]; rfl

theorem h_eq (c : Dev nD) (f) : hP c f = (((c : Thread nD τ).loc cc0_scratch0) ↦{fullShare} f : sProp 𝕄) :=
  congrArg (fun S => (_ ↦[S]{fullShare} f : sProp 𝕄)) (View.set_whole _)

theorem slotU_eq (c : Dev nD) (s : Fin 2) (f) : slotU c s f = (((c : Thread nD τ).loc cc0_scratch1) ↦[SU s]{fullShare} f : sProp 𝕄) :=
  congrArg (fun S => (_ ↦[S]{fullShare} f : sProp 𝕄)) (usl_set s)
theorem slotD_eq (c : Dev nD) (s : Fin 2) (f) : slotD c s f = (((c : Thread nD τ).loc cc0_scratch2) ↦[SD s]{fullShare} f : sProp 𝕄) :=
  congrArg (fun S => (_ ↦[S]{fullShare} f : sProp 𝕄)) (dsl_set s)

theorem splitU (c : Dev nD) :
    iprop(∃ f : Buf (Elt F) ((c : Thread nD τ).loc cc0_scratch1), ((c : Thread nD τ).loc cc0_scratch1) ↦{fullShare} f)
      ⊢ (iprop((∃ f, slotU c 0 f) ∗ ∃ f, slotU c 1 f) : sProp 𝕄) := by
  iintro ⟨%f, H⟩
  ihave H2 := (ent_of_eq ((Ring.pointsTo_blocks (Ix := Unit) (Name := ℕ) (U := Gh nD τ) (Lvl := ℕ) (q := fullShare) (ℓ := (c : Thread nD τ).loc cc0_scratch1) SU SU_disjoint SU_cover f).trans (bigSep2 _))) $$ H
  icases H2 with ⟨H0, H1⟩
  isplitl [H0]
  · iexists f; iapply (ent_of_eq (slotU_eq c 0 f).symm); iexact H0
  · iexists f; iapply (ent_of_eq (slotU_eq c 1 f).symm); iexact H1
theorem joinU (c : Dev nD) :
    iprop((∃ f, slotU c 0 f) ∗ ∃ f, slotU c 1 f)
      ⊢ (iprop(∃ f : Buf (Elt F) ((c : Thread nD τ).loc cc0_scratch1), ((c : Thread nD τ).loc cc0_scratch1) ↦{fullShare} f) : sProp 𝕄) := by
  iintro ⟨⟨%f0, H0⟩, ⟨%f1, H1⟩⟩
  iapply (Ring.pointsTo_blocks_join_exists (ℓ := (c : Thread nD τ).loc cc0_scratch1) SU SU_disjoint SU_cover f0)
  irw [bigSep2]
  isplitl [H0]
  · iexists f0; iapply (ent_of_eq (slotU_eq c 0 f0)); iexact H0
  · iexists f1; iapply (ent_of_eq (slotU_eq c 1 f1)); iexact H1
theorem splitD (c : Dev nD) :
    iprop(∃ f : Buf (Elt F) ((c : Thread nD τ).loc cc0_scratch2), ((c : Thread nD τ).loc cc0_scratch2) ↦{fullShare} f)
      ⊢ (iprop((∃ f, slotD c 0 f) ∗ ∃ f, slotD c 1 f) : sProp 𝕄) := by
  iintro ⟨%f, H⟩
  ihave H2 := (ent_of_eq ((Ring.pointsTo_blocks (Ix := Unit) (Name := ℕ) (U := Gh nD τ) (Lvl := ℕ) (q := fullShare) (ℓ := (c : Thread nD τ).loc cc0_scratch2) SD SD_disjoint SD_cover f).trans (bigSep2 _))) $$ H
  icases H2 with ⟨H0, H1⟩
  isplitl [H0]
  · iexists f; iapply (ent_of_eq (slotD_eq c 0 f).symm); iexact H0
  · iexists f; iapply (ent_of_eq (slotD_eq c 1 f).symm); iexact H1
theorem joinD (c : Dev nD) :
    iprop((∃ f, slotD c 0 f) ∗ ∃ f, slotD c 1 f)
      ⊢ (iprop(∃ f : Buf (Elt F) ((c : Thread nD τ).loc cc0_scratch2), ((c : Thread nD τ).loc cc0_scratch2) ↦{fullShare} f) : sProp 𝕄) := by
  iintro ⟨⟨%f0, H0⟩, ⟨%f1, H1⟩⟩
  iapply (Ring.pointsTo_blocks_join_exists (ℓ := (c : Thread nD τ).loc cc0_scratch2) SD SD_disjoint SD_cover f0)
  irw [bigSep2]
  isplitl [H0]
  · iexists f0; iapply (ent_of_eq (slotD_eq c 0 f0)); iexact H0
  · iexists f1; iapply (ent_of_eq (slotD_eq c 1 f1)); iexact H1

theorem ownSems0_eq (c : Dev nD) : (Pipeline.ownSems0 (Ix := Unit) (Name := ℕ) (U := Gh nD τ) (Lvl := ℕ) (Val := Elt F) (τ := τ) osem c : sProp 𝕄)
    = iprop(cellP c 0 0 ∗ cellP c 0 1 ∗ cellP c 1 0 ∗ cellP c 1 1) := by
  unfold Pipeline.ownSems0; rw [bigSep4]

/-! ## The state between two points -/

/-- After `n` points. -/
def Φ (c : Dev nD) (n : ℕ) : sProp 𝕄 := iprop((∃ f, hP c f) ∗ if n = 0 ∨ n = 32 then idle c (WU m c) (WD m c) else pend c (WU m c) (WD m c) 0)

theorem coord (t : Fin cfg0.N) : ((grid0.coords t) 0).val = t.val := (by decide +kernel : ∀ t : Fin grid0.N, ((grid0.coords t) 0).val = t.val) t
theorem lt32 (t : Fin cfg0.N) : t.val < 32 := lt_of_lt_of_eq t.isLt N_0

theorem Φ_before (c : Dev nD) (t : Fin cfg0.N) : Φ m c t.val = iprop((∃ f, hP c f) ∗ before c (WU m c) (WD m c) (grid0.coords t)) := by
  have h := lt32 t
  unfold Φ before
  rw [coord]
  by_cases e : t.val = 0
  · rw [if_pos (Or.inl e), if_pos e]
  · rw [if_neg (by omega), if_neg e]
theorem Φ_after (c : Dev nD) (t : Fin cfg0.N) : Φ m c (t.val + 1) = iprop((∃ f, hP c f) ∗ afterP c (WU m c) (WD m c) (grid0.coords t)) := by
  have h := lt32 t
  unfold Φ afterP
  rw [coord]
  by_cases e : t.val = 31
  · rw [if_pos (by omega), if_pos e]
  · rw [if_neg (by omega), if_neg e]

/-! ## The grid -/

/-- Window `w`'s block at point `t`, read off its array at the start. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The block of the result left at point `t`. -/
def outAt (c : Dev nD) (t : Fin cfg0.N) : Vec F S1024x2048 .f32 :=
  outV c (WU m c) (WD m c) (iblk m c 0 t) (iblk m c 1 t) (iblk m c 2 t)

def dats (_ : Fin 1) (c : Dev nD) : Dat τ (Elt F) Unit ℕ (Gh nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ n := Φ m c n.val
  q _ := fullShare
  owed _ := 0

theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem after_w2 (c : Dev nD) (t : Fin cfg0.N) : (dats m 0 c).after 2 t = iblk m c 2 t := by dsimp only [dats]
theorem after_w3 (c : Dev nD) (t : Fin cfg0.N) : (dats m 0 c).after 3 t = outAt m c t := by dsimp only [dats]
theorem before_w0 (c : Dev nD) (t : Fin cfg0.N) (d) : (dats m 0 c).before 0 t d = iblk m c 0 t :=
  ((dats m 0 c).before_in_eq_fetched 0 rfl (fun _ => rfl) (fun _ _ _ => rfl) (fun t => by rw [after_w0]; unfold Dat.blockOf iblk; rfl) t d).trans rfl
theorem before_w1 (c : Dev nD) (t : Fin cfg0.N) (d) : (dats m 0 c).before 1 t d = iblk m c 1 t :=
  ((dats m 0 c).before_in_eq_fetched 1 rfl (fun _ => rfl) (fun _ _ _ => rfl) (fun t => by rw [after_w1]; unfold Dat.blockOf iblk; rfl) t d).trans rfl
theorem before_w2 (c : Dev nD) (t : Fin cfg0.N) (d) : (dats m 0 c).before 2 t d = iblk m c 2 t :=
  ((dats m 0 c).before_in_eq_fetched 2 rfl (fun _ => rfl) (fun _ _ _ => rfl) (fun t => by rw [after_w2]; unfold Dat.blockOf iblk; rfl) t d).trans rfl

abbrev hst0 (t : Fin cfg0.N) : (st0_0 t).IsWhole := hstage0_0 ((cfg0.slots t 0).cast nbuf0_0)
abbrev hst1 (t : Fin cfg0.N) : (st0_1 t).IsWhole := hstage0_1 ((cfg0.slots t 1).cast nbuf0_1)
abbrev hst2 (t : Fin cfg0.N) : (st0_2 t).IsWhole := hstage0_2 ((cfg0.slots t 2).cast nbuf0_2)
abbrev hst3 (t : Fin cfg0.N) : (st0_3 t).IsWhole := hstage0_3 ((cfg0.slots t 3).cast nbuf0_3)

theorem prog_eq (t : Fin cfg0.N) : (defs₀ (F := F)) .tc cfg0.body (cfg0.bodyArgs t (cfg0.slots t))
    = bodyG (grid0.coords t) (st0_0 t) (hst0 t) (st0_1 t) (hst1 t) (st0_2 t) (hst2 t) (st0_3 t) (hst3 t) := rfl

set_option backward.isDefEq.respectTransparency.types false in
set_option maxHeartbeats 1000000 in
theorem body_obligation (c : Dev nD) : BodyObligation (dats (F := F) m 0 c) (defs₀ (F := F)) noVar () Set.univ := fun t => by
  rw [bigSep_W0, bigSep_W0]
  dsimp only
  simp only [before_w0, before_w1, before_w2, after_w0, after_w1, after_w2, after_w3]
  rw [show (dats m 0 c).Φ t.castSucc = Φ m c t.val from rfl, show (dats m 0 c).Φ t.succ = Φ m c (t.val + 1) from rfl, Φ_before, Φ_after]
  unfold Dat.owesAt Pipeline.owesWithin
  rw [show (dats m 0 c).owed t.castSucc = 0 from rfl, show (dats m 0 c).owed t.succ = 0 from rfl]
  unfold owns
  iintro ⟨⟨⟨%fh, HH⟩, HT⟩, ⟨%W, -, HW⟩, ⟨%d0, %g0, %hg0, HX⟩, ⟨%d1, %g1, %hg1, HG⟩, ⟨%d2, %g2, %hg2, HF⟩, ⟨%d3, %gO, -, HO⟩⟩
  ihave HX' := (pointsTo_rep_entails (c : Thread nD τ) (st0_0 t) g0 fullShare) $$ HX
  ihave HG' := (pointsTo_rep_entails (c : Thread nD τ) (st0_1 t) g1 fullShare) $$ HG
  ihave HF' := (pointsTo_rep_entails (c : Thread nD τ) (st0_2 t) g2 fullShare) $$ HF
  rw [hg0, hg1, hg2]
  sl_rw [prog_eq t]
  iapply (wp_wand_r Idealize.ShloMosaic.frame (wpE (defs₀ (F := F)) noVar (c : Thread nD τ) none) Set.univ)
  isplitl [HX' HG' HF' HO HH HW HT]
  · iapply (runPoint c (WU m c) (WD m c) (grid0.coords t) (st0_0 t) (hst0 t) (st0_1 t) (hst1 t) (st0_2 t) (hst2 t) (st0_3 t) (hst3 t)
      (iblk m c 0 t) (iblk m c 1 t) (iblk m c 2 t) gO fh W)
    isplitl [HX']; · iexact HX'
    isplitl [HG']; · iexact HG'
    isplitl [HF']; · iexact HF'
    isplitl [HO]; · iexact HO
    isplitl [HH]; · iexact HH
    isplitl [HW]; · iexact HW
    iexact HT
  · iintro %_ ⟨HX, HG, HF, HO, HH, ⟨%W', HW⟩, HT⟩
    isplitl [HH HT]
    · isplitl [HH]; · iexact HH
      iexact HT
    isplitl [HW]
    · iexists W'; isplitr; · ipureintro; exact fun _ _ => Or.inl trivial
      iexact HW
    isplitl [HX]
    · iexists _; isplitr; · ipureintro; exact View.read_rep _ _
      iexact HX
    isplitl [HG]
    · iexists _; isplitr; · ipureintro; exact View.read_rep _ _
      iexact HG
    isplitl [HF]
    · iexists _; isplitr; · ipureintro; exact View.read_rep _ _
      iexact HF
    iexists _; isplitr; · ipureintro; exact View.read_rep _ _
    iexact HO

/-! ## The run -/

def intoΦ (c : Dev nD) : sProp 𝕄 := iprop(bigSep Finset.univ (homeU c (WU m c)) ∗ bigSep Finset.univ (homeD c (WD m c)) ∗ Pipeline.ownSems0 osem c)
def outOfΦ (c : Dev nD) : sProp 𝕄 :=
  iprop((((c : Thread nD τ).loc main_arg2) ↦{fullShare} m ((c : Thread nD τ).loc main_arg2)) ∗ (((c : Thread nD τ).loc main_arg3) ↦{fullShare} m ((c : Thread nD τ).loc main_arg3)))
def u₀ : Gh nD τ := (initOf (Pipeline.cells cfgs Cert.Kernel2Ideal.Gen.cellOf_inj) (Pipeline.launchToks cfgs Cert.Kernel2Ideal.Gen.cellOf_inj), 1)
def finalA (c : Dev nD) (w : Fin cfg0.W) : Buf (Elt F) ((cfg0.win w).arr.view.loc (c : Thread nD τ)) := (dats m 0 c).arrAt w cfg0.N
def QY (c : Dev nD) (s : MemSt nD τ sig (Elt F)) : Prop :=
  s.mem ((c : Thread nD τ).loc main_arg2) = m ((c : Thread nD τ).loc main_arg2) ∧ s.mem ((c : Thread nD τ).loc main_arg3) = m ((c : Thread nD τ).loc main_arg3)
def QC : PUnit × MemSt nD τ sig (Elt F) → Prop := fun r =>
  ∀ c : Dev nD, (∀ w : Fin cfg0.W, r.2.mem ((cfg0.win w).arr.view.loc (c : Thread nD τ)) = finalA m c w) ∧ QY m c r.2

theorem Φ_first (c : Dev nD) : (dats m 0 c).Φ 0 = iprop((∃ f, hP c f) ∗ idle c (WU m c) (WD m c)) := by
  show Φ m c 0 = _
  unfold Φ; rw [if_pos (Or.inl rfl)]
theorem Φ_last (c : Dev nD) : (dats m 0 c).Φ (Fin.last cfg0.N) = iprop((∃ f, hP c f) ∗ idle c (WU m c) (WD m c)) := by
  show Φ m c cfg0.N = _
  unfold Φ; rw [if_pos (Or.inr N_0)]

set_option backward.isDefEq.respectTransparency.types false in
set_option maxHeartbeats 4000000 in
/-- The call runs to its end, the two matrices unchanged, every counter at zero, every array at what the points leave. -/
theorem run_main : θ_run defs (onTc (τ := τ) (main (F := F))) (start m ρ) (fun r => QC m r ∧ r.2.sem = fun _ => 0) :=
  Pipeline.θ_run_region_kit_quiescent cfgs (dats m) () (0 : Fin 1) launch0 ownSemFacts emb defs₀ noVar m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := fun c b => m ((c : Thread nD τ).loc b))
    (hmain := fun c Q => by
      simp only [main, Prog.lift, Prog.bind_op, Prog.bind_ret]
      iintro ⟨Hk, Hb⟩; iapply Hk; iexact Hb)
    (hA := fun _ _ => rfl)
    (X := intoΦ m) (Y := outOfΦ m) (Z := fun _ => iprop(emp))
    (hX := fun c => by
      rw [unscopedRest0_eq, wu_eq m c, wd_eq m c]
      unfold intoΦ
      iintro ⟨⟨H0, H1⟩, HS, -, -, -⟩; imodintro
      isplitl [H0 H1 HS]
      · isplitl [H0]; · iexact H0
        isplitl [H1]; · iexact H1
        iexact HS
      iempintro)
    (hin := fun c => by
      rw [scopedRest0_eq, Φ_first]
      unfold intoΦ idle freeS; rw [ownSems0_eq]
      iintro ⟨⟨H0, H1, HA0, HA1, HB0, HB1⟩, ⟨HH, HU, HD⟩⟩
      ihave Hs := (splitU c) $$ HU
      icases Hs with ⟨HU0, HU1⟩
      ihave Hs := (splitD c) $$ HD
      icases Hs with ⟨HD0, HD1⟩
      icases HH with ⟨%fh, HH⟩
      isplitl [HH]; · iexists fh; iapply (ent_of_eq (h_eq c fh).symm); iexact HH
      isplitl [H0]; · iexact H0
      isplitl [H1]; · iexact H1
      isplitl [HU0 HD0 HA0 HB0]
      · isplitl [HU0]; · iexact HU0
        isplitl [HD0]; · iexact HD0
        isplitl [HA0]; · iexact HA0
        iexact HB0
      isplitl [HU1]; · iexact HU1
      isplitl [HD1]; · iexact HD1
      isplitl [HA1]; · iexact HA1
      iexact HB1)
    (hout := fun c => by
      rw [scopedRest0_eq, Φ_last, ownSems0_eq]
      unfold idle freeS outOfΦ; rw [wu_eq m c, wd_eq m c]
      iintro ⟨HH, H0, H1, ⟨HU0, HD0, HA0, HB0⟩, ⟨HU1, HD1, HA1, HB1⟩⟩
      isplitl [H0 H1]
      · isplitl [H0]; · iexact H0
        iexact H1
      isplitl [HA0 HA1 HB0 HB1]
      · isplitl [HA0]; · iexact HA0
        isplitl [HA1]; · iexact HA1
        isplitl [HB0]; · iexact HB0
        iexact HB1
      icases HH with ⟨%fh, HH⟩
      isplitl [HH]; · iexists fh; iapply (ent_of_eq (h_eq c fh)); iexact HH
      isplitl [HU0 HU1]
      · iapply (joinU c)
        isplitl [HU0]; · iexact HU0
        iexact HU1
      iapply (joinD c)
      isplitl [HD0]; · iexact HD0
      iexact HD1)
    (QY := QY m)
    (hY := fun c s' => by
      unfold outOfΦ
      iintro ⟨⟨H0, H1⟩, -, HSI⟩
      icombine HSI H0 gives %h0
      icombine HSI H1 gives %h1
      imodintro
      isplitr; · ipureintro; exact ⟨Buf.eq_of_forall_mem_univ h0, Buf.eq_of_forall_mem_univ h1⟩
      iexact HSI)
    (hQ := fun _ hh hz => ⟨hh, hz⟩)

theorem finalA_in (c : Dev nD) (w : Fin cfg0.W) (hw : (cfg0.win w).isOut = false) :
    finalA m c w = m ((cfg0.win w).arr.view.loc (c : Thread nD τ)) :=
  (dats (F := F) m 0 c).arrAt_in w hw _

/-- The run with the arguments named. -/
theorem run : θ_run defs (onTc (τ := τ) (main (F := F))) (start m ρ) (fun r => (∀ c : Dev nD,
      r.2.mem ((c : Thread nD τ).loc main_v0) = finalA m c 3
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run defs _ _).mono (fun _ hh => ⟨fun c => ⟨(hh.1 c).1 3, ((hh.1 c).1 0).trans (finalA_in m c 0 rfl), ((hh.1 c).1 1).trans (finalA_in m c 1 rfl),
    (hh.1 c).2.1, (hh.1 c).2.2, ((hh.1 c).1 2).trans (finalA_in m c 2 rfl)⟩, hh.2⟩) (run_main m ρ)

/-- Frame and quiescence. -/
theorem frame : θ_run defs (onTc (τ := τ) (main (F := F))) (start m ρ) (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run defs _ _).mono (fun _ hh => ⟨fun c => (hh.1 c).2, hh.2⟩) (run m ρ)

end Cert.Proof.MlpBody

end
-- ==== Proof.MlpSpec.lean ====
/-
  What the feed-forward call computes, over the extended reals: a row is normalized, taken through the two weight
  matrices with a squared rectifier between them, added to itself and normalized again.
-/
module

public import Idealize.ShloMosaic.Lib.Pointwise

@[expose] public section

noncomputable section

namespace Cert.Spec2

open Idealize.ShloMosaic

/-- The factor a row is normalized by. -/
def scale (y : Fin 2048 → EReal) : EReal :=
  Ideal.rsqrt (Ideal.div (∑ l, y l * y l) (Ideal.ofBits .f32 0x45000000#32) + Ideal.ofBits .f32 0x3727C5AC#32)

/-- A row, normalized and weighed. -/
def normed (y g : Fin 2048 → EReal) (l : Fin 2048) : EReal := y l * scale y * g l

/-- The squared rectifier. -/
def act (z : EReal) : EReal := max z 0 * max z 0

/-- One hidden feature's part in column `e`. -/
def term (h : Fin 2048 → EReal) (wu : Fin 2048 → Fin 8192 → EReal) (wd : Fin 8192 → Fin 2048 → EReal) (e : Fin 2048) (f : Fin 8192) : EReal :=
  act (∑ l, h l * wu l f) * wd f e

/-- A row after the feed-forward layer. -/
def ffn (x h : Fin 2048 → EReal) (wu : Fin 2048 → Fin 8192 → EReal) (wd : Fin 8192 → Fin 2048 → EReal) (e : Fin 2048) : EReal :=
  x e + ∑ f, term h wu wd e f

/-- A row of the result. -/
def out (x g : Fin 2048 → EReal) (wu : Fin 2048 → Fin 8192 → EReal) (wd : Fin 8192 → Fin 2048 → EReal) (fg : Fin 2048 → EReal) (e : Fin 2048) : EReal :=
  normed (ffn x (normed x g) wu wd) fg e

end Cert.Spec2
end
-- ==== Proof.MlpPay.lean ====
/-
  The stored values of the feed-forward call, index by index at the ideal values.
-/
module

public import proofs.«01_k».proof.Proof.MlpSpec
public import proofs.«01_k».proof.Proof.MlpBody

@[expose] public section

set_option maxRecDepth 16384

noncomputable section

namespace Cert.Proof.MlpBody

open Idealize.ShloMosaic Idealize.ShloMosaic.TcCoe Cert.Kernel2Ideal Cert.Kernel2Ideal.Gen Cert.Spec2

/-- A half block's part in a row of the result. -/
def half (h : Vec Ideal S1024x2048 .bf16) (wu : Vec Ideal S2048x512 .bf16) (wd : Vec Ideal S512x2048 .bf16) (r : Fin 1024) (e : Fin 2048) : EReal :=
  ∑ f : Fin 512, act (∑ l : Fin 2048, h (ix2 r l) * wu (ix2 l f)) * wd (ix2 f e)

theorem zeroBits : Ideal.ofBits .f32 0x00000000#32 = 0 := by simp [Ideal.ofBits, Ideal.ieee]

theorem pay15_apply (h : Vec Ideal S1024x2048 .bf16) (wu : Vec Ideal S2048x512 .bf16) (wd : Vec Ideal S512x2048 .bf16) (r : Fin 1024) (e : Fin 2048) :
    k0_pay15 (F := Ideal) h wu wd (ix2 r e) = half h wu wd r e := by
  unfold half act
  pointwise [k0_pay15]

theorem pay2_apply (h : Vec Ideal S1024x2048 .bf16) (wu : Vec Ideal S2048x512 .bf16) (wd : Vec Ideal S512x2048 .bf16) (o : Vec Ideal S1024x2048 .f32) (r : Fin 1024) (e : Fin 2048) :
    k0_pay2 (F := Ideal) h wu wd o (ix2 r e) = o (ix2 r e) + half h wu wd r e := by
  unfold half act
  pointwise [k0_pay2]

theorem pay3_apply (h : Vec Ideal S1024x2048 .bf16) (wu : Vec Ideal S2048x512 .bf16) (wd : Vec Ideal S512x2048 .bf16) (o : Vec Ideal S1024x2048 .f32) (r : Fin 1024) (e : Fin 2048) :
    k0_pay3 (F := Ideal) h wu wd o (ix2 r e) = o (ix2 r e) + half h wu wd r e := by
  unfold half act
  pointwise [k0_pay3]

theorem pay17_apply (h : Vec Ideal S1024x2048 .bf16) (wu : Vec Ideal S2048x512 .bf16) (wd : Vec Ideal S512x2048 .bf16) (o : Vec Ideal S1024x2048 .f32) (r : Fin 1024) (e : Fin 2048) :
    k0_pay17 (F := Ideal) h wu wd o (ix2 r e) = o (ix2 r e) + half h wu wd r e := by
  unfold half act
  pointwise [k0_pay17]

theorem pay16_apply (z x : Vec Ideal S1024x2048 .f32) (r : Fin 1024) (e : Fin 2048) :
    k0_pay16 (F := Ideal) z x (ix2 r e) = x (ix2 r e) + z (ix2 r e) := by
  pointwise [k0_pay16]

theorem pay18_eq (o : Vec Ideal S1024x2048 .f32) : k0_pay18 (F := Ideal) o = o := by
  unfold k0_pay18; exact shapeCast_self _ _

theorem last_apply (o : Vec Ideal S1024x2048 .f32) (fg : Vec Ideal S1x2048 .f32) (r : Fin 1024) (e : Fin 2048) :
    k0_pay1 (F := Ideal) (k0_pay18 o) fg (k0_pay19 o) (Scalar.ofBits .f32 0x45000000#32) (ix2 r e)
      = normed (fun l => o (ix2 r l)) (fun l => fg (ix2 0 l)) e := by
  unfold normed scale
  pointwise [k0_pay1, k0_pay18, k0_pay19]

theorem pay4_apply (x : Vec Ideal S1024x2048 .f32) (r : Fin 1024) :
    k0_pay4 (F := Ideal) x (ix2 r 0) = scale (fun l => x (ix2 r l)) := by
  unfold scale
  pointwise [k0_pay4]

theorem piece5_apply (x : Vec Ideal S1024x2048 .f32) (a : Vec Ideal S1024x256 .f32) (b : Vec Ideal S1x256 .f32) (r : Fin 1024) (j : Fin 256) :
    k0_pay5 (F := Ideal) x a b (ix2 r j) = a (ix2 r j) * k0_pay4 x (ix2 r 0) * b (ix2 0 j) := by
  pointwise [k0_pay5]

theorem piece6_apply (x : Vec Ideal S1024x2048 .f32) (a : Vec Ideal S1024x256 .f32) (b : Vec Ideal S1x256 .f32) (r : Fin 1024) (j : Fin 256) :
    k0_pay6 (F := Ideal) x a b (ix2 r j) = a (ix2 r j) * k0_pay4 x (ix2 r 0) * b (ix2 0 j) := by
  pointwise [k0_pay6]

theorem piece7_apply (x : Vec Ideal S1024x2048 .f32) (a : Vec Ideal S1024x256 .f32) (b : Vec Ideal S1x256 .f32) (r : Fin 1024) (j : Fin 256) :
    k0_pay8 (F := Ideal) (k0_pay7 x a b) (ix2 r j) = a (ix2 r j) * k0_pay4 x (ix2 r 0) * b (ix2 0 j) := by
  pointwise [k0_pay8, k0_pay7]

theorem piece9_apply (q : FVec Ideal S1024x1 .f32) (a : Vec Ideal S1024x256 .f32) (b : Vec Ideal S1x256 .f32) (r : Fin 1024) (j : Fin 256) :
    k0_pay9 (F := Ideal) q a b (ix2 r j) = a (ix2 r j) * q (ix2 r 0) * b (ix2 0 j) := by
  pointwise [k0_pay9]

theorem piece10_apply (q : FVec Ideal S1024x1 .f32) (a : Vec Ideal S1024x256 .f32) (b : Vec Ideal S1x256 .f32) (r : Fin 1024) (j : Fin 256) :
    k0_pay10 (F := Ideal) q a b (ix2 r j) = a (ix2 r j) * q (ix2 r 0) * b (ix2 0 j) := by
  pointwise [k0_pay10]

theorem piece11_apply (q : FVec Ideal S1024x1 .f32) (a : Vec Ideal S1024x256 .f32) (b : Vec Ideal S1x256 .f32) (r : Fin 1024) (j : Fin 256) :
    k0_pay11 (F := Ideal) q a b (ix2 r j) = a (ix2 r j) * q (ix2 r 0) * b (ix2 0 j) := by
  pointwise [k0_pay11]

theorem piece13_apply (q : FVec Ideal S1024x1 .f32) (a : Vec Ideal S1024x256 .f32) (b : Vec Ideal S1x256 .f32) (r : Fin 1024) (j : Fin 256) :
    k0_pay13 (F := Ideal) (k0_pay12 q a) b (ix2 r j) = a (ix2 r j) * q (ix2 r 0) * b (ix2 0 j) := by
  pointwise [k0_pay13, k0_pay12]

theorem piece14_apply (q : FVec Ideal S1024x1 .f32) (a : Vec Ideal S1024x256 .f32) (b : Vec Ideal S1x256 .f32) (r : Fin 1024) (j : Fin 256) :
    k0_pay14 (F := Ideal) q a b (ix2 r j) = a (ix2 r j) * q (ix2 r 0) * b (ix2 0 j) := by
  pointwise [k0_pay14]

end Cert.Proof.MlpBody
end
-- ==== Proof.MlpValue.lean ====
/-
  The block of the result that a point of the feed-forward call leaves: the normalized rows, the hidden features added
  up half a block at a time, and the final normalization.
-/
module

public import proofs.«01_k».proof.Proof.MlpPay
public import Idealize.ShloMosaic.Lib.Pipeline.ReadBack
public import Idealize.ShloMosaic.Lib.Pipeline.ValueKit

@[expose] public section

set_option maxRecDepth 16384

noncomputable section

namespace Cert.Proof.MlpBody

open Idealize.ShloMosaic Idealize.ShloMosaic.TcCoe Cert.Kernel2Ideal Cert.Kernel2Ideal.Gen Cert.Spec2

/-- A value of a rectangle of a matrix, by its place in the matrix. -/
theorem at_unit {n w a b : ℕ} {α : Type} (X : (⟨2, ![n, w]⟩ : Shape).Idx → α) (o0 o1 : ℕ)
    (h : ∀ x, (![o0, o1] : Fin 2 → ℕ) x + (![a, b] : Fin 2 → ℕ) x ≤ (⟨2, ![n, w]⟩ : Shape).size x)
    (r : Fin a) (d : Fin b) (i : Fin n) (j : Fin w) (hi : (i : ℕ) = o0 + r) (hj : (j : ℕ) = o1 + d) :
    X ((Rect.unit (s := ⟨2, ![n, w]⟩) ![o0, o1] ![a, b] h).toLoadRect.idx (ix2 r d)) = X (ix2 i j) := by
  refine congrArg X (funext fun x => Fin.ext ?_)
  refine (Rect.idx_unit_val (s := ⟨2, ![n, w]⟩) _ _ h (ix2 r d) x).trans ?_
  fin_cases x
  · exact hi.symm
  · exact hj.symm

/-- The normalized rows, as one array. -/
def hS (x : Vec Ideal S1024x2048 .f32) (g : Vec Ideal S1x2048 .f32) : Vec Ideal S1024x2048 .bf16 := fun i =>
  normed (fun l => x (ix2 ⟨i 0, (i 0).isLt⟩ l)) (fun l => g (ix2 0 l)) ⟨i 1, (i 1).isLt⟩

theorem h_piece (x : Vec Ideal S1024x2048 .f32) (g : Vec Ideal S1x2048 .f32) (o : ℕ)
    (hx : ∀ a, (![0, o] : Fin 2 → ℕ) a + S1024x256.size a ≤ S1024x2048.size a) (hg : ∀ a, (![0, o] : Fin 2 → ℕ) a + S1x256.size a ≤ S1x2048.size a)
    (p : Vec Ideal S1024x256 .bf16)
    (hp : ∀ (r : Fin 1024) (j : Fin 256), p (ix2 r j) = x ((Rect.unit (s := S1024x2048) ![0, o] S1024x256.size hx).toLoadRect.idx (ix2 r j)) * k0_pay4 (F := Ideal) x (ix2 r 0)
      * g ((Rect.unit (s := S1x2048) ![0, o] S1x256.size hg).toLoadRect.idx (ix2 0 j)))
    (j : (Rect.unit (s := S1024x2048) ![0, o] S1024x256.size hx).shape.Idx) :
    p j = hS x g ((Rect.unit (s := S1024x2048) ![0, o] S1024x256.size hx).emb j) := by
  have e0 : ((Rect.unit (s := S1024x2048) ![0, o] S1024x256.size hx).emb j 0 : ℕ) = 0 + j 0 := Rect.idx_unit_val _ _ _ j 0
  have e1 : ((Rect.unit (s := S1024x2048) ![0, o] S1024x256.size hx).emb j 1 : ℕ) = o + j 1 := Rect.idx_unit_val _ _ _ j 1
  have hj : j = ix2 (⟨j 0, (j 0).isLt⟩ : Fin 1024) (⟨j 1, (j 1).isLt⟩ : Fin 256) := by
    funext a; fin_cases a <;> rfl
  have hlt : o + (j 1 : ℕ) < 2048 := by
    have h1 : o + 256 ≤ 2048 := hx 1
    have h2 : (j 1 : ℕ) < 256 := (j 1).isLt
    omega
  have hr : (⟨(Rect.unit (s := S1024x2048) ![0, o] S1024x256.size hx).emb j 0, ((Rect.unit (s := S1024x2048) ![0, o] S1024x256.size hx).emb j 0).isLt⟩ : Fin 1024) = ⟨j 0, (j 0).isLt⟩ :=
    Fin.ext (e0.trans (Nat.zero_add _))
  have hc : (⟨(Rect.unit (s := S1024x2048) ![0, o] S1024x256.size hx).emb j 1, ((Rect.unit (s := S1024x2048) ![0, o] S1024x256.size hx).emb j 1).isLt⟩ : Fin 2048) = ⟨o + j 1, hlt⟩ := Fin.ext e1
  have hS' : hS x g ((Rect.unit (s := S1024x2048) ![0, o] S1024x256.size hx).emb j)
      = normed (fun l => x (ix2 ⟨j 0, (j 0).isLt⟩ l)) (fun l => g (ix2 0 l)) ⟨o + j 1, hlt⟩ := by
    unfold hS; rw [hr, hc]
  rw [hS']
  refine (congrArg p hj).trans ((hp _ _).trans ?_)
  unfold normed
  rw [pay4_apply]
  refine congrArg₂ (fun a b : EReal => a * b) (congrArg (fun a : EReal => a * _) ?_) ?_
  · exact at_unit (n := 1024) (w := 2048) (a := 1024) (b := 256) x 0 o hx _ _ _ _ (Nat.zero_add _).symm rfl
  · exact at_unit (n := 1) (w := 2048) (a := 1) (b := 256) g 0 o hg 0 _ 0 _ rfl rfl

theorem h_pieces (x : Vec Ideal S1024x2048 .f32) (g : Vec Ideal S1x2048 .f32) : View.PiecesOf (Val := Elt Ideal) (hS x g) (hL x g) := by
  unfold hL
  refine ⟨?_, ?_, ?_, ?_, ?_, ?_, ?_, ?_, trivial⟩
  · exact h_piece x g 1792 _ _ _ fun r j => piece14_apply _ _ _ r j
  · exact h_piece x g 1536 _ _ _ fun r j => piece13_apply _ _ _ r j
  · exact h_piece x g 1280 _ _ _ fun r j => piece11_apply _ _ _ r j
  · exact h_piece x g 1024 _ _ _ fun r j => piece10_apply _ _ _ r j
  · exact h_piece x g 768 _ _ _ fun r j => piece9_apply _ _ _ r j
  · exact h_piece x g 512 _ _ _ fun r j => piece7_apply _ _ _ r j
  · exact h_piece x g 256 _ _ _ fun r j => piece6_apply _ _ _ r j
  · exact h_piece x g 0 _ _ _ fun r j => piece5_apply _ _ _ r j

/-- The rows the hidden features are computed from are the normalized ones. -/
theorem hV_eq (x : Vec Ideal S1024x2048 .f32) (g : Vec Ideal S1x2048 .f32) : hV (F := Ideal) x g = hS x g := by
  unfold hV
  rw [View.read_writes_junk_eq_canon]
  funext j
  exact View.canon_append_of_piecesOf _ [] _ (h_pieces x g) _ (View.cover_of_tiledBy _ ![1024, 256] (by sl_kernel_rfl) _)

/-- Hidden feature `n`'s part, by its number. -/
def part (h : Fin 2048 → EReal) (wu : Fin 2048 → Fin 8192 → EReal) (wd : Fin 8192 → Fin 2048 → EReal) (e : Fin 2048) (n : ℕ) : EReal :=
  if hn : n < 8192 then term h wu wd e ⟨n, hn⟩ else 0

theorem half_eq (h : Vec Ideal S1024x2048 .bf16) (wu : Vec Ideal S2048x512 .bf16) (wd : Vec Ideal S512x2048 .bf16)
    (WU : Fin 2048 → Fin 8192 → EReal) (WD : Fin 8192 → Fin 2048 → EReal) (n0 : ℕ) (hn : n0 + 512 ≤ 8192)
    (hu : ∀ (l : Fin 2048) (f : Fin 512), wu (ix2 l f) = WU l ⟨n0 + f, by omega⟩) (hd : ∀ (f : Fin 512) (e : Fin 2048), wd (ix2 f e) = WD ⟨n0 + f, by omega⟩ e)
    (r : Fin 1024) (e : Fin 2048) :
    half h wu wd r e = ∑ f ∈ Finset.range 512, part (fun l => h (ix2 r l)) WU WD e (n0 + f) := by
  rw [← Fin.sum_univ_eq_sum_range (fun f => part (fun l => h (ix2 r l)) WU WD e (n0 + f)) 512]
  unfold half
  refine Finset.sum_congr rfl fun f _ => ?_
  unfold part
  rw [dif_pos (by omega)]
  unfold term
  rw [hd]
  simp only [hu]

theorem add_half (z : EReal) (φ : ℕ → EReal) (n : ℕ) : z + ∑ f ∈ Finset.range n, φ f + ∑ f ∈ Finset.range 512, φ (n + f) = z + ∑ f ∈ Finset.range (n + 512), φ f := by
  rw [add_assoc, ← Finset.sum_range_add]

variable (c : Dev nD) (XU : Buf (Elt Ideal) (wuM.view.loc (c : Thread nD τ))) (XD : Buf (Elt Ideal) (wdM.view.loc (c : Thread nD τ)))

/-- The weights as functions of a row and a column. -/
def up (l : Fin 2048) (f : Fin 8192) : EReal := (XU : Vec Ideal S2048x8192 .bf16) (ix2 l f)
def down (f : Fin 8192) (e : Fin 2048) : EReal := (XD : Vec Ideal S8192x2048 .bf16) (ix2 f e)

theorem payU_apply (b : Fin 8) (l : Fin 2048) (f : Fin 1024) : payU (F := Ideal) c XU b (ix2 l f) = up c XU l ⟨1024 * b + f, by omega⟩ :=
  at_unit (n := 2048) (w := 8192) (a := 2048) (b := 1024) (XU : Vec Ideal S2048x8192 .bf16) 0 (1024 * b) (ublk_inb b) l f _ _ (Nat.zero_add _).symm rfl

theorem payD_apply (b : Fin 8) (f : Fin 1024) (e : Fin 2048) : payD (F := Ideal) c XD b (ix2 f e) = down c XD ⟨1024 * b + f, by omega⟩ e :=
  at_unit (n := 8192) (w := 2048) (a := 1024) (b := 2048) (XD : Vec Ideal S8192x2048 .bf16) (1024 * b) 0 (dblk_inb b) f e _ _ rfl (Nat.zero_add _).symm

theorem lo_half (h : Vec Ideal S1024x2048 .bf16) (b : Fin 8) (r : Fin 1024) (e : Fin 2048) :
    half h (fun j => payU c XU b (RUlo.toLoadRect.idx j)) (fun j => payD c XD b (RDlo.toLoadRect.idx j)) r e
      = ∑ f ∈ Finset.range 512, part (fun l => h (ix2 r l)) (up c XU) (down c XD) e (1024 * b + f) := by
  refine half_eq h _ _ _ _ (1024 * b) (by omega) (fun l f => ?_) (fun f e => ?_) r e
  · refine (at_unit (n := 2048) (w := 1024) (a := 2048) (b := 512) (payU c XU b) 0 0 _ l f l ⟨f, by omega⟩ (Nat.zero_add _).symm (Nat.zero_add _).symm).trans ?_
    exact payU_apply c XU b l _
  · refine (at_unit (n := 1024) (w := 2048) (a := 512) (b := 2048) (payD c XD b) 0 0 _ f e ⟨f, by omega⟩ e (Nat.zero_add _).symm (Nat.zero_add _).symm).trans ?_
    exact payD_apply c XD b _ e

theorem hi_half (h : Vec Ideal S1024x2048 .bf16) (b : Fin 8) (r : Fin 1024) (e : Fin 2048) :
    half h (fun j => payU c XU b (RUhi.toLoadRect.idx j)) (fun j => payD c XD b (RDhi.toLoadRect.idx j)) r e
      = ∑ f ∈ Finset.range 512, part (fun l => h (ix2 r l)) (up c XU) (down c XD) e (1024 * b + 512 + f) := by
  refine half_eq h _ _ _ _ (1024 * b + 512) (by omega) (fun l f => ?_) (fun f e => ?_) r e
  · refine (at_unit (n := 2048) (w := 1024) (a := 2048) (b := 512) (payU c XU b) 0 512 _ l f l ⟨512 + f, by omega⟩ (Nat.zero_add _).symm rfl).trans ?_
    refine (payU_apply c XU b l _).trans (congrArg (up c XU l) (Fin.ext ?_))
    show 1024 * (b : ℕ) + (512 + f) = 1024 * b + 512 + f
    omega
  · refine (at_unit (n := 1024) (w := 2048) (a := 512) (b := 2048) (payD c XD b) 512 0 _ f e ⟨512 + f, by omega⟩ e rfl (Nat.zero_add _).symm).trans ?_
    refine (payD_apply c XD b _ e).trans (congrArg (fun z => down c XD z e) (Fin.ext ?_))
    show 1024 * (b : ℕ) + (512 + f) = 1024 * b + 512 + f
    omega

/-- The result block after `k` trips: the hidden features of the first `k + 1` blocks are in. -/
theorem oV_apply (x : Vec Ideal S1024x2048 .f32) (g : Vec Ideal S1x2048 .f32) (r : Fin 1024) (e : Fin 2048) : ∀ k : ℕ, k < 8 →
    oV (F := Ideal) c XU XD (hV x g) (o0V c XU XD x g) k (ix2 r e)
      = x (ix2 r e) + ∑ f ∈ Finset.range (1024 * k + 1024), part (fun l => hV (F := Ideal) x g (ix2 r l)) (up c XU) (down c XD) e f
  | 0, _ => by
    unfold oV o0V
    rw [pay17_apply, pay16_apply, pay15_apply, lo_half, hi_half]
    have a := add_half (x (ix2 r e)) (part (fun l => hV (F := Ideal) x g (ix2 r l)) (up c XU) (down c XD) e) 512
    have e1 : ∀ f : ℕ, 1024 * ((0 : Fin 8) : ℕ) + f = f := fun f => by simp
    have e2 : ∀ f : ℕ, 1024 * ((0 : Fin 8) : ℕ) + 512 + f = 512 + f := fun f => by simp
    simp only [e1, e2]
    exact a
  | k + 1, hk => by
    have ih := oV_apply x g r e k (by omega)
    have hb : ((b8 (k + 1) : Fin 8) : ℕ) = k + 1 := Nat.mod_eq_of_lt hk
    unfold oV nextO
    rw [pay3_apply, pay2_apply, ih, lo_half, hi_half, hb]
    have e1 : 1024 * (k + 1) = 1024 * k + 1024 := by omega
    rw [e1, add_half, add_half]

/-- The block of the result that a point leaves. -/
theorem outV_apply (x : Vec Ideal S1024x2048 .f32) (g fg : Vec Ideal S1x2048 .f32) (r : Fin 1024) (e : Fin 2048) :
    outV (F := Ideal) c XU XD x g fg (ix2 r e)
      = out (fun l => x (ix2 r l)) (fun l => g (ix2 0 l)) (up c XU) (down c XD) (fun l => fg (ix2 0 l)) e := by
  unfold outV
  rw [last_apply, seven]
  unfold out
  refine congrArg (fun y => normed y (fun l => fg (ix2 0 l)) e) (funext fun l => ?_)
  rw [oV_apply c XU XD x g r l 7 (by decide)]
  unfold ffn
  refine congrArg (fun z : EReal => x (ix2 r l) + z) ?_
  rw [← Fin.sum_univ_eq_sum_range (part (fun l => hV (F := Ideal) x g (ix2 r l)) (up c XU) (down c XD) l) 8192]
  refine Finset.sum_congr rfl fun f _ => ?_
  unfold part
  rw [dif_pos f.isLt, hV_eq]
  rfl

end Cert.Proof.MlpBody
end
-- ==== Proof.MlpRef.lean ====
/-
  The reference of the feed-forward layer, index by index at the ideal values.
-/
module

public import proofs.«01_k».proof.Proof.MlpSpec
public import proofs.«01_k».proof.Proof.Gen.Reference2Ideal.Run

@[expose] public section

set_option maxRecDepth 16384

noncomputable section

namespace Cert.Reference2Ideal.Hand

open Idealize.ShloMosaic Idealize.ShloMosaic.TcCoe Cert.Reference2Ideal Cert.Reference2Ideal.Gen Cert.Spec2

/-- The reference's normalization of all rows. -/
def normR (x : FVec Ideal S32768x2048 .f32) (g : FVec Ideal S1x2048 .f32) : FVec Ideal S32768x2048 .f32 :=
  mulf (mulf x (broadcastInDim S32768x2048 ![0, 1] bcast_S32768x1_S32768x2048_0_1 (Host.rsqrt (addf (Host.divf (broadcastInDim S32768x1 ![0] bcast_S32768_S32768x1_0 (Host.reduceAdd (mulf x x) (constant S_ .f32 0x00000000#32) reducesTo_S32768x2048_S32768_d1 h_S_)) (broadcastInDim S32768x1 ![] bcast_S_S32768x1 (constant S_ .f32 0x45000000#32))) (broadcastInDim S32768x1 ![] bcast_S_S32768x1 (constant S_ .f32 0x3727C5AC#32)))))) (broadcastInDim S32768x2048 ![0, 1] bcast_S1x2048_S32768x2048_0_1 g)

/-- The hidden features, rectified. -/
def hidR (h : FVec Ideal S32768x2048 .f32) (wu : FVec Ideal S2048x8192 .bf16) : FVec Ideal S32768x8192 .f32 :=
  maximumf (Host.dotGeneral dot_S32768x2048_S2048x8192_S32768x8192_1_0_0_1_n_n none h (extf .f32 wu bitsLt_bf16_f32)) (broadcastInDim S32768x8192 ![] bcast_S_S32768x8192 (constant S_ .f32 0x00000000#32))

/-- The rows after the feed-forward layer. -/
def ffnR (x h : FVec Ideal S32768x2048 .f32) (wu : FVec Ideal S2048x8192 .bf16) (wd : FVec Ideal S8192x2048 .bf16) : FVec Ideal S32768x2048 .f32 :=
  addf x (Host.dotGeneral dot_S32768x8192_S8192x2048_S32768x2048_1_0_0_1_n_n none (mulf (hidR h wu) (hidR h wu)) (extf .f32 wd bitsLt_bf16_f32))

theorem normR_apply (x : FVec Ideal S32768x2048 .f32) (g : FVec Ideal S1x2048 .f32) (n : Fin 32768) (e : Fin 2048) :
    normR x g (ix2 n e) = normed (fun l => x (ix2 n l)) (fun l => g (ix2 0 l)) e := by
  unfold normed scale
  pointwise [normR]

theorem hidR_apply (h : FVec Ideal S32768x2048 .f32) (wu : FVec Ideal S2048x8192 .bf16) (n : Fin 32768) (f : Fin 8192) :
    hidR h wu (ix2 n f) = max (∑ l : Fin 2048, h (ix2 n l) * wu (ix2 l f)) 0 := by
  pointwise [hidR]

theorem ffnR_apply (x h : FVec Ideal S32768x2048 .f32) (wu : FVec Ideal S2048x8192 .bf16) (wd : FVec Ideal S8192x2048 .bf16) (n : Fin 32768) (e : Fin 2048) :
    ffnR x h wu wd (ix2 n e) = x (ix2 n e) + ∑ f : Fin 8192, hidR h wu (ix2 n f) * hidR h wu (ix2 n f) * wd (ix2 f e) := by
  pointwise [ffnR]

theorem all_apply (x : FVec Ideal S32768x2048 .f32) (g : FVec Ideal S1x2048 .f32) (wu : FVec Ideal S2048x8192 .bf16) (wd : FVec Ideal S8192x2048 .bf16) (fg : FVec Ideal S1x2048 .f32)
    (n : Fin 32768) (e : Fin 2048) :
    normR (ffnR x (normR x g) wu wd) fg (ix2 n e)
      = out (fun l => x (ix2 n l)) (fun l => g (ix2 0 l)) (fun l f => wu (ix2 l f)) (fun f l => wd (ix2 f l)) (fun l => fg (ix2 0 l)) e := by
  rw [normR_apply]
  unfold out
  refine congrArg (fun y => normed y (fun l => fg (ix2 0 l)) e) (funext fun l => ?_)
  rw [ffnR_apply]
  unfold ffn
  refine congrArg (fun z : EReal => (x (ix2 n l) : EReal) + z) (Finset.sum_congr rfl fun f _ => ?_)
  rw [hidR_apply]
  simp only [normR_apply]
  rfl

theorem ref_apply (m : (ℓ : Loc nD τ sig) → Buf (Elt Ideal) ℓ) (c : Dev nD) (n : Fin 32768) (e : Fin 2048) :
    (Cert.Reference2Ideal.Value.res_main_v30 m c : FVec Ideal S32768x2048 .f32) (ix2 n e)
      = out (fun l => (m ((c.tc : Thread nD τ).loc main_arg0) : FVec Ideal S32768x2048 .f32) (ix2 n l)) (fun l => (m ((c.tc : Thread nD τ).loc main_arg1) : FVec Ideal S1x2048 .f32) (ix2 0 l))
          (fun l f => (m ((c.tc : Thread nD τ).loc main_arg2) : FVec Ideal S2048x8192 .bf16) (ix2 l f)) (fun f l => (m ((c.tc : Thread nD τ).loc main_arg3) : FVec Ideal S8192x2048 .bf16) (ix2 f l))
          (fun l => (m ((c.tc : Thread nD τ).loc main_arg4) : FVec Ideal S1x2048 .f32) (ix2 0 l)) e := by
  have h : (Cert.Reference2Ideal.Value.res_main_v30 m c : FVec Ideal S32768x2048 .f32)
      = normR (ffnR (m ((c.tc : Thread nD τ).loc main_arg0)) (normR (m ((c.tc : Thread nD τ).loc main_arg0)) (m ((c.tc : Thread nD τ).loc main_arg1)))
          (m ((c.tc : Thread nD τ).loc main_arg2)) (m ((c.tc : Thread nD τ).loc main_arg3))) (m ((c.tc : Thread nD τ).loc main_arg4)) := by
    unfold Cert.Reference2Ideal.Value.res_main_v30 normR ffnR hidR
    rfl
  rw [h]
  exact all_apply _ _ _ _ _ n e

end Cert.Reference2Ideal.Hand
end
-- ==== Proof.MlpFin.lean ====
/-
  The feed-forward call and its reference end with the same array.
-/
module

public import proofs.«01_k».proof.Proof.MlpRun
public import proofs.«01_k».proof.Proof.MlpValue
public import proofs.«01_k».proof.Proof.MlpRef
public import Idealize.ShloMosaic.Lib.Quiescent

@[expose] public section

set_option maxRecDepth 16384

noncomputable section

namespace Cert.Proof.MlpBody

open Idealize.ShloMosaic Idealize.ShloMosaic.TcCoe Idealize.SL.Sem Cert.Kernel2Ideal Cert.Kernel2Ideal.Gen

variable (m : (ℓ : Loc nD τ sig) → Buf (Elt Ideal) ℓ)

/-- The block of every window at every grid point. -/
theorem place : ∀ t : Fin cfg0.N, win0_0.index t = ![t.val, 0] ∧ win0_1.index t = ![0, 0] ∧ win0_2.index t = ![0, 0] ∧ win0_3.index t = ![t.val, 0] :=
  (by decide +kernel : ∀ t : Fin grid0.N, _)

theorem point_lt (t : Fin cfg0.N) : t.val < 32 := lt_of_lt_of_eq t.isLt (by decide)

theorem rows_x (c : Dev nD) (t : Fin cfg0.N) (r : Fin 1024) (l : Fin 2048) :
    iblk m c 0 t (ix2 r l) = m ((c : Thread nD τ).loc main_arg0) (ix2 ⟨1024 * t + r, by have := point_lt t; omega⟩ l) := by
  have ht := point_lt t
  blk_ext! [iblk, V, place t]

theorem weights_g (c : Dev nD) (t : Fin cfg0.N) (l : Fin 2048) : iblk m c 1 t (ix2 0 l) = m ((c : Thread nD τ).loc main_arg1) (ix2 0 l) := by
  blk_ext! [iblk, V, place t]

theorem weights_f (c : Dev nD) (t : Fin cfg0.N) (l : Fin 2048) : iblk m c 2 t (ix2 0 l) = m ((c : Thread nD τ).loc main_arg4) (ix2 0 l) := by
  blk_ext! [iblk, V, place t]

/-- Row `n` of the result as the specification has it. -/
def specRow (c : Dev nD) (n : Fin 32768) (e : Fin 2048) : EReal :=
  Cert.Spec2.out (fun l => (m ((c : Thread nD τ).loc main_arg0) : Vec Ideal S32768x2048 .f32) (ix2 n l)) (fun l => (m ((c : Thread nD τ).loc main_arg1) : Vec Ideal S1x2048 .f32) (ix2 0 l))
    (fun l f => (m ((c : Thread nD τ).loc main_arg2) : Vec Ideal S2048x8192 .bf16) (ix2 l f)) (fun f l => (m ((c : Thread nD τ).loc main_arg3) : Vec Ideal S8192x2048 .bf16) (ix2 f l))
    (fun l => (m ((c : Thread nD τ).loc main_arg4) : Vec Ideal S1x2048 .f32) (ix2 0 l)) e

/-- The specification as the array the kernel returns. -/
def specAll (c : Dev nD) : Vec Ideal S32768x2048 .f32 := fun i => specRow m c ⟨i 0, (i 0).isLt⟩ ⟨i 1, (i 1).isLt⟩

theorem outAt_apply (c : Dev nD) (t : Fin cfg0.N) (r : Fin 1024) (e : Fin 2048) :
    outAt (F := Ideal) m c t (ix2 r e) = specRow m c ⟨1024 * t + r, by have := point_lt t; omega⟩ e := by
  unfold outAt
  refine (outV_apply c (WU m c) (WD m c) (iblk m c 0 t) (iblk m c 1 t) (iblk m c 2 t) r e).trans ?_
  unfold specRow
  have h0 : (fun l : Fin 2048 => (iblk m c 0 t : Vec Ideal S1024x2048 .f32) (ix2 r l)) = fun l => (m ((c : Thread nD τ).loc main_arg0) : Vec Ideal S32768x2048 .f32) (ix2 ⟨1024 * t + r, by have := point_lt t; omega⟩ l) :=
    funext fun l => rows_x m c t r l
  have h1 : (fun l : Fin 2048 => (iblk m c 1 t : Vec Ideal S1x2048 .f32) (ix2 0 l)) = fun l => (m ((c : Thread nD τ).loc main_arg1) : Vec Ideal S1x2048 .f32) (ix2 0 l) :=
    funext fun l => weights_g m c t l
  have h2 : (fun l : Fin 2048 => (iblk m c 2 t : Vec Ideal S1x2048 .f32) (ix2 0 l)) = fun l => (m ((c : Thread nD τ).loc main_arg4) : Vec Ideal S1x2048 .f32) (ix2 0 l) :=
    funext fun l => weights_f m c t l
  exact (congrFun (congr (congrFun (congrFun (congrArg₂ Cert.Spec2.out h0 h1) _) _) h2) e)

theorem finalA_eq (c : Dev nD) : finalA m c 3 = specAll m c := by
  unfold finalA
  refine (dats m 0 c).arrAt_eq_of_covers 3 _ (by decide +kernel) fun t hff y => ?_
  have ht := point_lt t
  have h := place t
  idx_vars y
  blk_simp
  rw [after_w3]
  refine (outAt_apply m c t y0 y1).trans ?_
  have h3 := h.2.2.2
  have e0 : ((win0_3.blk t).view.emb (ix2 y0 y1) 0 : ℕ) = t.val * 1024 + y0 := by blk_simp [h3]
  have e1 : ((win0_3.blk t).view.emb (ix2 y0 y1) 1 : ℕ) = y1 := by blk_simp [h3]
  unfold specAll
  refine congrArg₂ (specRow m c) (Fin.ext ?_) (Fin.ext ?_)
  · show 1024 * t.val + (y0 : ℕ) = _
    simp only [e0]; omega
  · exact e1.symm

end Cert.Proof.MlpBody

namespace Cert.Proof

open Idealize.ShloMosaic Idealize.ShloMosaic.TcCoe Idealize.SL.Sem

theorem ref2_arr (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev Cert.Kernel2Ideal.nD)
    (h : ∀ (n : Fin 32768) (e : Fin 2048), (Cert.Reference2Ideal.Value.res_main_v30 m' c : Vec Ideal Cert.Reference2Ideal.S32768x2048 .f32) (ix2 n e) = MlpBody.specRow m c n e) :
    (Cert.Reference2Ideal.Value.res_main_v30 m' c : Vec Ideal Cert.Reference2Ideal.S32768x2048 .f32) = MlpBody.specAll m c := by
  funext j
  idx_vars j
  exact h j0 j1

/-- The feed-forward call and its reference end with the same array. -/
theorem algebraic2 : Cert.algebraic_Kernel2Ideal_Reference2Ideal := by
  intro m ρ m' ρ' _ hagree
  refine ⟨fun c => MlpBody.specAll m c, ?_, ?_⟩
  · exact (θ_run Cert.Kernel2Ideal.defs _ _).mono
      (fun _ h c => ⟨(h.1 c).1.trans (MlpBody.finalA_eq m c), (h.1 c).2⟩) (MlpBody.run (F := Ideal) m ρ)
  · refine (θ_run Cert.Reference2Ideal.defs _ _).mono (fun _ h c => ⟨(h c).1.trans (ref2_arr m m' c fun n e => ?_), (h c).2⟩)
      (Cert.Reference2Ideal.Value.run (F := Ideal) m' ρ')
    refine (Cert.Reference2Ideal.Hand.ref_apply m' c n e).trans ?_
    obtain ⟨h0, h1, h2, h3, h4⟩ := hagree c
    rw [h0, h1, h2, h3, h4]
    rfl

end Cert.Proof
end
-- ==== Proof.MlpBody3.lean ====
/-
  The feed-forward call without the final normalization, one point of its grid. Eight blocks of the two weight matrices stream through a pair of
  buffers; at any moment at most one block (one column block of `w_up`, the matching row block of `w_down`) is on its
  way into one slot of the pair, the other slot being read. The state between two steps is therefore told by the number
  of the block on its way (`pend`), or by nothing being on its way (`idle`).
-/
module

public import proofs.«01_k».proof.Defs
public import proofs.«01_k».proof.Proof.Gen.Kernel3Ideal.Launch
public import proofs.«01_k».proof.Proof.Gen.Kernel3Ideal.Skeleton
public import proofs.«01_k».proof.Proof.Gen.Kernel3Ideal.Loops
public import proofs.«01_k».proof.Proof.Gen.Kernel3Ideal.Points
public import Idealize.ShloMosaic.Lib.Pipeline.KitQuiescent
public import Idealize.ShloMosaic.Lib.Ring
public import Idealize.ShloMosaic.Lib.VecWindow
public import Idealize.ShloMosaic.Lib.Affine
public import Idealize.ShloMosaic.Lib.Tactic

@[expose] public section

noncomputable section

namespace Cert.Proof.MlpBody3

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The ghost state: the staging pipeline's, and counters for the kernel's own copies. -/
abbrev Gh (nD : Nat) (τ : Topo) : Type := UR sig nD τ × Counters
local notation "𝕄" => MT nD τ sig Unit (Elt F) ℕ (Gh nD τ) ℕ
abbrev noVar : Variants := Variants.none

omit [FloatOps F] in
theorem ent_of_eq {P Q : sProp 𝕄} (e : P = Q) : P ⊢ Q := by subst e; exact .rfl

/-! ## Names of the blocks, the slots and the semaphores -/

/-- Block number `n`, counted round the eight. -/
def b8 (n : ℕ) : Fin 8 := ⟨n % 8, Nat.mod_lt _ (by decide)⟩
/-- Slot number `n`, counted round the two. -/
def s2 (n : ℕ) : Fin 2 := ⟨n % 2, Nat.mod_lt _ (by decide)⟩

abbrev wuM : Memref sig .tc .hbm S2048x8192 .bf16 := Memref.whole main_arg2
abbrev wdM : Memref sig .tc .hbm S8192x2048 .bf16 := Memref.whole main_arg3
abbrev hM : Memref sig .tc .vmem S1024x2048 .bf16 := Memref.whole cc0_scratch0
abbrev ubM : Memref sig .tc .vmem S2x2048x1024 .bf16 := Memref.whole cc0_scratch1
abbrev dbM : Memref sig .tc .vmem S2x1024x2048 .bf16 := Memref.whole cc0_scratch2

abbrev ublkOff (b : Fin 8) : Fin 2 → Nat := ![0, 1024 * b.val]
abbrev dblkOff (b : Fin 8) : Fin 2 → Nat := ![1024 * b.val, 0]
abbrev slOff (s : Fin 2) : Fin 3 → Nat := ![s.val, 0, 0]
abbrev semOff (a s : Fin 2) : Fin 2 → Nat := ![a.val, s.val]
theorem ublk_inb : ∀ (b : Fin 8) a, ublkOff b a + S2048x1024.size a ≤ S2048x8192.size a := by decide +kernel
theorem dblk_inb : ∀ (b : Fin 8) a, dblkOff b a + S1024x2048.size a ≤ S8192x2048.size a := by decide +kernel
theorem usl_inb : ∀ (s : Fin 2) a, slOff s a + S1x2048x1024.size a ≤ S2x2048x1024.size a := by decide +kernel
theorem dsl_inb : ∀ (s : Fin 2) a, slOff s a + S1x1024x2048.size a ≤ S2x1024x2048.size a := by decide +kernel
theorem sem_inb : ∀ (a s : Fin 2) i, semOff a s i + S1x1.size i ≤ S2x2.size i := by decide +kernel

/-- Column block `b` of `w_up`. -/
def ublk (b : Fin 8) : Memref sig .tc .hbm S2048x1024 .bf16 :=
  wuM.slice (Rect.unit (s := S2048x8192) (ublkOff b) S2048x1024.size (ublk_inb b)) (fun _ => rfl)
/-- Row block `b` of `w_down`. -/
def dblk (b : Fin 8) : Memref sig .tc .hbm S1024x2048 .bf16 :=
  wdM.slice (Rect.unit (s := S8192x2048) (dblkOff b) S1024x2048.size (dblk_inb b)) (fun _ => rfl)
/-- Slot `s` of the buffer of `w_up`'s blocks. -/
def usl (s : Fin 2) : Memref sig .tc .vmem S2048x1024 .bf16 :=
  (ubM.slice (Rect.unit (s := S2x2048x1024) (slOff s) S1x2048x1024.size (usl_inb s)) (fun _ => rfl)).squeeze S2048x1024 squeezes_S1x2048x1024_S2048x1024
/-- Slot `s` of the buffer of `w_down`'s blocks. -/
def dsl (s : Fin 2) : Memref sig .tc .vmem S1024x2048 .bf16 :=
  (dbM.slice (Rect.unit (s := S2x1024x2048) (slOff s) S1x1024x2048.size (dsl_inb s)) (fun _ => rfl)).squeeze S1024x2048 squeezes_S1x1024x2048_S1024x2048
/-- The semaphore of slot `s` of the buffer `a` (0 for `w_up`, 1 for `w_down`). -/
def csm (a s : Fin 2) : DmaSems sig S_ :=
  (cc0_scratch3.slice (Rect.unit (s := S2x2) (semOff a s) S1x1.size (sem_inb a s))).squeeze S_ squeezes_S1x1_S_

instance (b : Fin 8) : ClosedOff (ublkOff b) := ⟨ublkOff b, rfl⟩
instance (b : Fin 8) : ClosedOff (dblkOff b) := ⟨dblkOff b, rfl⟩
instance (s : Fin 2) : ClosedOff (slOff s) := ⟨slOff s, rfl⟩

abbrev Trip := Fin k0_t1_loop.trips

theorem off1_eq : ∀ k : Trip, k0_off1 k = semOff 0 (s2 (k.val + 1)) := by decide +kernel
theorem off2_eq : ∀ k : Trip, k0_off2 k = slOff (s2 (k.val + 1)) := by decide +kernel
theorem off3_eq : ∀ k : Trip, k0_off3 k = ublkOff (b8 (k.val + 1)) := by decide +kernel
theorem off4_eq : ∀ k : Trip, k0_off4 k = semOff 1 (s2 (k.val + 1)) := by decide +kernel
theorem off5_eq : ∀ k : Trip, k0_off5 k = slOff (s2 (k.val + 1)) := by decide +kernel
theorem off6_eq : ∀ k : Trip, k0_off6 k = dblkOff (b8 (k.val + 1)) := by decide +kernel
theorem off7_eq : ∀ k : Trip, k0_off7 k = semOff 0 (s2 (k.val + 2)) := by decide +kernel
theorem off8_eq : ∀ k : Trip, k0_off8 k = slOff (s2 (k.val + 2)) := by decide +kernel
theorem off9_eq : ∀ k : Trip, k0_off9 k = ublkOff (b8 (k.val + 2)) := by decide +kernel
theorem off10_eq : ∀ k : Trip, k0_off10 k = semOff 1 (s2 (k.val + 2)) := by decide +kernel
theorem off11_eq : ∀ k : Trip, k0_off11 k = slOff (s2 (k.val + 2)) := by decide +kernel
theorem off12_eq : ∀ k : Trip, k0_off12 k = dblkOff (b8 (k.val + 2)) := by decide +kernel

instance (k : Trip) : ClosedOff (k0_off2 k) := ⟨slOff (s2 (k.val + 1)), off2_eq k⟩
instance (k : Trip) : ClosedOff (k0_off5 k) := ⟨slOff (s2 (k.val + 1)), off5_eq k⟩

/-! ### The body's slices under these names -/

section Canon

private theorem csm_of {off : Fin 2 → Nat} {a s : Fin 2} (e : off = semOff a s) (hh) :
    (cc0_scratch3.slice (Rect.unit (s := S2x2) off S1x1.size hh)).squeeze S_ squeezes_S1x1_S_ = csm a s :=
  congrArg (fun A : DmaSems sig S1x1 => A.squeeze S_ squeezes_S1x1_S_) (SemArray.slice_unit_congr _ e _ _)
private theorem usl_of {off : Fin 3 → Nat} {s : Fin 2} (e : off = slOff s) (hh hs) :
    (ubM.slice (Rect.unit (s := S2x2048x1024) off S1x2048x1024.size hh) hs).squeeze S2048x1024 squeezes_S1x2048x1024_S2048x1024 = usl s :=
  congrArg (fun M : Memref sig .tc .vmem S1x2048x1024 .bf16 => M.squeeze S2048x1024 squeezes_S1x2048x1024_S2048x1024) (Memref.slice_unit_congr _ e _ _ _ _)
private theorem dsl_of {off : Fin 3 → Nat} {s : Fin 2} (e : off = slOff s) (hh hs) :
    (dbM.slice (Rect.unit (s := S2x1024x2048) off S1x1024x2048.size hh) hs).squeeze S1024x2048 squeezes_S1x1024x2048_S1024x2048 = dsl s :=
  congrArg (fun M : Memref sig .tc .vmem S1x1024x2048 .bf16 => M.squeeze S1024x2048 squeezes_S1x1024x2048_S1024x2048) (Memref.slice_unit_congr _ e _ _ _ _)
private theorem ublk_of {off : Fin 2 → Nat} {b : Fin 8} (e : off = ublkOff b) (hh hs) :
    wuM.slice (Rect.unit (s := S2048x8192) off S2048x1024.size hh) hs = ublk b := Memref.slice_unit_congr _ e _ (ublk_inb b) _ (fun _ => rfl)
private theorem dblk_of {off : Fin 2 → Nat} {b : Fin 8} (e : off = dblkOff b) (hh hs) :
    wdM.slice (Rect.unit (s := S8192x2048) off S1024x2048.size hh) hs = dblk b := Memref.slice_unit_congr _ e _ (dblk_inb b) _ (fun _ => rfl)

@[sl_canon] theorem sem00 (hh) : (cc0_scratch3.slice (Rect.unit (s := S2x2) ![0, 0] S1x1.size hh)).squeeze S_ squeezes_S1x1_S_ = csm 0 0 := csm_of (by decide) _
@[sl_canon] theorem sem01 (hh) : (cc0_scratch3.slice (Rect.unit (s := S2x2) ![0, 1] S1x1.size hh)).squeeze S_ squeezes_S1x1_S_ = csm 0 1 := csm_of (by decide) _
@[sl_canon] theorem sem10 (hh) : (cc0_scratch3.slice (Rect.unit (s := S2x2) ![1, 0] S1x1.size hh)).squeeze S_ squeezes_S1x1_S_ = csm 1 0 := csm_of (by decide) _
@[sl_canon] theorem sem11 (hh) : (cc0_scratch3.slice (Rect.unit (s := S2x2) ![1, 1] S1x1.size hh)).squeeze S_ squeezes_S1x1_S_ = csm 1 1 := csm_of (by decide) _
@[sl_canon] theorem usl0 (hh hs) : (ubM.slice (Rect.unit (s := S2x2048x1024) ![0, 0, 0] S1x2048x1024.size hh) hs).squeeze S2048x1024 squeezes_S1x2048x1024_S2048x1024 = usl 0 := usl_of (by decide) _ _
@[sl_canon] theorem usl1 (hh hs) : (ubM.slice (Rect.unit (s := S2x2048x1024) ![1, 0, 0] S1x2048x1024.size hh) hs).squeeze S2048x1024 squeezes_S1x2048x1024_S2048x1024 = usl 1 := usl_of (by decide) _ _
@[sl_canon] theorem dsl0 (hh hs) : (dbM.slice (Rect.unit (s := S2x1024x2048) ![0, 0, 0] S1x1024x2048.size hh) hs).squeeze S1024x2048 squeezes_S1x1024x2048_S1024x2048 = dsl 0 := dsl_of (by decide) _ _
@[sl_canon] theorem dsl1 (hh hs) : (dbM.slice (Rect.unit (s := S2x1024x2048) ![1, 0, 0] S1x1024x2048.size hh) hs).squeeze S1024x2048 squeezes_S1x1024x2048_S1024x2048 = dsl 1 := dsl_of (by decide) _ _
@[sl_canon] theorem ublk0 (hh hs) : wuM.slice (Rect.unit (s := S2048x8192) ![0, 0] S2048x1024.size hh) hs = ublk 0 := ublk_of (by decide) _ _
@[sl_canon] theorem ublk1 (hh hs) : wuM.slice (Rect.unit (s := S2048x8192) ![0, 1024] S2048x1024.size hh) hs = ublk 1 := ublk_of (by decide) _ _
@[sl_canon] theorem dblk0 (hh hs) : wdM.slice (Rect.unit (s := S8192x2048) ![0, 0] S1024x2048.size hh) hs = dblk 0 := dblk_of (by decide) _ _
@[sl_canon] theorem dblk1 (hh hs) : wdM.slice (Rect.unit (s := S8192x2048) ![1024, 0] S1024x2048.size hh) hs = dblk 1 := dblk_of (by decide) _ _

@[sl_canon] theorem semUk (k : Trip) (hh) : (cc0_scratch3.slice (Rect.unit (s := S2x2) (k0_off1 k) S1x1.size hh)).squeeze S_ squeezes_S1x1_S_ = csm 0 (s2 (k.val + 1)) := csm_of (off1_eq k) _
@[sl_canon] theorem semDk (k : Trip) (hh) : (cc0_scratch3.slice (Rect.unit (s := S2x2) (k0_off4 k) S1x1.size hh)).squeeze S_ squeezes_S1x1_S_ = csm 1 (s2 (k.val + 1)) := csm_of (off4_eq k) _
@[sl_canon] theorem semUn (k : Trip) (hh) : (cc0_scratch3.slice (Rect.unit (s := S2x2) (k0_off7 k) S1x1.size hh)).squeeze S_ squeezes_S1x1_S_ = csm 0 (s2 (k.val + 2)) := csm_of (off7_eq k) _
@[sl_canon] theorem semDn (k : Trip) (hh) : (cc0_scratch3.slice (Rect.unit (s := S2x2) (k0_off10 k) S1x1.size hh)).squeeze S_ squeezes_S1x1_S_ = csm 1 (s2 (k.val + 2)) := csm_of (off10_eq k) _
@[sl_canon] theorem uslk (k : Trip) (hh hs) : (ubM.slice (Rect.unit (s := S2x2048x1024) (k0_off2 k) S1x2048x1024.size hh) hs).squeeze S2048x1024 squeezes_S1x2048x1024_S2048x1024 = usl (s2 (k.val + 1)) := usl_of (off2_eq k) _ _
@[sl_canon] theorem usln (k : Trip) (hh hs) : (ubM.slice (Rect.unit (s := S2x2048x1024) (k0_off8 k) S1x2048x1024.size hh) hs).squeeze S2048x1024 squeezes_S1x2048x1024_S2048x1024 = usl (s2 (k.val + 2)) := usl_of (off8_eq k) _ _
@[sl_canon] theorem dslk (k : Trip) (hh hs) : (dbM.slice (Rect.unit (s := S2x1024x2048) (k0_off5 k) S1x1024x2048.size hh) hs).squeeze S1024x2048 squeezes_S1x1024x2048_S1024x2048 = dsl (s2 (k.val + 1)) := dsl_of (off5_eq k) _ _
@[sl_canon] theorem dsln (k : Trip) (hh hs) : (dbM.slice (Rect.unit (s := S2x1024x2048) (k0_off11 k) S1x1024x2048.size hh) hs).squeeze S1024x2048 squeezes_S1x1024x2048_S1024x2048 = dsl (s2 (k.val + 2)) := dsl_of (off11_eq k) _ _
@[sl_canon] theorem ublkk (k : Trip) (hh hs) : wuM.slice (Rect.unit (s := S2048x8192) (k0_off3 k) S2048x1024.size hh) hs = ublk (b8 (k.val + 1)) := ublk_of (off3_eq k) _ _
@[sl_canon] theorem ublkn (k : Trip) (hh hs) : wuM.slice (Rect.unit (s := S2048x8192) (k0_off9 k) S2048x1024.size hh) hs = ublk (b8 (k.val + 2)) := ublk_of (off9_eq k) _ _
@[sl_canon] theorem dblkk (k : Trip) (hh hs) : wdM.slice (Rect.unit (s := S8192x2048) (k0_off6 k) S1024x2048.size hh) hs = dblk (b8 (k.val + 1)) := dblk_of (off6_eq k) _ _
@[sl_canon] theorem dblkn (k : Trip) (hh hs) : wdM.slice (Rect.unit (s := S8192x2048) (k0_off12 k) S1024x2048.size hh) hs = dblk (b8 (k.val + 2)) := dblk_of (off12_eq k) _ _

end Canon

/-! ## What is held -/

section Held
variable (c : Dev nD) (XU : Buf (Elt F) (wuM.view.loc (c : Thread nD τ))) (XD : Buf (Elt F) (wdM.view.loc (c : Thread nD τ)))

abbrev cellP (a s : Fin 2) : sProp 𝕄 := semVal ((c : Thread nD τ), SemLoc.dma (csm a s).sem) 0
abbrev slotU (s : Fin 2) (f : Buf (Elt F) ((usl s).view.loc (c : Thread nD τ))) : sProp 𝕄 :=
  (usl s).view.loc (c : Thread nD τ) ↦[(usl s).view.set]{fullShare} f
abbrev slotD (s : Fin 2) (f : Buf (Elt F) ((dsl s).view.loc (c : Thread nD τ))) : sProp 𝕄 :=
  (dsl s).view.loc (c : Thread nD τ) ↦[(dsl s).view.set]{fullShare} f
abbrev homeU (b : Fin 8) : sProp 𝕄 := (ublk b).view.loc (c : Thread nD τ) ↦[(ublk b).view.set]{fullShare} XU
abbrev homeD (b : Fin 8) : sProp 𝕄 := (dblk b).view.loc (c : Thread nD τ) ↦[(dblk b).view.set]{fullShare} XD
/-- Block `b` of `w_up` as values, and of `w_down`. -/
abbrev payU (b : Fin 8) : S2048x1024.Idx → Elt F .bf16 := ReadAs.same.apply ((ublk b).view.read (Elt F) XU)
abbrev payD (b : Fin 8) : S1024x2048.Idx → Elt F .bf16 := ReadAs.same.apply ((dblk b).view.read (Elt F) XD)
abbrev landU (s : Fin 2) (b : Fin 8) (f : Buf (Elt F) ((usl s).view.loc (c : Thread nD τ))) : Buf (Elt F) ((usl s).view.loc (c : Thread nD τ)) :=
  (usl s).view.writes (Elt F) f [⟨Rect.whole S2048x1024, payU c XU b⟩]
abbrev landD (s : Fin 2) (b : Fin 8) (f : Buf (Elt F) ((dsl s).view.loc (c : Thread nD τ))) : Buf (Elt F) ((dsl s).view.loc (c : Thread nD τ)) :=
  (dsl s).view.writes (Elt F) f [⟨Rect.whole S1024x2048, payD c XD b⟩]
/-- Block `b` on its way into slot `s`. -/
abbrev flyU (s : Fin 2) (b : Fin 8) (f : Buf (Elt F) ((usl s).view.loc (c : Thread nD τ))) : sProp 𝕄 :=
  Transfers.Flight countersEmb (c : Thread nD τ) (SemLoc.dma (csm 0 s).sem) () 131072 iprop(slotU c s (landU c XU s b f) ∗ homeU c XU b)
abbrev flyD (s : Fin 2) (b : Fin 8) (f : Buf (Elt F) ((dsl s).view.loc (c : Thread nD τ))) : sProp 𝕄 :=
  Transfers.Flight countersEmb (c : Thread nD τ) (SemLoc.dma (csm 1 s).sem) () 131072 iprop(slotD c s (landD c XD s b f) ∗ homeD c XD b)

/-- Slot `s` free: both buffers of it at anything, both semaphores at zero. -/
def freeS (s : Fin 2) : sProp 𝕄 :=
  iprop((∃ f, slotU c s f) ∗ (∃ f, slotD c s f) ∗ cellP c 0 s ∗ cellP c 1 s)
/-- Block number `n` on its way, the rest of both matrices home, the other slot free. -/
def pend (n : ℕ) : sProp 𝕄 :=
  iprop(bigSep (Finset.univ.erase (b8 n)) (homeU c XU) ∗ bigSep (Finset.univ.erase (b8 n)) (homeD c XD)
    ∗ (∃ f, flyU c XU (s2 n) (b8 n) f) ∗ (∃ f, flyD c XD (s2 n) (b8 n) f) ∗ freeS c (s2 (n + 1)))
/-- Nothing on its way: both matrices home, both slots free. -/
def idle : sProp 𝕄 :=
  iprop(bigSep Finset.univ (homeU c XU) ∗ bigSep Finset.univ (homeD c XD) ∗ freeS c 0 ∗ freeS c 1)

omit [FloatOps F] in
theorem take (P : Fin 8 → sProp 𝕄) (a b : Fin 8) (h : b ≠ a) :
    bigSep (Finset.univ.erase a) P = iprop(P b ∗ bigSep ((Finset.univ.erase a).erase b) P) := by
  conv_lhs => rw [← Finset.insert_erase (show b ∈ Finset.univ.erase a from Finset.mem_erase.2 ⟨h, Finset.mem_univ _⟩)]
  rw [bigSep_insert (Finset.notMem_erase _ _)]
  rfl
omit [FloatOps F] in
theorem takeU (P : Fin 8 → sProp 𝕄) (a : Fin 8) :
    bigSep Finset.univ P = iprop(P a ∗ bigSep (Finset.univ.erase a) P) := by
  conv_lhs => rw [← Finset.insert_erase (Finset.mem_univ a)]
  rw [bigSep_insert (Finset.notMem_erase _ _)]
  rfl
theorem b8_ne (n : ℕ) : b8 (n + 1) ≠ b8 n := by
  intro h; have := congrArg Fin.val h; simp only [b8] at this; omega
theorem s2_two (n : ℕ) : s2 (n + 2) = s2 n := Fin.ext (by simp [s2])

end Held

/-! ## One trip -/

section TripRun
variable (c : Dev nD) (XU : Buf (Elt F) (wuM.view.loc (c : Thread nD τ))) (XD : Buf (Elt F) (wdM.view.loc (c : Thread nD τ)))
  (i : grid0.Coords)
  (arg1 : Memref sig .tc .vmem S1024x2048 .f32) (harg1 : arg1.IsWhole)
  (arg2 : Memref sig .tc .vmem S1x2048 .f32) (harg2 : arg2.IsWhole)
  (arg5 : Memref sig .tc .vmem S1x2048 .f32) (harg5 : arg5.IsWhole)
  (arg6 : Memref sig .tc .vmem S1024x2048 .f32) (harg6 : arg6.IsWhole)
  (arg0 : BitVec 32)

abbrev oP (fo : Buf (Elt F) (arg6.view.loc (c : Thread nD τ))) : sProp 𝕄 := arg6.view.loc (c : Thread nD τ) ↦[arg6.view.set]{fullShare} fo
abbrev hP (fh : Buf (Elt F) (hM.view.loc (c : Thread nD τ))) : sProp 𝕄 := hM.view.loc (c : Thread nD τ) ↦[hM.view.set]{fullShare} fh

abbrev RW : Rect S1024x2048 := Rect.unit (s := S1024x2048) ![0, 0] S1024x2048.size inb_S1024x2048_S1024x2048_0_0

abbrev tripG (k : Trip) : Prog (TpuEff nD τ sig (Elt F) Λ₀ .tc) Unit :=
  k0_t1_body (F := F) i arg1 harg1 arg2 harg2 wuM (Memref.isWhole_whole _) wdM (Memref.isWhole_whole _) arg5 harg5 arg6 harg6
    hM (Memref.isWhole_whole _) ubM (Memref.isWhole_whole _) dbM (Memref.isWhole_whole _) cc0_scratch3 arg0 k ()

abbrev RUlo : Rect S2048x1024 := Rect.unit (s := S2048x1024) ![0, 0] S2048x512.size inb_S2048x1024_S2048x512_0_0
abbrev RUhi : Rect S2048x1024 := Rect.unit (s := S2048x1024) ![0, 512] S2048x512.size inb_S2048x1024_S2048x512_0_512
abbrev RDlo : Rect S1024x2048 := Rect.unit (s := S1024x2048) ![0, 0] S512x2048.size inb_S1024x2048_S512x2048_0_0
abbrev RDhi : Rect S1024x2048 := Rect.unit (s := S1024x2048) ![512, 0] S512x2048.size inb_S1024x2048_S512x2048_512_0

/-- What a trip makes of the result block `o`, from the normalized rows `h` and its blocks `wu`, `wd` of the weights. -/
def nextO (h : Vec F S1024x2048 .bf16) (wu : S2048x1024.Idx → Elt F .bf16) (wd : S1024x2048.Idx → Elt F .bf16) (o : Vec F S1024x2048 .f32) : Vec F S1024x2048 .f32 :=
  k0_pay4 h (fun j => wu (RUhi.toLoadRect.idx j)) (fun j => wd (RDhi.toLoadRect.idx j)) (k0_pay3 h (fun j => wu (RUlo.toLoadRect.idx j)) (fun j => wd (RDlo.toLoadRect.idx j)) o)

/-- A load inside a buffer last written whole reads the values written. -/
theorem readCov_inside {sp : Space} {s : Shape} {e : EltTy} (v : View sig .tc sp s e) (w : s.Idx → Elt F e) (B : LoadRect s) :
    v.readCov [⟨Rect.whole s, w⟩] B = fun j => w (B.idx j) := by
  funext j
  have h : v.read (Elt F) (v.writes (Elt F) v.junk [⟨Rect.whole s, w⟩]) = w :=
    View.read_writes_full v v.junk (off := fun _ => 0) (fun a => by simp) w []
  exact congrFun h (B.idx j)

omit [FloatOps F] in
/-- A buffer held at contents that read as `v` is held at `v`. -/
theorem hold_of_read [∀ e, Nonempty (Elt F e)] {sp : Space} {s : Shape} {e : EltTy} (M : Memref sig .tc sp s e) (v : s.Idx → Elt F e) :
    iprop(∃ f, ⌜M.view.read (Elt F) f = v⌝ ∗ (M.view.loc (c : Thread nD τ) ↦[M.view.set]{fullShare} f))
      ⊢ (M.view.loc (c : Thread nD τ) ↦[M.view.set]{fullShare} M.view.rep v : sProp 𝕄) := by
  iintro ⟨%f, %h, H⟩
  subst h
  iapply (pointsTo_rep_entails (c : Thread nD τ) M f fullShare)
  iexact H

set_option maxHeartbeats 4000000 in
/-- A trip that sends for the next block. -/
theorem tripGo (k : Trip) (k0_h2 : k0_cond2 i k = 1#1) (hv : S1024x2048.Idx → Elt F .bf16) (ov : S1024x2048.Idx → Elt F .f32) :
      iprop(oP c arg6 (arg6.view.rep ov) ∗ hP c (hM.view.rep hv) ∗ (∃ W, owes (c : Thread nD τ) 0 W) ∗ pend c XU XD (k.val + 1))
      ⊢ wp frame (wpE (defs₀ (F := F)) noVar (c : Thread nD τ) none) Set.univ (tripG i arg1 harg1 arg2 harg2 arg5 harg5 arg6 harg6 arg0 k)
        (fun _ => iprop(oP c arg6 (arg6.view.rep (nextO hv (payU c XU (b8 (k.val + 1))) (payD c XD (b8 (k.val + 1))) ov))
          ∗ hP c (hM.view.rep hv) ∗ (∃ W, owes (c : Thread nD τ) 0 W) ∗ pend c XU XD (k.val + 2))) := by
    unfold pend freeS
    rw [s2_two (k.val + 1), take (homeU c XU) (b8 (k.val + 1)) (b8 (k.val + 2)) (b8_ne _), take (homeD c XD) (b8 (k.val + 1)) (b8 (k.val + 2)) (b8_ne _),
      take (homeU c XU) (b8 (k.val + 2)) (b8 (k.val + 1)) (b8_ne _).symm, take (homeD c XD) (b8 (k.val + 2)) (b8 (k.val + 1)) (b8_ne _).symm]
    rw [Finset.erase_right_comm (a := b8 (k.val + 2))]
    iintro ⟨HO, HH, ⟨%W, HW⟩, ⟨HUn, HUr⟩, ⟨HDn, HDr⟩, ⟨%fu, HFU⟩, ⟨%fd, HFD⟩, ⟨⟨%gu, HSU⟩, ⟨%gd, HSD⟩, HC0, HC1⟩⟩
    dsimp only [tripG]
    sl_unfold [k0_t1_body]
    sl_exec
    sl_step
    isplitl [HO]
    · iapply (hold_of_read c arg6)
      iexists _
      isplitr; rotate_left
      · iexact HO
      · ipureintro
        rw [View.read_writes_full]
        unfold tripGo.sl.v193 tripGo.sl.v201 tripGo.sl.v203
        unfold tripGo.sl.HO_1
        unfold tripGo.sl.v176 tripGo.sl.v184
        try unfold tripGo.sl.r
        rw [View.readCov_full, View.readAt_full, View.readAt_full, View.read_rep, View.read_rep,
          readCov_inside, readCov_inside, readCov_inside, readCov_inside]
        rfl
    isplitl [HH]; · iexact HH
    isplitl [HW]; · iexists _; iexact HW
    isplitl [HUr HFU_src]
    · isplitl [HFU_src]; · iexact HFU_src
      iexact HUr
    isplitl [HDr HFD_src]
    · isplitl [HFD_src]; · iexact HFD_src
      iexact HDr
    isplitl [HC0]; · iexists _; iexact HC0
    isplitl [HC1]; · iexists _; iexact HC1
    isplitl [HFU_dst]; · iexists _; iexact HFU_dst
    isplitl [HFD_dst]; · iexists _; iexact HFD_dst
    isplitl [HFU]; · iexact HFU
    iexact HFD

set_option maxHeartbeats 4000000 in
/-- A trip that sends for nothing: the last of the last point. -/
theorem tripStay (k : Trip) (k0_h2 : ¬ k0_cond2 i k = 1#1) (hv : S1024x2048.Idx → Elt F .bf16) (ov : S1024x2048.Idx → Elt F .f32) :
      iprop(oP c arg6 (arg6.view.rep ov) ∗ hP c (hM.view.rep hv) ∗ (∃ W, owes (c : Thread nD τ) 0 W) ∗ pend c XU XD (k.val + 1))
      ⊢ wp frame (wpE (defs₀ (F := F)) noVar (c : Thread nD τ) none) Set.univ (tripG i arg1 harg1 arg2 harg2 arg5 harg5 arg6 harg6 arg0 k)
        (fun _ => iprop(oP c arg6 (arg6.view.rep (nextO hv (payU c XU (b8 (k.val + 1))) (payD c XD (b8 (k.val + 1))) ov))
          ∗ hP c (hM.view.rep hv) ∗ (∃ W, owes (c : Thread nD τ) 0 W)
          ∗ bigSep Finset.univ (homeU c XU) ∗ bigSep Finset.univ (homeD c XD) ∗ freeS c (s2 (k.val + 1)) ∗ freeS c (s2 (k.val + 2)))) := by
    unfold pend
    rw [takeU (homeU c XU) (b8 (k.val + 1)), takeU (homeD c XD) (b8 (k.val + 1))]
    iintro ⟨HO, HH, ⟨%W, HW⟩, HUr, HDr, ⟨%fu, HFU⟩, ⟨%fd, HFD⟩, HS⟩
    dsimp only [tripG]
    sl_unfold [k0_t1_body]
    sl_exec
    sl_step
    isplitl [HO]
    · iapply (hold_of_read c arg6)
      iexists _
      isplitr; rotate_left
      · iexact HO
      · ipureintro
        rw [View.read_writes_full]
        unfold tripStay.sl.v193 tripStay.sl.v201 tripStay.sl.v203
        unfold tripStay.sl.HO_1
        unfold tripStay.sl.v176 tripStay.sl.v184
        try unfold tripStay.sl.r
        rw [View.readCov_full, View.readAt_full, View.readAt_full, View.read_rep, View.read_rep,
          readCov_inside, readCov_inside, readCov_inside, readCov_inside]
        rfl
    isplitl [HH]; · iexact HH
    isplitl [HW]; · iexists _; iexact HW
    isplitl [HUr HFU_src]
    · isplitl [HFU_src]; · iexact HFU_src
      iexact HUr
    isplitl [HDr HFD_src]
    · isplitl [HFD_src]; · iexact HFD_src
      iexact HDr
    isplitr [HS]
    · unfold freeS
      isplitl [HFU_dst]; · iexists _; iexact HFU_dst
      isplitl [HFD_dst]; · iexists _; iexact HFD_dst
      isplitl [HFU]; · iexact HFU
      iexact HFD
    iexact HS

end TripRun

/-! ## One point of the grid -/

section Point
variable (c : Dev nD) (XU : Buf (Elt F) (wuM.view.loc (c : Thread nD τ))) (XD : Buf (Elt F) (wdM.view.loc (c : Thread nD τ)))
  (i : grid0.Coords)
  (arg1 : Memref sig .tc .vmem S1024x2048 .f32) (harg1 : arg1.IsWhole)
  (arg2 : Memref sig .tc .vmem S1x2048 .f32) (harg2 : arg2.IsWhole)
  (arg5 : Memref sig .tc .vmem S1x2048 .f32) (harg5 : arg5.IsWhole)
  (arg6 : Memref sig .tc .vmem S1024x2048 .f32) (harg6 : arg6.IsWhole)

/-- The condition of the first point. -/
abbrev atFirst : Prop := (Scalar.cmpi .ne (Scalar.extui (Scalar.cmpi .eq (BitVec.ofNat 32 (i 0).val) 0#32) : BitVec 32) 0#32 : BitVec 1) = 1#1
theorem atFirst_iff : ∀ i : grid0.Coords, atFirst i ↔ (i 0).val = 0 := by decide +kernel
theorem sends_iff : ∀ (i : grid0.Coords) (k : Trip), k0_cond2 i k = 1#1 ↔ ¬ (k.val + 1 = k0_t1_loop.trips ∧ (i 0).val = 31) := by decide +kernel

/-- What is on its way after `k` trips at the point. -/
def tail (k : ℕ) : sProp 𝕄 := if k = k0_t1_loop.trips ∧ (i 0).val = 31 then idle c XU XD else pend c XU XD (k + 1)

/-- The result block after `k` trips. -/
def oV (hv : S1024x2048.Idx → Elt F .bf16) (o0 : S1024x2048.Idx → Elt F .f32) : ℕ → S1024x2048.Idx → Elt F .f32
  | 0 => o0
  | k + 1 => nextO hv (payU c XU (b8 (k + 1))) (payD c XD (b8 (k + 1))) (oV hv o0 k)

/-- Before trip `k`. -/
def inv (hv : S1024x2048.Idx → Elt F .bf16) (o0 : S1024x2048.Idx → Elt F .f32) (k : ℕ) (_ : PUnit) : sProp 𝕄 :=
  iprop(oP c arg6 (arg6.view.rep (oV c XU XD hv o0 k)) ∗ hP c (hM.view.rep hv) ∗ (∃ W, owes (c : Thread nD τ) 0 W) ∗ tail c XU XD i k)

theorem freeS_two (n : ℕ) : iprop(freeS c (s2 n) ∗ freeS c (s2 (n + 1))) ⊢ (iprop(freeS c 0 ∗ freeS c 1) : sProp 𝕄) := by
  rcases Nat.mod_two_eq_zero_or_one n with h | h
  · have e0 : s2 n = 0 := Fin.ext h
    have e1 : s2 (n + 1) = 1 := Fin.ext (show (n + 1) % 2 = 1 by omega)
    rw [e0, e1]
  · have e0 : s2 n = 1 := Fin.ext h
    have e1 : s2 (n + 1) = 0 := Fin.ext (show (n + 1) % 2 = 0 by omega)
    rw [e0, e1]; iintro ⟨H1, H0⟩; isplitl [H0]
    · iexact H0
    iexact H1

/-- The trips keep `inv`. -/
theorem inv_step (arg0 : BitVec 32)
    (hv : S1024x2048.Idx → Elt F .bf16) (o0 : S1024x2048.Idx → Elt F .f32) (k : Trip) (u : PUnit) :
    inv c XU XD i arg6 hv o0 k.val u
      ⊢ wp frame (wpE (defs₀ (F := F)) noVar (c : Thread nD τ) none) Set.univ (tripG i arg1 harg1 arg2 harg2 arg5 harg5 arg6 harg6 arg0 k)
        (inv c XU XD i arg6 hv o0 (k.val + 1)) := by
  have hk : ¬ (k.val = k0_t1_loop.trips ∧ (i 0).val = 31) := fun h => absurd h.1 (Nat.ne_of_lt k.isLt)
  by_cases h : k0_cond2 i k = 1#1
  · have h' := (sends_iff i k).1 h
    unfold inv tail
    rw [if_neg hk, if_neg h']
    exact tripGo c XU XD i arg1 harg1 arg2 harg2 arg5 harg5 arg6 harg6 arg0 k h hv _
  · have h' := not_not.1 (fun x => h ((sends_iff i k).2 x))
    unfold inv tail
    rw [if_neg hk, if_pos h']
    iintro H
    iapply (wp_wand_r Idealize.ShloMosaic.frame (wpE (defs₀ (F := F)) noVar (c : Thread nD τ) none) Set.univ)
    isplitl [H]
    · iapply (tripStay c XU XD i arg1 harg1 arg2 harg2 arg5 harg5 arg6 harg6 arg0 k h hv _); iexact H
    · iintro %_ ⟨HO, HH, HW, HU, HD, HS⟩
      isplitl [HO]; · iexact HO
      isplitl [HH]; · iexact HH
      isplitl [HW]; · iexact HW
      unfold idle
      isplitl [HU]; · iexact HU
      isplitl [HD]; · iexact HD
      iapply (freeS_two c (k.val + 1)); iexact HS

abbrev bodyG : Prog (TpuEff nD τ sig (Elt F) Λ₀ .tc) PUnit :=
  cc0_mlp i arg1 harg1 arg2 harg2 wuM (Memref.isWhole_whole _) wdM (Memref.isWhole_whole _) arg5 harg5 arg6 harg6
    hM (Memref.isWhole_whole _) ubM (Memref.isWhole_whole _) dbM (Memref.isWhole_whole _) cc0_scratch3

abbrev xP (x : S1024x2048.Idx → Elt F .f32) : sProp 𝕄 := arg1.view.loc (c : Thread nD τ) ↦[arg1.view.set]{fullShare} arg1.view.rep x
abbrev gP (M : Memref sig .tc .vmem S1x2048 .f32) (g : S1x2048.Idx → Elt F .f32) : sProp 𝕄 := M.view.loc (c : Thread nD τ) ↦[M.view.set]{fullShare} M.view.rep g

theorem pend_zero : pend c XU XD 0 = iprop(bigSep (Finset.univ.erase 0) (homeU c XU) ∗ bigSep (Finset.univ.erase 0) (homeD c XD)
    ∗ (∃ f, flyU c XU 0 0 f) ∗ (∃ f, flyD c XD 0 0 f) ∗ freeS c 1) := rfl
theorem pend_one : pend c XU XD 1 = iprop(bigSep (Finset.univ.erase 1) (homeU c XU) ∗ bigSep (Finset.univ.erase 1) (homeD c XD)
    ∗ (∃ f, flyU c XU 1 1 f) ∗ (∃ f, flyD c XD 1 1 f) ∗ freeS c 0) := rfl

abbrev RX0 : Rect S1024x2048 := Rect.unit (s := S1024x2048) ![0, 0] S1024x256.size inb_S1024x2048_S1024x256_0_0
abbrev RX256 : Rect S1024x2048 := Rect.unit (s := S1024x2048) ![0, 256] S1024x256.size inb_S1024x2048_S1024x256_0_256
abbrev RX512 : Rect S1024x2048 := Rect.unit (s := S1024x2048) ![0, 512] S1024x256.size inb_S1024x2048_S1024x256_0_512
abbrev RX768 : Rect S1024x2048 := Rect.unit (s := S1024x2048) ![0, 768] S1024x256.size inb_S1024x2048_S1024x256_0_768
abbrev RX1024 : Rect S1024x2048 := Rect.unit (s := S1024x2048) ![0, 1024] S1024x256.size inb_S1024x2048_S1024x256_0_1024
abbrev RX1280 : Rect S1024x2048 := Rect.unit (s := S1024x2048) ![0, 1280] S1024x256.size inb_S1024x2048_S1024x256_0_1280
abbrev RX1536 : Rect S1024x2048 := Rect.unit (s := S1024x2048) ![0, 1536] S1024x256.size inb_S1024x2048_S1024x256_0_1536
abbrev RX1792 : Rect S1024x2048 := Rect.unit (s := S1024x2048) ![0, 1792] S1024x256.size inb_S1024x2048_S1024x256_0_1792
abbrev RG0 : Rect S1x2048 := Rect.unit (s := S1x2048) ![0, 0] S1x256.size inb_S1x2048_S1x256_0_0
abbrev RG256 : Rect S1x2048 := Rect.unit (s := S1x2048) ![0, 256] S1x256.size inb_S1x2048_S1x256_0_256
abbrev RG512 : Rect S1x2048 := Rect.unit (s := S1x2048) ![0, 512] S1x256.size inb_S1x2048_S1x256_0_512
abbrev RG768 : Rect S1x2048 := Rect.unit (s := S1x2048) ![0, 768] S1x256.size inb_S1x2048_S1x256_0_768
abbrev RG1024 : Rect S1x2048 := Rect.unit (s := S1x2048) ![0, 1024] S1x256.size inb_S1x2048_S1x256_0_1024
abbrev RG1280 : Rect S1x2048 := Rect.unit (s := S1x2048) ![0, 1280] S1x256.size inb_S1x2048_S1x256_0_1280
abbrev RG1536 : Rect S1x2048 := Rect.unit (s := S1x2048) ![0, 1536] S1x256.size inb_S1x2048_S1x256_0_1536
abbrev RG1792 : Rect S1x2048 := Rect.unit (s := S1x2048) ![0, 1792] S1x256.size inb_S1x2048_S1x256_0_1792

/-- The eight pieces the normalized rows are written in, last first. -/
def hL (x : Vec F S1024x2048 .f32) (g : Vec F S1x2048 .f32) : List (View.Piece (Elt F) S1024x2048 .bf16) :=
  [⟨RX1792, k0_pay15 (k0_pay5 x) (fun j => x (RX1792.toLoadRect.idx j)) (fun j => g (RG1792.toLoadRect.idx j))⟩,
   ⟨RX1536, k0_pay14 (k0_pay13 (k0_pay5 x) (fun j => x (RX1536.toLoadRect.idx j))) (fun j => g (RG1536.toLoadRect.idx j))⟩,
   ⟨RX1280, k0_pay12 (k0_pay5 x) (fun j => x (RX1280.toLoadRect.idx j)) (fun j => g (RG1280.toLoadRect.idx j))⟩,
   ⟨RX1024, k0_pay11 (k0_pay5 x) (fun j => x (RX1024.toLoadRect.idx j)) (fun j => g (RG1024.toLoadRect.idx j))⟩,
   ⟨RX768, k0_pay10 (k0_pay5 x) (fun j => x (RX768.toLoadRect.idx j)) (fun j => g (RG768.toLoadRect.idx j))⟩,
   ⟨RX512, k0_pay9 (k0_pay8 x (fun j => x (RX512.toLoadRect.idx j)) (fun j => g (RG512.toLoadRect.idx j)))⟩,
   ⟨RX256, k0_pay7 x (fun j => x (RX256.toLoadRect.idx j)) (fun j => g (RG256.toLoadRect.idx j))⟩,
   ⟨RX0, k0_pay6 x (fun j => x (RX0.toLoadRect.idx j)) (fun j => g (RG0.toLoadRect.idx j))⟩]
/-- The normalized rows. -/
def hV (x : Vec F S1024x2048 .f32) (g : Vec F S1x2048 .f32) : Vec F S1024x2048 .bf16 := hM.view.read (Elt F) (hM.view.writes (Elt F) hM.view.junk (hL x g))
/-- The result block after the first block of the weights. -/
def o0V (x : Vec F S1024x2048 .f32) (g : Vec F S1x2048 .f32) : Vec F S1024x2048 .f32 :=
  k0_pay2 (hV x g) (fun j => payU c XU 0 (RUhi.toLoadRect.idx j)) (fun j => payD c XD 0 (RDhi.toLoadRect.idx j))
    (k0_pay1 (k0_pay16 (hV x g) (fun j => payU c XU 0 (RUlo.toLoadRect.idx j)) (fun j => payD c XD 0 (RDlo.toLoadRect.idx j))) x)
/-- The block of the result a point leaves. -/
def outV (x : Vec F S1024x2048 .f32) (g : Vec F S1x2048 .f32) : Vec F S1024x2048 .f32 :=
  oV c XU XD (hV x g) (o0V c XU XD x g) k0_t1_loop.trips

omit [FloatOps F] in
/-- A load at contents that read as `v`. -/
theorem readAt_rep [∀ e, Nonempty (Elt F e)] {sp : Space} {s : Shape} {e : EltTy} (M : Memref sig .tc sp s e) (v : s.Idx → Elt F e) (B : LoadRect s) :
    M.view.readAt (Elt F) B (M.view.rep v) = fun j => v (B.idx j) := by
  funext j; rw [View.readAt_apply, View.read_rep]

/-- A load of a whole buffer last written in pieces. -/
theorem readCov_read {sp : Space} {e : EltTy} (v : View sig .tc sp S1024x2048 e) (L : List (View.Piece (Elt F) S1024x2048 e)) :
    v.readCov L RW.toLoadRect = v.read (Elt F) (v.writes (Elt F) v.junk L) := by
  show v.readAt (Elt F) RW.toLoadRect (v.writes (Elt F) v.junk L) = _
  rw [View.readAt_full]

theorem tail_zero : tail c XU XD i 0 = pend c XU XD 1 := by
  unfold tail; rw [if_neg (fun h => absurd h.1 (by decide))]

set_option maxHeartbeats 8000000 in
theorem runLater (k0_h1 : ¬ atFirst i) (x : S1024x2048.Idx → Elt F .f32) (g fg : S1x2048.Idx → Elt F .f32) (fo : Buf (Elt F) (arg6.view.loc (c : Thread nD τ)))
    (fh : Buf (Elt F) (hM.view.loc (c : Thread nD τ))) (W : Waits sig Unit) :
    iprop(xP c arg1 x ∗ gP c arg2 g ∗ gP c arg5 fg ∗ oP c arg6 fo ∗ hP c fh ∗ owes (c : Thread nD τ) 0 W ∗ pend c XU XD 0)
      ⊢ wp frame (wpE (defs₀ (F := F)) noVar (c : Thread nD τ) none) Set.univ (bodyG i arg1 harg1 arg2 harg2 arg5 harg5 arg6 harg6)
        (fun _ => iprop(xP c arg1 x ∗ gP c arg2 g ∗ gP c arg5 fg ∗ oP c arg6 (arg6.view.rep (outV c XU XD x g)) ∗ (∃ f, hP c f) ∗ (∃ W, owes (c : Thread nD τ) 0 W) ∗ tail c XU XD i k0_t1_loop.trips)) := by
  rw [pend_zero, take (homeU c XU) 0 1 (by decide), take (homeD c XD) 0 1 (by decide)]
  unfold freeS
  iintro ⟨HX, HG, HF, HO, HH, HW, ⟨HU1, HUr⟩, ⟨HD1, HDr⟩, ⟨%fu, HC0⟩, ⟨%fd, HC1⟩, ⟨⟨%gu, HSU⟩, ⟨%gd, HSD⟩, HC2, HC3⟩⟩
  sl_exec
  have hh : hM.view.read (Elt F) (hM.view.writes (Elt F) hM.view.junk (runLater.sl.HH_8 arg1 arg2 x g)) = hV x g := by
    unfold runLater.sl.HH_8 hV runLater.sl.r_2 runLater.sl.r runLater.sl.r_1
    rw [View.readAt_full, View.read_rep]
    simp only [readAt_rep]
    unfold hL
    rfl
  have ho : arg6.view.read (Elt F) (arg6.view.writes (Elt F) arg6.view.junk (runLater.sl.HO_2 c XU XD arg1 arg2 arg6 x g)) = o0V c XU XD x g := by
    unfold runLater.sl.HO_2
    rw [View.read_writes_full]
    unfold runLater.sl.v112 runLater.sl.v131 runLater.sl.v139 runLater.sl.v141 runLater.sl.HO_1 runLater.sl.r_3 runLater.sl.r_4 runLater.sl.v115 runLater.sl.v123
    try unfold runLater.sl.v112
    rw [readCov_read hM.view, hh, readCov_read arg6.view, View.read_writes_full, View.readAt_full, View.read_rep]
    simp only [readCov_inside]
    rfl
  ihave HH' := (hold_of_read c hM (hV x g)) $$ [HH]
  · iexists _
    isplitr; rotate_left
    · iexact HH
    · ipureintro; exact hh
  ihave HO' := (hold_of_read c arg6 (o0V c XU XD x g)) $$ [HO]
  · iexists _
    isplitr; rotate_left
    · iexact HO
    · ipureintro; exact ho
  sl_for (inv c XU XD i arg6 (hV x g) (o0V c XU XD x g)) $$ [HO' HH' HW HUr HDr HC0_dst HC0_src HC0 HC1_dst HC1_src HC1 HC2 HC3]
  case region => exact fun k u => inv_step c XU XD i arg1 harg1 arg2 harg2 arg5 harg5 arg6 harg6 _ (hV x g) (o0V c XU XD x g) k u
  · unfold inv
    rw [tail_zero, pend_one, take (homeU c XU) 1 0 (by decide), take (homeD c XD) 1 0 (by decide), Finset.erase_right_comm (a := 1)]
    unfold freeS
    isplitl [HO']; · iexact HO'
    isplitl [HH']; · iexact HH'
    isplitl [HW]; · iexists _; iexact HW
    isplitl [HUr HC0_src]
    · isplitl [HC0_src]; · iexact HC0_src
      iexact HUr
    isplitl [HDr HC1_src]
    · isplitl [HC1_src]; · iexact HC1_src
      iexact HDr
    isplitl [HC2]; · iexists _; iexact HC2
    isplitl [HC3]; · iexists _; iexact HC3
    isplitl [HC0_dst]; · iexists _; iexact HC0_dst
    isplitl [HC1_dst]; · iexists _; iexact HC1_dst
    isplitl [HC0]; · iexact HC0
    iexact HC1
  iintro %_ HI
  unfold inv
  icases HI with ⟨HO, HH, ⟨%W', HW⟩, HT⟩
  sl_step
  isplitl [HX]; · iexact HX
  isplitl [HG]; · iexact HG
  isplitl [HF]; · iexact HF
  isplitl [HO]
  · unfold outV; iexact HO
  isplitl [HH]; · iexists _; iexact HH
  isplitl [HW]; · iexists _; iexact HW
  iexact HT

set_option maxHeartbeats 8000000 in
theorem runFirst (k0_h1 : atFirst i) (x : S1024x2048.Idx → Elt F .f32) (g fg : S1x2048.Idx → Elt F .f32) (fo : Buf (Elt F) (arg6.view.loc (c : Thread nD τ)))
    (fh : Buf (Elt F) (hM.view.loc (c : Thread nD τ))) (W : Waits sig Unit) :
    iprop(xP c arg1 x ∗ gP c arg2 g ∗ gP c arg5 fg ∗ oP c arg6 fo ∗ hP c fh ∗ owes (c : Thread nD τ) 0 W ∗ idle c XU XD)
      ⊢ wp frame (wpE (defs₀ (F := F)) noVar (c : Thread nD τ) none) Set.univ (bodyG i arg1 harg1 arg2 harg2 arg5 harg5 arg6 harg6)
        (fun _ => iprop(xP c arg1 x ∗ gP c arg2 g ∗ gP c arg5 fg ∗ oP c arg6 (arg6.view.rep (outV c XU XD x g)) ∗ (∃ f, hP c f) ∗ (∃ W, owes (c : Thread nD τ) 0 W) ∗ tail c XU XD i k0_t1_loop.trips)) := by
  unfold idle
  rw [takeU (homeU c XU) 0, takeU (homeD c XD) 0, take (homeU c XU) 0 1 (by decide), take (homeD c XD) 0 1 (by decide)]
  unfold freeS
  iintro ⟨HX, HG, HF, HO, HH, HW, ⟨HU0, HU1, HUr⟩, ⟨HD0, HD1, HDr⟩, ⟨⟨%fu, HSU0⟩, ⟨%fd, HSD0⟩, HC0, HC1⟩, ⟨⟨%gu, HSU⟩, ⟨%gd, HSD⟩, HC2, HC3⟩⟩
  sl_exec
  have hh : hM.view.read (Elt F) (hM.view.writes (Elt F) hM.view.junk (runFirst.sl.HH_8 arg1 arg2 x g)) = hV x g := by
    unfold runFirst.sl.HH_8 hV runFirst.sl.r_2 runFirst.sl.r runFirst.sl.r_1
    rw [View.readAt_full, View.read_rep]
    simp only [readAt_rep]
    unfold hL
    rfl
  have ho : arg6.view.read (Elt F) (arg6.view.writes (Elt F) arg6.view.junk (runFirst.sl.HO_2 c XU XD arg1 arg2 arg6 x g)) = o0V c XU XD x g := by
    unfold runFirst.sl.HO_2
    rw [View.read_writes_full]
    unfold runFirst.sl.v112 runFirst.sl.v131 runFirst.sl.v139 runFirst.sl.v141 runFirst.sl.HO_1 runFirst.sl.r_3 runFirst.sl.r_4 runFirst.sl.v115 runFirst.sl.v123
    try unfold runFirst.sl.v112
    rw [readCov_read hM.view, hh, readCov_read arg6.view, View.read_writes_full, View.readAt_full, View.read_rep]
    simp only [readCov_inside]
    rfl
  ihave HH' := (hold_of_read c hM (hV x g)) $$ [HH]
  · iexists _
    isplitr; rotate_left
    · iexact HH
    · ipureintro; exact hh
  ihave HO' := (hold_of_read c arg6 (o0V c XU XD x g)) $$ [HO]
  · iexists _
    isplitr; rotate_left
    · iexact HO
    · ipureintro; exact ho
  sl_for (inv c XU XD i arg6 (hV x g) (o0V c XU XD x g)) $$ [HO' HH' HW HUr HDr HSU0 HU0 HC0 HSD0 HD0 HC1 HC2 HC3]
  case region => exact fun k u => inv_step c XU XD i arg1 harg1 arg2 harg2 arg5 harg5 arg6 harg6 _ (hV x g) (o0V c XU XD x g) k u
  · unfold inv
    rw [tail_zero, pend_one, take (homeU c XU) 1 0 (by decide), take (homeD c XD) 1 0 (by decide), Finset.erase_right_comm (a := 1)]
    unfold freeS
    isplitl [HO']; · iexact HO'
    isplitl [HH']; · iexact HH'
    isplitl [HW]; · iexists _; iexact HW
    isplitl [HUr HU0]
    · isplitl [HU0]; · iexact HU0
      iexact HUr
    isplitl [HDr HD0]
    · isplitl [HD0]; · iexact HD0
      iexact HDr
    isplitl [HC2]; · iexists _; iexact HC2
    isplitl [HC3]; · iexists _; iexact HC3
    isplitl [HSU0]; · iexists _; iexact HSU0
    isplitl [HSD0]; · iexists _; iexact HSD0
    isplitl [HC0]; · iexact HC0
    iexact HC1
  iintro %_ HI
  unfold inv
  icases HI with ⟨HO, HH, ⟨%W', HW⟩, HT⟩
  sl_step
  isplitl [HX]; · iexact HX
  isplitl [HG]; · iexact HG
  isplitl [HF]; · iexact HF
  isplitl [HO]
  · unfold outV; iexact HO
  isplitl [HH]; · iexists _; iexact HH
  isplitl [HW]; · iexists _; iexact HW
  iexact HT

theorem seven : k0_t1_loop.trips = 7 := by decide

/-- What is on its way before a point. -/
def before : sProp 𝕄 := if (i 0).val = 0 then idle c XU XD else pend c XU XD 0
/-- What is on its way after it. -/
def afterP : sProp 𝕄 := if (i 0).val = 31 then idle c XU XD else pend c XU XD 0

theorem tail_end : tail c XU XD i k0_t1_loop.trips = afterP c XU XD i := by
  unfold tail afterP
  by_cases h : (i 0).val = 31
  · rw [if_pos ⟨rfl, h⟩, if_pos h]
  · rw [if_neg (fun x => h x.2), if_neg h, seven]; rfl

/-- A point of the grid. -/
theorem runPoint (x : S1024x2048.Idx → Elt F .f32) (g fg : S1x2048.Idx → Elt F .f32) (fo : Buf (Elt F) (arg6.view.loc (c : Thread nD τ)))
    (fh : Buf (Elt F) (hM.view.loc (c : Thread nD τ))) (W : Waits sig Unit) :
    iprop(xP c arg1 x ∗ gP c arg2 g ∗ gP c arg5 fg ∗ oP c arg6 fo ∗ hP c fh ∗ owes (c : Thread nD τ) 0 W ∗ before c XU XD i)
      ⊢ wp frame (wpE (defs₀ (F := F)) noVar (c : Thread nD τ) none) Set.univ (bodyG i arg1 harg1 arg2 harg2 arg5 harg5 arg6 harg6)
        (fun _ => iprop(xP c arg1 x ∗ gP c arg2 g ∗ gP c arg5 fg ∗ oP c arg6 (arg6.view.rep (outV c XU XD x g)) ∗ (∃ f, hP c f) ∗ (∃ W, owes (c : Thread nD τ) 0 W) ∗ afterP c XU XD i)) := by
  rw [← tail_end]
  unfold before
  by_cases h : (i 0).val = 0
  · rw [if_pos h]
    exact runFirst c XU XD i arg1 harg1 arg2 harg2 arg5 harg5 arg6 harg6 ((atFirst_iff i).2 h) x g fg fo fh W
  · rw [if_neg h]
    exact runLater c XU XD i arg1 harg1 arg2 harg2 arg5 harg5 arg6 harg6 (fun e => h ((atFirst_iff i).1 e)) x g fg fo fh W

end Point

end Cert.Proof.MlpBody3

end
-- ==== Proof.MlpRun3.lean ====
/-
  The feed-forward call, its launch: both weight matrices are their eight blocks, both buffers their two slots, and the
  32 points of the grid run one after another, the state between two points told by what is on its way.
-/
module

public import proofs.«01_k».proof.Proof.MlpBody3
public import Idealize.ShloMosaic.Lib.Pipeline.FrameBody

@[expose] public section

noncomputable section

namespace Cert.Proof.MlpBody3

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

local notation "𝕄" => MT nD τ sig Unit (Elt F) ℕ (Gh nD τ) ℕ
abbrev emb : Emb (UR sig nD τ) (MT nD τ sig Unit (Elt F) ℕ (Gh nD τ) ℕ) := embL

abbrev start : MemSt nD τ sig (Elt F) := ⟨m, fun _ => 0, ρ⟩
/-- A buffer's contents at the start. -/
abbrev V (c : Dev nD) (b : Ref sig .tc) : Buf (Elt F) ((c : Thread nD τ).loc b) := m ((c : Thread nD τ).loc b)
abbrev WU (c : Dev nD) : Buf (Elt F) (wuM.view.loc (c : Thread nD τ)) := m _
abbrev WD (c : Dev nD) : Buf (Elt F) (wdM.view.loc (c : Thread nD τ)) := m _

abbrev osem : Fin 4 → SemLoc sig := fun
  | 0 => .dma (csm 0 0).sem | 1 => .dma (csm 0 1).sem | 2 => .dma (csm 1 0).sem | 3 => .dma (csm 1 1).sem
  | ⟨_ + 4, h⟩ => absurd h (Nat.not_lt.2 (Nat.le_add_left _ _))
theorem ownSemFacts : Pipeline.OwnSemFacts spec0 osem := by decide

/-! ## Blocks and slots as sets of elements -/

abbrev BU (b : Fin 8) : Finset S2048x8192.Idx := (Rect.unit (s := S2048x8192) (ublkOff b) S2048x1024.size (ublk_inb b)).set
abbrev BD (b : Fin 8) : Finset S8192x2048.Idx := (Rect.unit (s := S8192x2048) (dblkOff b) S1024x2048.size (dblk_inb b)).set
abbrev SU (s : Fin 2) : Finset S2x2048x1024.Idx := (Rect.unit (s := S2x2048x1024) (slOff s) S1x2048x1024.size (usl_inb s)).set
abbrev SD (s : Fin 2) : Finset S2x1024x2048.Idx := (Rect.unit (s := S2x1024x2048) (slOff s) S1x1024x2048.size (dsl_inb s)).set

theorem ublk_set (b : Fin 8) : (ublk b).view.set = BU b := View.set_slice_whole _ _
theorem dblk_set (b : Fin 8) : (dblk b).view.set = BD b := View.set_slice_whole _ _
theorem usl_set (s : Fin 2) : (usl s).view.set = SU s := (View.set_reshape _ _).trans (View.set_slice_whole _ _)
theorem dsl_set (s : Fin 2) : (dsl s).view.set = SD s := (View.set_reshape _ _).trans (View.set_slice_whole _ _)

theorem mem_BU (b : Fin 8) (y : S2048x8192.Idx) : y ∈ BU b ↔ (y 1).val / 1024 = b.val := by
  rw [Rect.mem_set_unit]
  have h0 : (y 0).val < 2048 := (y 0).isLt
  constructor
  · intro H; have a : 1024 * b.val ≤ (y 1).val ∧ (y 1).val < 1024 * b.val + 1024 := H 1; omega
  · intro H i; fin_cases i
    · show 0 ≤ (y 0).val ∧ (y 0).val < 0 + 2048; omega
    · show 1024 * b.val ≤ (y 1).val ∧ (y 1).val < 1024 * b.val + 1024; omega
theorem mem_BD (b : Fin 8) (y : S8192x2048.Idx) : y ∈ BD b ↔ (y 0).val / 1024 = b.val := by
  rw [Rect.mem_set_unit]
  have h1 : (y 1).val < 2048 := (y 1).isLt
  constructor
  · intro H; have a : 1024 * b.val ≤ (y 0).val ∧ (y 0).val < 1024 * b.val + 1024 := H 0; omega
  · intro H i; fin_cases i
    · show 1024 * b.val ≤ (y 0).val ∧ (y 0).val < 1024 * b.val + 1024; omega
    · show 0 ≤ (y 1).val ∧ (y 1).val < 0 + 2048; omega
theorem mem_SU (s : Fin 2) (y : S2x2048x1024.Idx) : y ∈ SU s ↔ (y 0).val = s.val := by
  rw [Rect.mem_set_unit]
  have h1 : (y 1).val < 2048 := (y 1).isLt
  have h2 : (y 2).val < 1024 := (y 2).isLt
  constructor
  · intro H; have a : s.val ≤ (y 0).val ∧ (y 0).val < s.val + 1 := H 0; omega
  · intro H i; fin_cases i
    · show s.val ≤ (y 0).val ∧ (y 0).val < s.val + 1; omega
    · show 0 ≤ (y 1).val ∧ (y 1).val < 0 + 2048; omega
    · show 0 ≤ (y 2).val ∧ (y 2).val < 0 + 1024; omega
theorem mem_SD (s : Fin 2) (y : S2x1024x2048.Idx) : y ∈ SD s ↔ (y 0).val = s.val := by
  rw [Rect.mem_set_unit]
  have h1 : (y 1).val < 1024 := (y 1).isLt
  have h2 : (y 2).val < 2048 := (y 2).isLt
  constructor
  · intro H; have a : s.val ≤ (y 0).val ∧ (y 0).val < s.val + 1 := H 0; omega
  · intro H i; fin_cases i
    · show s.val ≤ (y 0).val ∧ (y 0).val < s.val + 1; omega
    · show 0 ≤ (y 1).val ∧ (y 1).val < 0 + 1024; omega
    · show 0 ≤ (y 2).val ∧ (y 2).val < 0 + 2048; omega

section Sets
theorem BU_disjoint : ∀ b b' : Fin 8, b ≠ b' → Disjoint (BU b) (BU b') := by
  intro b b' hne; rw [Finset.disjoint_left]; intro y hy hy'; rw [mem_BU] at hy hy'; exact hne (Fin.ext (hy.symm.trans hy'))
theorem BD_disjoint : ∀ b b' : Fin 8, b ≠ b' → Disjoint (BD b) (BD b') := by
  intro b b' hne; rw [Finset.disjoint_left]; intro y hy hy'; rw [mem_BD] at hy hy'; exact hne (Fin.ext (hy.symm.trans hy'))
theorem SU_disjoint : ∀ s s' : Fin 2, s ≠ s' → Disjoint (SU s) (SU s') := by
  intro b b' hne; rw [Finset.disjoint_left]; intro y hy hy'; rw [mem_SU] at hy hy'; exact hne (Fin.ext (hy.symm.trans hy'))
theorem SD_disjoint : ∀ s s' : Fin 2, s ≠ s' → Disjoint (SD s) (SD s') := by
  intro b b' hne; rw [Finset.disjoint_left]; intro y hy hy'; rw [mem_SD] at hy hy'; exact hne (Fin.ext (hy.symm.trans hy'))
theorem BU_cover : (Finset.univ : Finset (Fin 8)).biUnion BU = Finset.univ := by
  ext y; simp only [Finset.mem_biUnion, Finset.mem_univ, true_and, iff_true]
  have h : (y 1).val < 8192 := (y 1).isLt
  exact ⟨⟨(y 1).val / 1024, by omega⟩, by rw [mem_BU]⟩
theorem BD_cover : (Finset.univ : Finset (Fin 8)).biUnion BD = Finset.univ := by
  ext y; simp only [Finset.mem_biUnion, Finset.mem_univ, true_and, iff_true]
  have h : (y 0).val < 8192 := (y 0).isLt
  exact ⟨⟨(y 0).val / 1024, by omega⟩, by rw [mem_BD]⟩
theorem SU_cover : (Finset.univ : Finset (Fin 2)).biUnion SU = Finset.univ := by
  ext y; simp only [Finset.mem_biUnion, Finset.mem_univ, true_and, iff_true]; exact ⟨(y 0).cast (by decide), by rw [mem_SU]; rfl⟩
theorem SD_cover : (Finset.univ : Finset (Fin 2)).biUnion SD = Finset.univ := by
  ext y; simp only [Finset.mem_biUnion, Finset.mem_univ, true_and, iff_true]; exact ⟨(y 0).cast (by decide), by rw [mem_SD]; rfl⟩
end Sets

theorem bigSep2 (P : Fin 2 → sProp 𝕄) : bigSep Finset.univ P = iprop(P 0 ∗ P 1) :=
  bigSep_univ_eq_bigSepL [(0 : Fin 2), (1 : Fin 2)] (by decide) (by decide) P
theorem bigSep4 (P : Fin 4 → sProp 𝕄) : bigSep Finset.univ P = iprop(P 0 ∗ P 1 ∗ P 2 ∗ P 3) :=
  bigSep_univ_eq_bigSepL [(0 : Fin 4), (1 : Fin 4), (2 : Fin 4), (3 : Fin 4)] (by decide) (by decide) P

/-- `w_up` whole is its blocks, and `w_down`. -/
theorem wu_eq (c : Dev nD) :
    (((c : Thread nD τ).loc main_arg2) ↦{fullShare} m ((c : Thread nD τ).loc main_arg2) : sProp 𝕄) = bigSep Finset.univ (homeU c (WU m c)) := by
  rw [Ring.pointsTo_blocks (ℓ := (c : Thread nD τ).loc main_arg2) BU BU_disjoint BU_cover]
  exact bigSep_congr fun b _ => by rw [← ublk_set]; rfl
theorem wd_eq (c : Dev nD) :
    (((c : Thread nD τ).loc main_arg3) ↦{fullShare} m ((c : Thread nD τ).loc main_arg3) : sProp 𝕄) = bigSep Finset.univ (homeD c (WD m c)) := by
  rw [Ring.pointsTo_blocks (ℓ := (c : Thread nD τ).loc main_arg3) BD BD_disjoint BD_cover]
  exact bigSep_congr fun b _ => by rw [← dblk_set]; rfl

theorem h_eq (c : Dev nD) (f) : hP c f = (((c : Thread nD τ).loc cc0_scratch0) ↦{fullShare} f : sProp 𝕄) :=
  congrArg (fun S => (_ ↦[S]{fullShare} f : sProp 𝕄)) (View.set_whole _)

theorem slotU_eq (c : Dev nD) (s : Fin 2) (f) : slotU c s f = (((c : Thread nD τ).loc cc0_scratch1) ↦[SU s]{fullShare} f : sProp 𝕄) :=
  congrArg (fun S => (_ ↦[S]{fullShare} f : sProp 𝕄)) (usl_set s)
theorem slotD_eq (c : Dev nD) (s : Fin 2) (f) : slotD c s f = (((c : Thread nD τ).loc cc0_scratch2) ↦[SD s]{fullShare} f : sProp 𝕄) :=
  congrArg (fun S => (_ ↦[S]{fullShare} f : sProp 𝕄)) (dsl_set s)

theorem splitU (c : Dev nD) :
    iprop(∃ f : Buf (Elt F) ((c : Thread nD τ).loc cc0_scratch1), ((c : Thread nD τ).loc cc0_scratch1) ↦{fullShare} f)
      ⊢ (iprop((∃ f, slotU c 0 f) ∗ ∃ f, slotU c 1 f) : sProp 𝕄) := by
  iintro ⟨%f, H⟩
  ihave H2 := (ent_of_eq ((Ring.pointsTo_blocks (Ix := Unit) (Name := ℕ) (U := Gh nD τ) (Lvl := ℕ) (q := fullShare) (ℓ := (c : Thread nD τ).loc cc0_scratch1) SU SU_disjoint SU_cover f).trans (bigSep2 _))) $$ H
  icases H2 with ⟨H0, H1⟩
  isplitl [H0]
  · iexists f; iapply (ent_of_eq (slotU_eq c 0 f).symm); iexact H0
  · iexists f; iapply (ent_of_eq (slotU_eq c 1 f).symm); iexact H1
theorem joinU (c : Dev nD) :
    iprop((∃ f, slotU c 0 f) ∗ ∃ f, slotU c 1 f)
      ⊢ (iprop(∃ f : Buf (Elt F) ((c : Thread nD τ).loc cc0_scratch1), ((c : Thread nD τ).loc cc0_scratch1) ↦{fullShare} f) : sProp 𝕄) := by
  iintro ⟨⟨%f0, H0⟩, ⟨%f1, H1⟩⟩
  iapply (Ring.pointsTo_blocks_join_exists (ℓ := (c : Thread nD τ).loc cc0_scratch1) SU SU_disjoint SU_cover f0)
  irw [bigSep2]
  isplitl [H0]
  · iexists f0; iapply (ent_of_eq (slotU_eq c 0 f0)); iexact H0
  · iexists f1; iapply (ent_of_eq (slotU_eq c 1 f1)); iexact H1
theorem splitD (c : Dev nD) :
    iprop(∃ f : Buf (Elt F) ((c : Thread nD τ).loc cc0_scratch2), ((c : Thread nD τ).loc cc0_scratch2) ↦{fullShare} f)
      ⊢ (iprop((∃ f, slotD c 0 f) ∗ ∃ f, slotD c 1 f) : sProp 𝕄) := by
  iintro ⟨%f, H⟩
  ihave H2 := (ent_of_eq ((Ring.pointsTo_blocks (Ix := Unit) (Name := ℕ) (U := Gh nD τ) (Lvl := ℕ) (q := fullShare) (ℓ := (c : Thread nD τ).loc cc0_scratch2) SD SD_disjoint SD_cover f).trans (bigSep2 _))) $$ H
  icases H2 with ⟨H0, H1⟩
  isplitl [H0]
  · iexists f; iapply (ent_of_eq (slotD_eq c 0 f).symm); iexact H0
  · iexists f; iapply (ent_of_eq (slotD_eq c 1 f).symm); iexact H1
theorem joinD (c : Dev nD) :
    iprop((∃ f, slotD c 0 f) ∗ ∃ f, slotD c 1 f)
      ⊢ (iprop(∃ f : Buf (Elt F) ((c : Thread nD τ).loc cc0_scratch2), ((c : Thread nD τ).loc cc0_scratch2) ↦{fullShare} f) : sProp 𝕄) := by
  iintro ⟨⟨%f0, H0⟩, ⟨%f1, H1⟩⟩
  iapply (Ring.pointsTo_blocks_join_exists (ℓ := (c : Thread nD τ).loc cc0_scratch2) SD SD_disjoint SD_cover f0)
  irw [bigSep2]
  isplitl [H0]
  · iexists f0; iapply (ent_of_eq (slotD_eq c 0 f0)); iexact H0
  · iexists f1; iapply (ent_of_eq (slotD_eq c 1 f1)); iexact H1

theorem ownSems0_eq (c : Dev nD) : (Pipeline.ownSems0 (Ix := Unit) (Name := ℕ) (U := Gh nD τ) (Lvl := ℕ) (Val := Elt F) (τ := τ) osem c : sProp 𝕄)
    = iprop(cellP c 0 0 ∗ cellP c 0 1 ∗ cellP c 1 0 ∗ cellP c 1 1) := by
  unfold Pipeline.ownSems0; rw [bigSep4]

/-! ## The state between two points -/

/-- After `n` points. -/
def Φ (c : Dev nD) (n : ℕ) : sProp 𝕄 := iprop((∃ f, hP c f) ∗ if n = 0 ∨ n = 32 then idle c (WU m c) (WD m c) else pend c (WU m c) (WD m c) 0)

theorem coord (t : Fin cfg0.N) : ((grid0.coords t) 0).val = t.val := (by decide +kernel : ∀ t : Fin grid0.N, ((grid0.coords t) 0).val = t.val) t
theorem lt32 (t : Fin cfg0.N) : t.val < 32 := lt_of_lt_of_eq t.isLt N_0

theorem Φ_before (c : Dev nD) (t : Fin cfg0.N) : Φ m c t.val = iprop((∃ f, hP c f) ∗ before c (WU m c) (WD m c) (grid0.coords t)) := by
  have h := lt32 t
  unfold Φ before
  rw [coord]
  by_cases e : t.val = 0
  · rw [if_pos (Or.inl e), if_pos e]
  · rw [if_neg (by omega), if_neg e]
theorem Φ_after (c : Dev nD) (t : Fin cfg0.N) : Φ m c (t.val + 1) = iprop((∃ f, hP c f) ∗ afterP c (WU m c) (WD m c) (grid0.coords t)) := by
  have h := lt32 t
  unfold Φ afterP
  rw [coord]
  by_cases e : t.val = 31
  · rw [if_pos (by omega), if_pos e]
  · rw [if_neg (by omega), if_neg e]

/-! ## The grid -/

/-- Window `w`'s block at point `t`, read off its array at the start. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The block of the result left at point `t`. -/
def outAt (c : Dev nD) (t : Fin cfg0.N) : Vec F S1024x2048 .f32 :=
  outV c (WU m c) (WD m c) (iblk m c 0 t) (iblk m c 1 t)

def dats (_ : Fin 1) (c : Dev nD) : Dat τ (Elt F) Unit ℕ (Gh nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ n := Φ m c n.val
  q _ := fullShare
  owed _ := 0

theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem after_w2 (c : Dev nD) (t : Fin cfg0.N) : (dats m 0 c).after 2 t = iblk m c 2 t := by dsimp only [dats]
theorem after_w3 (c : Dev nD) (t : Fin cfg0.N) : (dats m 0 c).after 3 t = outAt m c t := by dsimp only [dats]
theorem before_w0 (c : Dev nD) (t : Fin cfg0.N) (d) : (dats m 0 c).before 0 t d = iblk m c 0 t :=
  ((dats m 0 c).before_in_eq_fetched 0 rfl (fun _ => rfl) (fun _ _ _ => rfl) (fun t => by rw [after_w0]; unfold Dat.blockOf iblk; rfl) t d).trans rfl
theorem before_w1 (c : Dev nD) (t : Fin cfg0.N) (d) : (dats m 0 c).before 1 t d = iblk m c 1 t :=
  ((dats m 0 c).before_in_eq_fetched 1 rfl (fun _ => rfl) (fun _ _ _ => rfl) (fun t => by rw [after_w1]; unfold Dat.blockOf iblk; rfl) t d).trans rfl
theorem before_w2 (c : Dev nD) (t : Fin cfg0.N) (d) : (dats m 0 c).before 2 t d = iblk m c 2 t :=
  ((dats m 0 c).before_in_eq_fetched 2 rfl (fun _ => rfl) (fun _ _ _ => rfl) (fun t => by rw [after_w2]; unfold Dat.blockOf iblk; rfl) t d).trans rfl

abbrev hst0 (t : Fin cfg0.N) : (st0_0 t).IsWhole := hstage0_0 ((cfg0.slots t 0).cast nbuf0_0)
abbrev hst1 (t : Fin cfg0.N) : (st0_1 t).IsWhole := hstage0_1 ((cfg0.slots t 1).cast nbuf0_1)
abbrev hst2 (t : Fin cfg0.N) : (st0_2 t).IsWhole := hstage0_2 ((cfg0.slots t 2).cast nbuf0_2)
abbrev hst3 (t : Fin cfg0.N) : (st0_3 t).IsWhole := hstage0_3 ((cfg0.slots t 3).cast nbuf0_3)

theorem prog_eq (t : Fin cfg0.N) : (defs₀ (F := F)) .tc cfg0.body (cfg0.bodyArgs t (cfg0.slots t))
    = bodyG (grid0.coords t) (st0_0 t) (hst0 t) (st0_1 t) (hst1 t) (st0_2 t) (hst2 t) (st0_3 t) (hst3 t) := rfl

set_option backward.isDefEq.respectTransparency.types false in
set_option maxHeartbeats 1000000 in
theorem body_obligation (c : Dev nD) : BodyObligation (dats (F := F) m 0 c) (defs₀ (F := F)) noVar () Set.univ := fun t => by
  rw [bigSep_W0, bigSep_W0]
  dsimp only
  simp only [before_w0, before_w1, before_w2, after_w0, after_w1, after_w2, after_w3]
  rw [show (dats m 0 c).Φ t.castSucc = Φ m c t.val from rfl, show (dats m 0 c).Φ t.succ = Φ m c (t.val + 1) from rfl, Φ_before, Φ_after]
  unfold Dat.owesAt Pipeline.owesWithin
  rw [show (dats m 0 c).owed t.castSucc = 0 from rfl, show (dats m 0 c).owed t.succ = 0 from rfl]
  unfold owns
  iintro ⟨⟨⟨%fh, HH⟩, HT⟩, ⟨%W, -, HW⟩, ⟨%d0, %g0, %hg0, HX⟩, ⟨%d1, %g1, %hg1, HG⟩, ⟨%d2, %g2, %hg2, HF⟩, ⟨%d3, %gO, -, HO⟩⟩
  ihave HX' := (pointsTo_rep_entails (c : Thread nD τ) (st0_0 t) g0 fullShare) $$ HX
  ihave HG' := (pointsTo_rep_entails (c : Thread nD τ) (st0_1 t) g1 fullShare) $$ HG
  ihave HF' := (pointsTo_rep_entails (c : Thread nD τ) (st0_2 t) g2 fullShare) $$ HF
  rw [hg0, hg1, hg2]
  sl_rw [prog_eq t]
  iapply (wp_wand_r Idealize.ShloMosaic.frame (wpE (defs₀ (F := F)) noVar (c : Thread nD τ) none) Set.univ)
  isplitl [HX' HG' HF' HO HH HW HT]
  · iapply (runPoint c (WU m c) (WD m c) (grid0.coords t) (st0_0 t) (hst0 t) (st0_1 t) (hst1 t) (st0_2 t) (hst2 t) (st0_3 t) (hst3 t)
      (iblk m c 0 t) (iblk m c 1 t) (iblk m c 2 t) gO fh W)
    isplitl [HX']; · iexact HX'
    isplitl [HG']; · iexact HG'
    isplitl [HF']; · iexact HF'
    isplitl [HO]; · iexact HO
    isplitl [HH]; · iexact HH
    isplitl [HW]; · iexact HW
    iexact HT
  · iintro %_ ⟨HX, HG, HF, HO, HH, ⟨%W', HW⟩, HT⟩
    isplitl [HH HT]
    · isplitl [HH]; · iexact HH
      iexact HT
    isplitl [HW]
    · iexists W'; isplitr; · ipureintro; exact fun _ _ => Or.inl trivial
      iexact HW
    isplitl [HX]
    · iexists _; isplitr; · ipureintro; exact View.read_rep _ _
      iexact HX
    isplitl [HG]
    · iexists _; isplitr; · ipureintro; exact View.read_rep _ _
      iexact HG
    isplitl [HF]
    · iexists _; isplitr; · ipureintro; exact View.read_rep _ _
      iexact HF
    iexists _; isplitr; · ipureintro; exact View.read_rep _ _
    iexact HO

/-! ## The run -/

def intoΦ (c : Dev nD) : sProp 𝕄 := iprop(bigSep Finset.univ (homeU c (WU m c)) ∗ bigSep Finset.univ (homeD c (WD m c)) ∗ Pipeline.ownSems0 osem c)
def outOfΦ (c : Dev nD) : sProp 𝕄 :=
  iprop((((c : Thread nD τ).loc main_arg2) ↦{fullShare} m ((c : Thread nD τ).loc main_arg2)) ∗ (((c : Thread nD τ).loc main_arg3) ↦{fullShare} m ((c : Thread nD τ).loc main_arg3)))
def u₀ : Gh nD τ := (initOf (Pipeline.cells cfgs Cert.Kernel3Ideal.Gen.cellOf_inj) (Pipeline.launchToks cfgs Cert.Kernel3Ideal.Gen.cellOf_inj), 1)
def finalA (c : Dev nD) (w : Fin cfg0.W) : Buf (Elt F) ((cfg0.win w).arr.view.loc (c : Thread nD τ)) := (dats m 0 c).arrAt w cfg0.N
def QY (c : Dev nD) (s : MemSt nD τ sig (Elt F)) : Prop :=
  s.mem ((c : Thread nD τ).loc main_arg2) = m ((c : Thread nD τ).loc main_arg2) ∧ s.mem ((c : Thread nD τ).loc main_arg3) = m ((c : Thread nD τ).loc main_arg3)
def QC : PUnit × MemSt nD τ sig (Elt F) → Prop := fun r =>
  ∀ c : Dev nD, (∀ w : Fin cfg0.W, r.2.mem ((cfg0.win w).arr.view.loc (c : Thread nD τ)) = finalA m c w) ∧ QY m c r.2

theorem Φ_first (c : Dev nD) : (dats m 0 c).Φ 0 = iprop((∃ f, hP c f) ∗ idle c (WU m c) (WD m c)) := by
  show Φ m c 0 = _
  unfold Φ; rw [if_pos (Or.inl rfl)]
theorem Φ_last (c : Dev nD) : (dats m 0 c).Φ (Fin.last cfg0.N) = iprop((∃ f, hP c f) ∗ idle c (WU m c) (WD m c)) := by
  show Φ m c cfg0.N = _
  unfold Φ; rw [if_pos (Or.inr N_0)]

set_option backward.isDefEq.respectTransparency.types false in
set_option maxHeartbeats 4000000 in
/-- The call runs to its end, the two matrices unchanged, every counter at zero, every array at what the points leave. -/
theorem run_main : θ_run defs (onTc (τ := τ) (main (F := F))) (start m ρ) (fun r => QC m r ∧ r.2.sem = fun _ => 0) :=
  Pipeline.θ_run_region_kit_quiescent cfgs (dats m) () (0 : Fin 1) launch0 ownSemFacts emb defs₀ noVar m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := fun c b => m ((c : Thread nD τ).loc b))
    (hmain := fun c Q => by
      simp only [main, Prog.lift, Prog.bind_op, Prog.bind_ret]
      iintro ⟨Hk, Hb⟩; iapply Hk; iexact Hb)
    (hA := fun _ _ => rfl)
    (X := intoΦ m) (Y := outOfΦ m) (Z := fun _ => iprop(emp))
    (hX := fun c => by
      rw [unscopedRest0_eq, wu_eq m c, wd_eq m c]
      unfold intoΦ
      iintro ⟨⟨H0, H1⟩, HS, -, -, -⟩; imodintro
      isplitl [H0 H1 HS]
      · isplitl [H0]; · iexact H0
        isplitl [H1]; · iexact H1
        iexact HS
      iempintro)
    (hin := fun c => by
      rw [scopedRest0_eq, Φ_first]
      unfold intoΦ idle freeS; rw [ownSems0_eq]
      iintro ⟨⟨H0, H1, HA0, HA1, HB0, HB1⟩, ⟨HH, HU, HD⟩⟩
      ihave Hs := (splitU c) $$ HU
      icases Hs with ⟨HU0, HU1⟩
      ihave Hs := (splitD c) $$ HD
      icases Hs with ⟨HD0, HD1⟩
      icases HH with ⟨%fh, HH⟩
      isplitl [HH]; · iexists fh; iapply (ent_of_eq (h_eq c fh).symm); iexact HH
      isplitl [H0]; · iexact H0
      isplitl [H1]; · iexact H1
      isplitl [HU0 HD0 HA0 HB0]
      · isplitl [HU0]; · iexact HU0
        isplitl [HD0]; · iexact HD0
        isplitl [HA0]; · iexact HA0
        iexact HB0
      isplitl [HU1]; · iexact HU1
      isplitl [HD1]; · iexact HD1
      isplitl [HA1]; · iexact HA1
      iexact HB1)
    (hout := fun c => by
      rw [scopedRest0_eq, Φ_last, ownSems0_eq]
      unfold idle freeS outOfΦ; rw [wu_eq m c, wd_eq m c]
      iintro ⟨HH, H0, H1, ⟨HU0, HD0, HA0, HB0⟩, ⟨HU1, HD1, HA1, HB1⟩⟩
      isplitl [H0 H1]
      · isplitl [H0]; · iexact H0
        iexact H1
      isplitl [HA0 HA1 HB0 HB1]
      · isplitl [HA0]; · iexact HA0
        isplitl [HA1]; · iexact HA1
        isplitl [HB0]; · iexact HB0
        iexact HB1
      icases HH with ⟨%fh, HH⟩
      isplitl [HH]; · iexists fh; iapply (ent_of_eq (h_eq c fh)); iexact HH
      isplitl [HU0 HU1]
      · iapply (joinU c)
        isplitl [HU0]; · iexact HU0
        iexact HU1
      iapply (joinD c)
      isplitl [HD0]; · iexact HD0
      iexact HD1)
    (QY := QY m)
    (hY := fun c s' => by
      unfold outOfΦ
      iintro ⟨⟨H0, H1⟩, -, HSI⟩
      icombine HSI H0 gives %h0
      icombine HSI H1 gives %h1
      imodintro
      isplitr; · ipureintro; exact ⟨Buf.eq_of_forall_mem_univ h0, Buf.eq_of_forall_mem_univ h1⟩
      iexact HSI)
    (hQ := fun _ hh hz => ⟨hh, hz⟩)

theorem finalA_in (c : Dev nD) (w : Fin cfg0.W) (hw : (cfg0.win w).isOut = false) :
    finalA m c w = m ((cfg0.win w).arr.view.loc (c : Thread nD τ)) :=
  (dats (F := F) m 0 c).arrAt_in w hw _

/-- The run with the arguments named. -/
theorem run : θ_run defs (onTc (τ := τ) (main (F := F))) (start m ρ) (fun r => (∀ c : Dev nD,
      r.2.mem ((c : Thread nD τ).loc main_v0) = finalA m c 3
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run defs _ _).mono (fun _ hh => ⟨fun c => ⟨(hh.1 c).1 3, ((hh.1 c).1 0).trans (finalA_in m c 0 rfl), ((hh.1 c).1 1).trans (finalA_in m c 1 rfl),
    (hh.1 c).2.1, (hh.1 c).2.2, ((hh.1 c).1 2).trans (finalA_in m c 2 rfl)⟩, hh.2⟩) (run_main m ρ)

/-- Frame and quiescence. -/
theorem frame : θ_run defs (onTc (τ := τ) (main (F := F))) (start m ρ) (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run defs _ _).mono (fun _ hh => ⟨fun c => (hh.1 c).2, hh.2⟩) (run m ρ)

end Cert.Proof.MlpBody3

end
-- ==== Proof.MlpPay3.lean ====
/-
  The stored values of the feed-forward call, index by index at the ideal values.
-/
module

public import proofs.«01_k».proof.Proof.MlpSpec
public import proofs.«01_k».proof.Proof.MlpBody3

@[expose] public section

set_option maxRecDepth 16384

noncomputable section

namespace Cert.Proof.MlpBody3

open Idealize.ShloMosaic Idealize.ShloMosaic.TcCoe Cert.Kernel3Ideal Cert.Kernel3Ideal.Gen Cert.Spec2

/-- A half block's part in a row of the result. -/
def half (h : Vec Ideal S1024x2048 .bf16) (wu : Vec Ideal S2048x512 .bf16) (wd : Vec Ideal S512x2048 .bf16) (r : Fin 1024) (e : Fin 2048) : EReal :=
  ∑ f : Fin 512, act (∑ l : Fin 2048, h (ix2 r l) * wu (ix2 l f)) * wd (ix2 f e)

theorem zeroBits : Ideal.ofBits .f32 0x00000000#32 = 0 := by simp [Ideal.ofBits, Ideal.ieee]

theorem pay16_apply (h : Vec Ideal S1024x2048 .bf16) (wu : Vec Ideal S2048x512 .bf16) (wd : Vec Ideal S512x2048 .bf16) (r : Fin 1024) (e : Fin 2048) :
    k0_pay16 (F := Ideal) h wu wd (ix2 r e) = half h wu wd r e := by
  unfold half act
  pointwise [k0_pay16]

theorem pay3_apply (h : Vec Ideal S1024x2048 .bf16) (wu : Vec Ideal S2048x512 .bf16) (wd : Vec Ideal S512x2048 .bf16) (o : Vec Ideal S1024x2048 .f32) (r : Fin 1024) (e : Fin 2048) :
    k0_pay3 (F := Ideal) h wu wd o (ix2 r e) = o (ix2 r e) + half h wu wd r e := by
  unfold half act
  pointwise [k0_pay3]

theorem pay4_apply (h : Vec Ideal S1024x2048 .bf16) (wu : Vec Ideal S2048x512 .bf16) (wd : Vec Ideal S512x2048 .bf16) (o : Vec Ideal S1024x2048 .f32) (r : Fin 1024) (e : Fin 2048) :
    k0_pay4 (F := Ideal) h wu wd o (ix2 r e) = o (ix2 r e) + half h wu wd r e := by
  unfold half act
  pointwise [k0_pay4]

theorem pay2_apply (h : Vec Ideal S1024x2048 .bf16) (wu : Vec Ideal S2048x512 .bf16) (wd : Vec Ideal S512x2048 .bf16) (o : Vec Ideal S1024x2048 .f32) (r : Fin 1024) (e : Fin 2048) :
    k0_pay2 (F := Ideal) h wu wd o (ix2 r e) = o (ix2 r e) + half h wu wd r e := by
  unfold half act
  pointwise [k0_pay2]

theorem pay1_apply (z x : Vec Ideal S1024x2048 .f32) (r : Fin 1024) (e : Fin 2048) :
    k0_pay1 (F := Ideal) z x (ix2 r e) = x (ix2 r e) + z (ix2 r e) := by
  pointwise [k0_pay1]

theorem pay5_apply (x : Vec Ideal S1024x2048 .f32) (r : Fin 1024) :
    k0_pay5 (F := Ideal) x (ix2 r 0) = scale (fun l => x (ix2 r l)) := by
  unfold scale
  pointwise [k0_pay5]

theorem piece5_apply (x : Vec Ideal S1024x2048 .f32) (a : Vec Ideal S1024x256 .f32) (b : Vec Ideal S1x256 .f32) (r : Fin 1024) (j : Fin 256) :
    k0_pay6 (F := Ideal) x a b (ix2 r j) = a (ix2 r j) * k0_pay5 x (ix2 r 0) * b (ix2 0 j) := by
  pointwise [k0_pay6]

theorem piece6_apply (x : Vec Ideal S1024x2048 .f32) (a : Vec Ideal S1024x256 .f32) (b : Vec Ideal S1x256 .f32) (r : Fin 1024) (j : Fin 256) :
    k0_pay7 (F := Ideal) x a b (ix2 r j) = a (ix2 r j) * k0_pay5 x (ix2 r 0) * b (ix2 0 j) := by
  pointwise [k0_pay7]

theorem piece7_apply (x : Vec Ideal S1024x2048 .f32) (a : Vec Ideal S1024x256 .f32) (b : Vec Ideal S1x256 .f32) (r : Fin 1024) (j : Fin 256) :
    k0_pay9 (F := Ideal) (k0_pay8 x a b) (ix2 r j) = a (ix2 r j) * k0_pay5 x (ix2 r 0) * b (ix2 0 j) := by
  pointwise [k0_pay9, k0_pay8]

theorem piece9_apply (q : FVec Ideal S1024x1 .f32) (a : Vec Ideal S1024x256 .f32) (b : Vec Ideal S1x256 .f32) (r : Fin 1024) (j : Fin 256) :
    k0_pay10 (F := Ideal) q a b (ix2 r j) = a (ix2 r j) * q (ix2 r 0) * b (ix2 0 j) := by
  pointwise [k0_pay10]

theorem piece10_apply (q : FVec Ideal S1024x1 .f32) (a : Vec Ideal S1024x256 .f32) (b : Vec Ideal S1x256 .f32) (r : Fin 1024) (j : Fin 256) :
    k0_pay11 (F := Ideal) q a b (ix2 r j) = a (ix2 r j) * q (ix2 r 0) * b (ix2 0 j) := by
  pointwise [k0_pay11]

theorem piece11_apply (q : FVec Ideal S1024x1 .f32) (a : Vec Ideal S1024x256 .f32) (b : Vec Ideal S1x256 .f32) (r : Fin 1024) (j : Fin 256) :
    k0_pay12 (F := Ideal) q a b (ix2 r j) = a (ix2 r j) * q (ix2 r 0) * b (ix2 0 j) := by
  pointwise [k0_pay12]

theorem piece13_apply (q : FVec Ideal S1024x1 .f32) (a : Vec Ideal S1024x256 .f32) (b : Vec Ideal S1x256 .f32) (r : Fin 1024) (j : Fin 256) :
    k0_pay14 (F := Ideal) (k0_pay13 q a) b (ix2 r j) = a (ix2 r j) * q (ix2 r 0) * b (ix2 0 j) := by
  pointwise [k0_pay14, k0_pay13]

theorem piece14_apply (q : FVec Ideal S1024x1 .f32) (a : Vec Ideal S1024x256 .f32) (b : Vec Ideal S1x256 .f32) (r : Fin 1024) (j : Fin 256) :
    k0_pay15 (F := Ideal) q a b (ix2 r j) = a (ix2 r j) * q (ix2 r 0) * b (ix2 0 j) := by
  pointwise [k0_pay15]

end Cert.Proof.MlpBody3
end
-- ==== Proof.MlpValue3.lean ====
/-
  The block of the result that a point of the feed-forward call leaves: the normalized rows, and the hidden features added
  up half a block at a time.
-/
module

public import proofs.«01_k».proof.Proof.MlpPay3
public import Idealize.ShloMosaic.Lib.Pipeline.ReadBack
public import Idealize.ShloMosaic.Lib.Pipeline.ValueKit

@[expose] public section

set_option maxRecDepth 16384

noncomputable section

namespace Cert.Proof.MlpBody3

open Idealize.ShloMosaic Idealize.ShloMosaic.TcCoe Cert.Kernel3Ideal Cert.Kernel3Ideal.Gen Cert.Spec2

/-- A value of a rectangle of a matrix, by its place in the matrix. -/
theorem at_unit {n w a b : ℕ} {α : Type} (X : (⟨2, ![n, w]⟩ : Shape).Idx → α) (o0 o1 : ℕ)
    (h : ∀ x, (![o0, o1] : Fin 2 → ℕ) x + (![a, b] : Fin 2 → ℕ) x ≤ (⟨2, ![n, w]⟩ : Shape).size x)
    (r : Fin a) (d : Fin b) (i : Fin n) (j : Fin w) (hi : (i : ℕ) = o0 + r) (hj : (j : ℕ) = o1 + d) :
    X ((Rect.unit (s := ⟨2, ![n, w]⟩) ![o0, o1] ![a, b] h).toLoadRect.idx (ix2 r d)) = X (ix2 i j) := by
  refine congrArg X (funext fun x => Fin.ext ?_)
  refine (Rect.idx_unit_val (s := ⟨2, ![n, w]⟩) _ _ h (ix2 r d) x).trans ?_
  fin_cases x
  · exact hi.symm
  · exact hj.symm

/-- The normalized rows, as one array. -/
def hS (x : Vec Ideal S1024x2048 .f32) (g : Vec Ideal S1x2048 .f32) : Vec Ideal S1024x2048 .bf16 := fun i =>
  normed (fun l => x (ix2 ⟨i 0, (i 0).isLt⟩ l)) (fun l => g (ix2 0 l)) ⟨i 1, (i 1).isLt⟩

theorem h_piece (x : Vec Ideal S1024x2048 .f32) (g : Vec Ideal S1x2048 .f32) (o : ℕ)
    (hx : ∀ a, (![0, o] : Fin 2 → ℕ) a + S1024x256.size a ≤ S1024x2048.size a) (hg : ∀ a, (![0, o] : Fin 2 → ℕ) a + S1x256.size a ≤ S1x2048.size a)
    (p : Vec Ideal S1024x256 .bf16)
    (hp : ∀ (r : Fin 1024) (j : Fin 256), p (ix2 r j) = x ((Rect.unit (s := S1024x2048) ![0, o] S1024x256.size hx).toLoadRect.idx (ix2 r j)) * k0_pay5 (F := Ideal) x (ix2 r 0)
      * g ((Rect.unit (s := S1x2048) ![0, o] S1x256.size hg).toLoadRect.idx (ix2 0 j)))
    (j : (Rect.unit (s := S1024x2048) ![0, o] S1024x256.size hx).shape.Idx) :
    p j = hS x g ((Rect.unit (s := S1024x2048) ![0, o] S1024x256.size hx).emb j) := by
  have e0 : ((Rect.unit (s := S1024x2048) ![0, o] S1024x256.size hx).emb j 0 : ℕ) = 0 + j 0 := Rect.idx_unit_val _ _ _ j 0
  have e1 : ((Rect.unit (s := S1024x2048) ![0, o] S1024x256.size hx).emb j 1 : ℕ) = o + j 1 := Rect.idx_unit_val _ _ _ j 1
  have hj : j = ix2 (⟨j 0, (j 0).isLt⟩ : Fin 1024) (⟨j 1, (j 1).isLt⟩ : Fin 256) := by
    funext a; fin_cases a <;> rfl
  have hlt : o + (j 1 : ℕ) < 2048 := by
    have h1 : o + 256 ≤ 2048 := hx 1
    have h2 : (j 1 : ℕ) < 256 := (j 1).isLt
    omega
  have hr : (⟨(Rect.unit (s := S1024x2048) ![0, o] S1024x256.size hx).emb j 0, ((Rect.unit (s := S1024x2048) ![0, o] S1024x256.size hx).emb j 0).isLt⟩ : Fin 1024) = ⟨j 0, (j 0).isLt⟩ :=
    Fin.ext (e0.trans (Nat.zero_add _))
  have hc : (⟨(Rect.unit (s := S1024x2048) ![0, o] S1024x256.size hx).emb j 1, ((Rect.unit (s := S1024x2048) ![0, o] S1024x256.size hx).emb j 1).isLt⟩ : Fin 2048) = ⟨o + j 1, hlt⟩ := Fin.ext e1
  have hS' : hS x g ((Rect.unit (s := S1024x2048) ![0, o] S1024x256.size hx).emb j)
      = normed (fun l => x (ix2 ⟨j 0, (j 0).isLt⟩ l)) (fun l => g (ix2 0 l)) ⟨o + j 1, hlt⟩ := by
    unfold hS; rw [hr, hc]
  rw [hS']
  refine (congrArg p hj).trans ((hp _ _).trans ?_)
  unfold normed
  rw [pay5_apply]
  refine congrArg₂ (fun a b : EReal => a * b) (congrArg (fun a : EReal => a * _) ?_) ?_
  · exact at_unit (n := 1024) (w := 2048) (a := 1024) (b := 256) x 0 o hx _ _ _ _ (Nat.zero_add _).symm rfl
  · exact at_unit (n := 1) (w := 2048) (a := 1) (b := 256) g 0 o hg 0 _ 0 _ rfl rfl

theorem h_pieces (x : Vec Ideal S1024x2048 .f32) (g : Vec Ideal S1x2048 .f32) : View.PiecesOf (Val := Elt Ideal) (hS x g) (hL x g) := by
  unfold hL
  refine ⟨?_, ?_, ?_, ?_, ?_, ?_, ?_, ?_, trivial⟩
  · exact h_piece x g 1792 _ _ _ fun r j => piece14_apply _ _ _ r j
  · exact h_piece x g 1536 _ _ _ fun r j => piece13_apply _ _ _ r j
  · exact h_piece x g 1280 _ _ _ fun r j => piece11_apply _ _ _ r j
  · exact h_piece x g 1024 _ _ _ fun r j => piece10_apply _ _ _ r j
  · exact h_piece x g 768 _ _ _ fun r j => piece9_apply _ _ _ r j
  · exact h_piece x g 512 _ _ _ fun r j => piece7_apply _ _ _ r j
  · exact h_piece x g 256 _ _ _ fun r j => piece6_apply _ _ _ r j
  · exact h_piece x g 0 _ _ _ fun r j => piece5_apply _ _ _ r j

/-- The rows the hidden features are computed from are the normalized ones. -/
theorem hV_eq (x : Vec Ideal S1024x2048 .f32) (g : Vec Ideal S1x2048 .f32) : hV (F := Ideal) x g = hS x g := by
  unfold hV
  rw [View.read_writes_junk_eq_canon]
  funext j
  exact View.canon_append_of_piecesOf _ [] _ (h_pieces x g) _ (View.cover_of_tiledBy _ ![1024, 256] (by sl_kernel_rfl) _)

/-- Hidden feature `n`'s part, by its number. -/
def part (h : Fin 2048 → EReal) (wu : Fin 2048 → Fin 8192 → EReal) (wd : Fin 8192 → Fin 2048 → EReal) (e : Fin 2048) (n : ℕ) : EReal :=
  if hn : n < 8192 then term h wu wd e ⟨n, hn⟩ else 0

theorem half_eq (h : Vec Ideal S1024x2048 .bf16) (wu : Vec Ideal S2048x512 .bf16) (wd : Vec Ideal S512x2048 .bf16)
    (WU : Fin 2048 → Fin 8192 → EReal) (WD : Fin 8192 → Fin 2048 → EReal) (n0 : ℕ) (hn : n0 + 512 ≤ 8192)
    (hu : ∀ (l : Fin 2048) (f : Fin 512), wu (ix2 l f) = WU l ⟨n0 + f, by omega⟩) (hd : ∀ (f : Fin 512) (e : Fin 2048), wd (ix2 f e) = WD ⟨n0 + f, by omega⟩ e)
    (r : Fin 1024) (e : Fin 2048) :
    half h wu wd r e = ∑ f ∈ Finset.range 512, part (fun l => h (ix2 r l)) WU WD e (n0 + f) := by
  rw [← Fin.sum_univ_eq_sum_range (fun f => part (fun l => h (ix2 r l)) WU WD e (n0 + f)) 512]
  unfold half
  refine Finset.sum_congr rfl fun f _ => ?_
  unfold part
  rw [dif_pos (by omega)]
  unfold term
  rw [hd]
  simp only [hu]

theorem add_half (z : EReal) (φ : ℕ → EReal) (n : ℕ) : z + ∑ f ∈ Finset.range n, φ f + ∑ f ∈ Finset.range 512, φ (n + f) = z + ∑ f ∈ Finset.range (n + 512), φ f := by
  rw [add_assoc, ← Finset.sum_range_add]

variable (c : Dev nD) (XU : Buf (Elt Ideal) (wuM.view.loc (c : Thread nD τ))) (XD : Buf (Elt Ideal) (wdM.view.loc (c : Thread nD τ)))

/-- The weights as functions of a row and a column. -/
def up (l : Fin 2048) (f : Fin 8192) : EReal := (XU : Vec Ideal S2048x8192 .bf16) (ix2 l f)
def down (f : Fin 8192) (e : Fin 2048) : EReal := (XD : Vec Ideal S8192x2048 .bf16) (ix2 f e)

theorem payU_apply (b : Fin 8) (l : Fin 2048) (f : Fin 1024) : payU (F := Ideal) c XU b (ix2 l f) = up c XU l ⟨1024 * b + f, by omega⟩ :=
  at_unit (n := 2048) (w := 8192) (a := 2048) (b := 1024) (XU : Vec Ideal S2048x8192 .bf16) 0 (1024 * b) (ublk_inb b) l f _ _ (Nat.zero_add _).symm rfl

theorem payD_apply (b : Fin 8) (f : Fin 1024) (e : Fin 2048) : payD (F := Ideal) c XD b (ix2 f e) = down c XD ⟨1024 * b + f, by omega⟩ e :=
  at_unit (n := 8192) (w := 2048) (a := 1024) (b := 2048) (XD : Vec Ideal S8192x2048 .bf16) (1024 * b) 0 (dblk_inb b) f e _ _ rfl (Nat.zero_add _).symm

theorem lo_half (h : Vec Ideal S1024x2048 .bf16) (b : Fin 8) (r : Fin 1024) (e : Fin 2048) :
    half h (fun j => payU c XU b (RUlo.toLoadRect.idx j)) (fun j => payD c XD b (RDlo.toLoadRect.idx j)) r e
      = ∑ f ∈ Finset.range 512, part (fun l => h (ix2 r l)) (up c XU) (down c XD) e (1024 * b + f) := by
  refine half_eq h _ _ _ _ (1024 * b) (by omega) (fun l f => ?_) (fun f e => ?_) r e
  · refine (at_unit (n := 2048) (w := 1024) (a := 2048) (b := 512) (payU c XU b) 0 0 _ l f l ⟨f, by omega⟩ (Nat.zero_add _).symm (Nat.zero_add _).symm).trans ?_
    exact payU_apply c XU b l _
  · refine (at_unit (n := 1024) (w := 2048) (a := 512) (b := 2048) (payD c XD b) 0 0 _ f e ⟨f, by omega⟩ e (Nat.zero_add _).symm (Nat.zero_add _).symm).trans ?_
    exact payD_apply c XD b _ e

theorem hi_half (h : Vec Ideal S1024x2048 .bf16) (b : Fin 8) (r : Fin 1024) (e : Fin 2048) :
    half h (fun j => payU c XU b (RUhi.toLoadRect.idx j)) (fun j => payD c XD b (RDhi.toLoadRect.idx j)) r e
      = ∑ f ∈ Finset.range 512, part (fun l => h (ix2 r l)) (up c XU) (down c XD) e (1024 * b + 512 + f) := by
  refine half_eq h _ _ _ _ (1024 * b + 512) (by omega) (fun l f => ?_) (fun f e => ?_) r e
  · refine (at_unit (n := 2048) (w := 1024) (a := 2048) (b := 512) (payU c XU b) 0 512 _ l f l ⟨512 + f, by omega⟩ (Nat.zero_add _).symm rfl).trans ?_
    refine (payU_apply c XU b l _).trans (congrArg (up c XU l) (Fin.ext ?_))
    show 1024 * (b : ℕ) + (512 + f) = 1024 * b + 512 + f
    omega
  · refine (at_unit (n := 1024) (w := 2048) (a := 512) (b := 2048) (payD c XD b) 512 0 _ f e ⟨512 + f, by omega⟩ e rfl (Nat.zero_add _).symm).trans ?_
    refine (payD_apply c XD b _ e).trans (congrArg (fun z => down c XD z e) (Fin.ext ?_))
    show 1024 * (b : ℕ) + (512 + f) = 1024 * b + 512 + f
    omega

/-- The result block after `k` trips: the hidden features of the first `k + 1` blocks are in. -/
theorem oV_apply (x : Vec Ideal S1024x2048 .f32) (g : Vec Ideal S1x2048 .f32) (r : Fin 1024) (e : Fin 2048) : ∀ k : ℕ, k < 8 →
    oV (F := Ideal) c XU XD (hV x g) (o0V c XU XD x g) k (ix2 r e)
      = x (ix2 r e) + ∑ f ∈ Finset.range (1024 * k + 1024), part (fun l => hV (F := Ideal) x g (ix2 r l)) (up c XU) (down c XD) e f
  | 0, _ => by
    unfold oV o0V
    rw [pay2_apply, pay1_apply, pay16_apply, lo_half, hi_half]
    have a := add_half (x (ix2 r e)) (part (fun l => hV (F := Ideal) x g (ix2 r l)) (up c XU) (down c XD) e) 512
    have e1 : ∀ f : ℕ, 1024 * ((0 : Fin 8) : ℕ) + f = f := fun f => by simp
    have e2 : ∀ f : ℕ, 1024 * ((0 : Fin 8) : ℕ) + 512 + f = 512 + f := fun f => by simp
    simp only [e1, e2]
    exact a
  | k + 1, hk => by
    have ih := oV_apply x g r e k (by omega)
    have hb : ((b8 (k + 1) : Fin 8) : ℕ) = k + 1 := Nat.mod_eq_of_lt hk
    unfold oV nextO
    rw [pay4_apply, pay3_apply, ih, lo_half, hi_half, hb]
    have e1 : 1024 * (k + 1) = 1024 * k + 1024 := by omega
    rw [e1, add_half, add_half]

/-- The block of the result that a point leaves. -/
theorem outV_apply (x : Vec Ideal S1024x2048 .f32) (g : Vec Ideal S1x2048 .f32) (r : Fin 1024) (e : Fin 2048) :
    outV (F := Ideal) c XU XD x g (ix2 r e)
      = ffn (fun l => x (ix2 r l)) (normed (fun l => x (ix2 r l)) (fun l => g (ix2 0 l))) (up c XU) (down c XD) e := by
  unfold outV
  rw [seven, oV_apply c XU XD x g r e 7 (by decide)]
  unfold ffn
  refine congrArg (fun z : EReal => x (ix2 r e) + z) ?_
  rw [← Fin.sum_univ_eq_sum_range (part (fun l => hV (F := Ideal) x g (ix2 r l)) (up c XU) (down c XD) e) 8192]
  refine Finset.sum_congr rfl fun f _ => ?_
  unfold part
  rw [dif_pos f.isLt, hV_eq]
  rfl

end Cert.Proof.MlpBody3
end
-- ==== Proof.MlpRef3.lean ====
/-
  The reference of the feed-forward layer, index by index at the ideal values.
-/
module

public import proofs.«01_k».proof.Proof.MlpSpec
public import proofs.«01_k».proof.Proof.Gen.Reference3Ideal.Run

@[expose] public section

set_option maxRecDepth 16384

noncomputable section

namespace Cert.Reference3Ideal.Hand

open Idealize.ShloMosaic Idealize.ShloMosaic.TcCoe Cert.Reference3Ideal Cert.Reference3Ideal.Gen Cert.Spec2

/-- The reference's normalization of all rows. -/
def normR (x : FVec Ideal S32768x2048 .f32) (g : FVec Ideal S1x2048 .f32) : FVec Ideal S32768x2048 .f32 :=
  mulf (mulf x (broadcastInDim S32768x2048 ![0, 1] bcast_S32768x1_S32768x2048_0_1 (Host.rsqrt (addf (Host.divf (broadcastInDim S32768x1 ![0] bcast_S32768_S32768x1_0 (Host.reduceAdd (mulf x x) (constant S_ .f32 0x00000000#32) reducesTo_S32768x2048_S32768_d1 h_S_)) (broadcastInDim S32768x1 ![] bcast_S_S32768x1 (constant S_ .f32 0x45000000#32))) (broadcastInDim S32768x1 ![] bcast_S_S32768x1 (constant S_ .f32 0x3727C5AC#32)))))) (broadcastInDim S32768x2048 ![0, 1] bcast_S1x2048_S32768x2048_0_1 g)

/-- The hidden features, rectified. -/
def hidR (h : FVec Ideal S32768x2048 .f32) (wu : FVec Ideal S2048x8192 .bf16) : FVec Ideal S32768x8192 .f32 :=
  maximumf (Host.dotGeneral dot_S32768x2048_S2048x8192_S32768x8192_1_0_0_1_n_n none h (extf .f32 wu bitsLt_bf16_f32)) (broadcastInDim S32768x8192 ![] bcast_S_S32768x8192 (constant S_ .f32 0x00000000#32))

/-- The rows after the feed-forward layer. -/
def ffnR (x h : FVec Ideal S32768x2048 .f32) (wu : FVec Ideal S2048x8192 .bf16) (wd : FVec Ideal S8192x2048 .bf16) : FVec Ideal S32768x2048 .f32 :=
  addf x (Host.dotGeneral dot_S32768x8192_S8192x2048_S32768x2048_1_0_0_1_n_n none (mulf (hidR h wu) (hidR h wu)) (extf .f32 wd bitsLt_bf16_f32))

theorem normR_apply (x : FVec Ideal S32768x2048 .f32) (g : FVec Ideal S1x2048 .f32) (n : Fin 32768) (e : Fin 2048) :
    normR x g (ix2 n e) = normed (fun l => x (ix2 n l)) (fun l => g (ix2 0 l)) e := by
  unfold normed scale
  pointwise [normR]

theorem hidR_apply (h : FVec Ideal S32768x2048 .f32) (wu : FVec Ideal S2048x8192 .bf16) (n : Fin 32768) (f : Fin 8192) :
    hidR h wu (ix2 n f) = max (∑ l : Fin 2048, h (ix2 n l) * wu (ix2 l f)) 0 := by
  pointwise [hidR]

theorem ffnR_apply (x h : FVec Ideal S32768x2048 .f32) (wu : FVec Ideal S2048x8192 .bf16) (wd : FVec Ideal S8192x2048 .bf16) (n : Fin 32768) (e : Fin 2048) :
    ffnR x h wu wd (ix2 n e) = x (ix2 n e) + ∑ f : Fin 8192, hidR h wu (ix2 n f) * hidR h wu (ix2 n f) * wd (ix2 f e) := by
  pointwise [ffnR]

theorem all_apply (x : FVec Ideal S32768x2048 .f32) (g : FVec Ideal S1x2048 .f32) (wu : FVec Ideal S2048x8192 .bf16) (wd : FVec Ideal S8192x2048 .bf16)
    (n : Fin 32768) (e : Fin 2048) :
    ffnR x (normR x g) wu wd (ix2 n e)
      = ffn (fun l => x (ix2 n l)) (normed (fun l => x (ix2 n l)) (fun l => g (ix2 0 l))) (fun l f => wu (ix2 l f)) (fun f l => wd (ix2 f l)) e := by
  rw [ffnR_apply]
  unfold ffn
  refine congrArg (fun z : EReal => (x (ix2 n e) : EReal) + z) (Finset.sum_congr rfl fun f _ => ?_)
  rw [hidR_apply]
  simp only [normR_apply]
  rfl

/-- The reference's run: it ends, its result is the feed-forward layer of its arguments, and they are unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v18) = ffnR (m ((c.tc : Thread nD τ).loc main_arg0)) (normR (m ((c.tc : Thread nD τ).loc main_arg0)) (m ((c.tc : Thread nD τ).loc main_arg1)))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Cert.Reference3Ideal.Value.run (F := Ideal) m ρ

end Cert.Reference3Ideal.Hand
end
-- ==== Proof.MlpFin3.lean ====
/-
  The feed-forward call without the final normalization and its reference end with the same array.
-/
module

public import proofs.«01_k».proof.Proof.MlpRun3
public import proofs.«01_k».proof.Proof.MlpValue3
public import proofs.«01_k».proof.Proof.MlpRef3
public import Idealize.ShloMosaic.Lib.Quiescent

@[expose] public section

set_option maxRecDepth 16384

noncomputable section

namespace Cert.Proof.MlpBody3

open Idealize.ShloMosaic Idealize.ShloMosaic.TcCoe Idealize.SL.Sem Cert.Kernel3Ideal Cert.Kernel3Ideal.Gen

variable (m : (ℓ : Loc nD τ sig) → Buf (Elt Ideal) ℓ)

/-- The block of every window at every grid point. -/
theorem place : ∀ t : Fin cfg0.N, win0_0.index t = ![t.val, 0] ∧ win0_1.index t = ![0, 0] ∧ win0_2.index t = ![0, 0] ∧ win0_3.index t = ![t.val, 0] :=
  (by decide +kernel : ∀ t : Fin grid0.N, _)

theorem point_lt (t : Fin cfg0.N) : t.val < 32 := lt_of_lt_of_eq t.isLt (by decide)

theorem rows_x (c : Dev nD) (t : Fin cfg0.N) (r : Fin 1024) (l : Fin 2048) :
    iblk m c 0 t (ix2 r l) = m ((c : Thread nD τ).loc main_arg0) (ix2 ⟨1024 * t + r, by have := point_lt t; omega⟩ l) := by
  have ht := point_lt t
  blk_ext! [iblk, V, place t]

theorem weights_g (c : Dev nD) (t : Fin cfg0.N) (l : Fin 2048) : iblk m c 1 t (ix2 0 l) = m ((c : Thread nD τ).loc main_arg1) (ix2 0 l) := by
  blk_ext! [iblk, V, place t]

/-- Row `n` of the result as the specification has it. -/
def specRow (c : Dev nD) (n : Fin 32768) (e : Fin 2048) : EReal :=
  Cert.Spec2.ffn (fun l => (m ((c : Thread nD τ).loc main_arg0) : Vec Ideal S32768x2048 .f32) (ix2 n l))
    (Cert.Spec2.normed (fun l => (m ((c : Thread nD τ).loc main_arg0) : Vec Ideal S32768x2048 .f32) (ix2 n l)) (fun l => (m ((c : Thread nD τ).loc main_arg1) : Vec Ideal S1x2048 .f32) (ix2 0 l)))
    (fun l f => (m ((c : Thread nD τ).loc main_arg2) : Vec Ideal S2048x8192 .bf16) (ix2 l f)) (fun f l => (m ((c : Thread nD τ).loc main_arg3) : Vec Ideal S8192x2048 .bf16) (ix2 f l)) e

/-- The specification as the array the kernel returns. -/
def specAll (c : Dev nD) : Vec Ideal S32768x2048 .f32 := fun i => specRow m c ⟨i 0, (i 0).isLt⟩ ⟨i 1, (i 1).isLt⟩

theorem outAt_apply (c : Dev nD) (t : Fin cfg0.N) (r : Fin 1024) (e : Fin 2048) :
    outAt (F := Ideal) m c t (ix2 r e) = specRow m c ⟨1024 * t + r, by have := point_lt t; omega⟩ e := by
  unfold outAt
  refine (outV_apply c (WU m c) (WD m c) (iblk m c 0 t) (iblk m c 1 t) r e).trans ?_
  unfold specRow
  have h0 : (fun l : Fin 2048 => (iblk m c 0 t : Vec Ideal S1024x2048 .f32) (ix2 r l)) = fun l => (m ((c : Thread nD τ).loc main_arg0) : Vec Ideal S32768x2048 .f32) (ix2 ⟨1024 * t + r, by have := point_lt t; omega⟩ l) :=
    funext fun l => rows_x m c t r l
  have h1 : (fun l : Fin 2048 => (iblk m c 1 t : Vec Ideal S1x2048 .f32) (ix2 0 l)) = fun l => (m ((c : Thread nD τ).loc main_arg1) : Vec Ideal S1x2048 .f32) (ix2 0 l) :=
    funext fun l => weights_g m c t l
  exact congrFun (congrFun (congrFun (congr (congrArg Cert.Spec2.ffn h0) (congrArg₂ Cert.Spec2.normed h0 h1)) _) _) e

theorem finalA_eq (c : Dev nD) : finalA m c 3 = specAll m c := by
  unfold finalA
  refine (dats m 0 c).arrAt_eq_of_covers 3 _ (by decide +kernel) fun t hff y => ?_
  have ht := point_lt t
  have h := place t
  idx_vars y
  blk_simp
  rw [after_w3]
  refine (outAt_apply m c t y0 y1).trans ?_
  have h3 := h.2.2.2
  have e0 : ((win0_3.blk t).view.emb (ix2 y0 y1) 0 : ℕ) = t.val * 1024 + y0 := by blk_simp [h3]
  have e1 : ((win0_3.blk t).view.emb (ix2 y0 y1) 1 : ℕ) = y1 := by blk_simp [h3]
  unfold specAll
  refine congrArg₂ (specRow m c) (Fin.ext ?_) (Fin.ext ?_)
  · show 1024 * t.val + (y0 : ℕ) = _
    simp only [e0]; omega
  · exact e1.symm

/-- An array that agrees with the specification entry by entry is the specification's. -/
theorem same_arr (c : Dev nD) (y : Vec Ideal S32768x2048 .f32) (h : ∀ (n : Fin 32768) (e : Fin 2048), y (ix2 n e) = specRow m c n e) : y = specAll m c := by
  funext j
  idx_vars j
  exact h j0 j1

end Cert.Proof.MlpBody3

namespace Cert.Proof

open Idealize.ShloMosaic Idealize.ShloMosaic.TcCoe Idealize.SL.Sem

/-- The feed-forward call without the final normalization and its reference end with the same array. -/
theorem algebraic3 : Cert.algebraic_Kernel3Ideal_Reference3Ideal := by
  intro m ρ m' ρ' _ hagree
  refine ⟨fun c => MlpBody3.specAll m c, ?_, ?_⟩
  · exact (θ_run Cert.Kernel3Ideal.defs _ _).mono
      (fun _ h c => ⟨(h.1 c).1.trans (MlpBody3.finalA_eq m c), (h.1 c).2⟩) (MlpBody3.run (F := Ideal) m ρ)
  · refine (θ_run Cert.Reference3Ideal.defs _ _).mono (fun _ h c => ⟨(h c).1.trans (MlpBody3.same_arr m c _ fun n e => ?_), (h c).2⟩)
      (Cert.Reference3Ideal.Hand.run m' ρ')
    refine (Cert.Reference3Ideal.Hand.all_apply _ _ _ _ n e).trans ?_
    obtain ⟨h0, h1, h2, h3, h4⟩ := hagree c
    rw [h0, h1, h2, h3]
    rfl

end Cert.Proof
end
-- ==== Proof.RefParts.lean ====
module
public import proofs.«01_k».proof.Proof.Gen.ReferenceIdeal.Run
public import Idealize.ShloMosaic.Lib.Pointwise
public import Idealize.ShloMosaic.Lib.WordCmp
public import Idealize.ShloMosaic.Lib.Affine
@[expose] public section
set_option maxRecDepth 16384
noncomputable section
namespace Cert.ReferenceIdeal.Hand
open Idealize.ShloMosaic Idealize.ShloMosaic.TcCoe Cert.ReferenceIdeal Cert.ReferenceIdeal.Gen Idealize.SL.Sem

/-- The keys (or the values) of a block with the blocks beside it, zero outside the sequence. -/
def kvWin (a : Vec Ideal S2x16384x2x128 .bf16) : FVec Ideal S2x128x384x2x128 .f32 :=
  let p : FVec Ideal S2x130x128x2x128 .f32 := shapeCast S2x130x128x2x128 (pad S2x16640x2x128 ![0, 128, 0, 0] ![0, 128, 0, 0] ![0, 0, 0, 0]
    (extf .f32 a bitsLt_bf16_f32 : FVec Ideal S2x16384x2x128 .f32) (sitofp .f32 (constantI S_ 32 0#32) : FVec Ideal S_ .f32) pads_S2x16384x2x128_S2x16640x2x128_000_1281280_000_000 h_S_) shapeCasts_S2x16640x2x128_S2x130x128x2x128
  concatenate S2x128x384x2x128 2 [⟨S2x128x128x2x128, extractStridedSlice S2x128x128x2x128 ![0, 0, 0, 0, 0] p slices_S2x130x128x2x128_S2x128x128x2x128_0_0_0_0_0⟩,
    ⟨S2x128x128x2x128, extractStridedSlice S2x128x128x2x128 ![0, 1, 0, 0, 0] p slices_S2x130x128x2x128_S2x128x128x2x128_0_1_0_0_0⟩,
    ⟨S2x128x128x2x128, extractStridedSlice S2x128x128x2x128 ![0, 2, 0, 0, 0] p slices_S2x130x128x2x128_S2x128x128x2x128_0_2_0_0_0⟩] concatenates_S2x128x128x2x128_S2x128x128x2x128_S2x128x128x2x128_S2x128x384x2x128_d2

set_option maxHeartbeats 2000000 in
/-- The window's row `j` is the sequence's row `128 B + j - 128`. -/
theorem kvWin_apply (a : Vec Ideal S2x16384x2x128 .bf16) (T : Fin 2) (B : Fin 128) (j : Fin 384) (h : Fin 2) (d : Fin 128) :
    kvWin a (ix5 T B j h d) = if hh : 128 ≤ 128 * (B : ℕ) + j ∧ 128 * (B : ℕ) + j < 16512 then a (ix4 T ⟨128 * B + j - 128, by omega⟩ h d) else 0 := by
  have z : (FloatOps.sitofp FTy.f32 0#32 : Ideal .f32) = 0 := by simp [FloatOps.sitofp]
  pointwise [kvWin]
  have e : ∀ n n' : Fin 16384, (n : ℕ) = n' → a (ix4 T n h d) = a (ix4 T n' h d) := fun n n' q => congrArg (fun n => a (ix4 T n h d)) (Fin.ext q)
  by_cases h1 : (j : ℕ) < 128
  · rw [dif_pos h1]
    by_cases h2 : 128 ≤ 128 * (B : ℕ) + j
    · rw [dif_pos (by omega), dif_pos (by omega)]
      exact e _ _ (by simp only; omega)
    · rw [dif_neg (by omega), dif_neg (by omega)]
      exact z
  · rw [dif_neg h1]
    by_cases h2 : (j : ℕ) - 128 < 128
    · rw [dif_pos h2, dif_pos (by omega), dif_pos (by omega)]
      exact e _ _ (by simp only; omega)
    · rw [dif_neg h2]
      by_cases h3 : 128 * (B : ℕ) + j < 16512
      · rw [dif_pos (by omega), dif_pos (by omega)]
        exact e _ _ (by simp only; omega)
      · rw [dif_neg (by omega), dif_neg (by omega)]
        exact z

/-- The square root of the head's width, inverted, as the reference computes it. -/
theorem rsqrt_128 : Ideal.rsqrt (Ideal.ofBits FTy.f32 1124073472#32) = (((Real.sqrt 128)⁻¹ : ℝ) : EReal) := by
  have h : Ideal.ofBits FTy.f32 1124073472#32 = ((128 : ℝ) : EReal) := by
    simp [Ideal.ofBits, Ideal.ieee]
    rw [← EReal.coe_mul]
    norm_num
  rw [h, Ideal.rsqrt_coe, if_neg (by norm_num), if_neg (by norm_num)]

/-- The scores of a block's queries, scaled. -/
def scoresR (q : Vec Ideal S2x16384x8x128 .bf16) (kn : FVec Ideal S2x128x384x2x128 .f32) : FVec Ideal S2x128x2x4x128x384 .f32 :=
  mulf (transpose S2x128x2x4x128x384 [0, 1, 2, 5, 4, 3]
    (Host.dotGeneral dot_S2x128x384x2x128_S2x128x128x2x4x128_S2x128x2x384x128x4_4_5_2_24_013_013 none kn
      (shapeCast S2x128x128x2x4x128 (extf .f32 q bitsLt_bf16_f32 : FVec Ideal S2x16384x8x128 .f32) shapeCasts_S2x16384x8x128_S2x128x128x2x4x128) : FVec Ideal S2x128x2x384x128x4 .f32)
    transposes_S2x128x2x384x128x4_S2x128x2x4x128x384_0_1_2_5_4_3)
    (broadcastInDim S2x128x2x4x128x384 ![] bcast_S_S2x128x2x4x128x384 (Host.rsqrt (constant S_ .f32 0x43000000#32 : FVec Ideal S_ .f32)))

theorem scoresR_apply (q : Vec Ideal S2x16384x8x128 .bf16) (kn : FVec Ideal S2x128x384x2x128 .f32) (T : Fin 2) (B : Fin 128) (h : Fin 2) (g : Fin 4) (r : Fin 128) (j : Fin 384) :
    scoresR q kn (ix6 T B h g r j) = (∑ d : Fin 128, q (ix4 T ⟨128 * B + r, by omega⟩ ⟨4 * h + g, by omega⟩ d) * kn (ix5 T B j h d)) * (((Real.sqrt 128)⁻¹ : ℝ) : EReal) := by
  pointwise [scoresR]
  rw [rsqrt_128]
  refine congrArg (· * _) (Finset.sum_congr rfl fun x _ => (mul_comm _ _).trans (congrArg (· * kn (ix5 T B j h x)) ?_))
  exact congrArg q (congrArg₂ (fun n m => ix4 T n m x) (Fin.ext (by simp only; omega)) (Fin.ext (by simp only; omega)))

/-- A small integer is what its word reads as. -/
theorem toInt_word (z : ℤ) (h : -2147483648 ≤ z) (h' : z < 2147483648) : (BitVec.ofInt 32 z).toInt = z := by
  rw [BitVec.toInt_ofInt]
  exact Int.bmod_eq_of_le (by omega) (by omega)

/-- The absolute value of a small word. -/
theorem absi_word (z : ℤ) (h : -2147483647 ≤ z) (h' : z < 2147483648) : (IntOp.absi (BitVec.ofInt 32 z)).toInt = |z| := by
  unfold IntOp.absi
  rw [BitVec.msb_eq_toInt, toInt_word z (by omega) h']
  split_ifs with hz
  · have hz' : z < 0 := by simpa using hz
    rw [← BitVec.ofInt_neg, toInt_word _ (by omega) (by omega), abs_of_neg hz']
  · have hz' : ¬ z < 0 := by simpa using hz
    rw [toInt_word _ (by omega) h', abs_of_nonneg (by omega)]

theorem ofInt_sub' (a b : ℤ) : BitVec.ofInt 32 (a - b) = BitVec.ofInt 32 a - BitVec.ofInt 32 b := by
  rw [Int.sub_eq_add_neg, BitVec.ofInt_add, BitVec.ofInt_neg, ← BitVec.sub_eq_add_neg]

theorem kpos_word (B j : ℕ) : IntOp.addi (IntOp.muli (IntOp.subi (BitVec.ofNat 32 B) 1#32) 128#32) (BitVec.ofNat 32 j) = BitVec.ofInt 32 (128 * (B : ℤ) + j - 128) := by
  have e : (128 * (B : ℤ) + j - 128) = ((B : ℤ) - ((1 : ℕ) : ℤ)) * ((128 : ℕ) : ℤ) + (j : ℤ) := by push_cast; ring
  rw [e, BitVec.ofInt_add, BitVec.ofInt_mul, ofInt_sub']
  simp only [BitVec.ofInt_natCast]
  rfl

theorem dist_word (B j r : ℕ) : IntOp.subi (BitVec.ofInt 32 (128 * (B : ℤ) + j - 128)) (IntOp.addi (IntOp.muli (BitVec.ofNat 32 B) 128#32) (BitVec.ofNat 32 r))
    = BitVec.ofInt 32 ((j : ℤ) - 128 - r) := by
  have e : ((j : ℤ) - 128 - r) = (128 * (B : ℤ) + j - 128) - ((B : ℤ) * ((128 : ℕ) : ℤ) + (r : ℤ)) := by push_cast; ring
  rw [e, ofInt_sub' (128 * (B : ℤ) + j - 128), BitVec.ofInt_add (B * _), BitVec.ofInt_mul (B : ℤ)]
  simp only [BitVec.ofInt_natCast]
  rfl

/-- Which keys a query sees. -/
def maskR : IVec S1x128x1x1x128x384 1 :=
  let v24 : IVec S128x1x1 32 := broadcastInDim S128x1x1 ![0] bcast_S128_S128x1x1_0 (iotaInDim S128 32 0)
  let v26 : IVec S128x1x1 32 := muli v24 (broadcastInDim S128x1x1 ![] bcast_S_S128x1x1 (constantI S_ 32 128#32))
  let v28 : IVec S1x128x1 32 := broadcastInDim S1x128x1 ![1] bcast_S128_S1x128x1_1 (iotaInDim S128 32 0)
  let v31 : IVec S128x128x1 32 := addi (broadcastInDim S128x128x1 ![0, 1, 2] bcast_S128x1x1_S128x128x1_0_1_2 v26) (broadcastInDim S128x128x1 ![0, 1, 2] bcast_S1x128x1_S128x128x1_0_1_2 v28)
  let v33 : IVec S128x1x1 32 := subi v24 (broadcastInDim S128x1x1 ![] bcast_S_S128x1x1 (constantI S_ 32 1#32))
  let v35 : IVec S128x1x1 32 := muli v33 (broadcastInDim S128x1x1 ![] bcast_S_S128x1x1 (constantI S_ 32 128#32))
  let v37 : IVec S1x1x384 32 := broadcastInDim S1x1x384 ![2] bcast_S384_S1x1x384_2 (iotaInDim S384 32 0)
  let v40 : IVec S128x1x384 32 := addi (broadcastInDim S128x1x384 ![0, 1, 2] bcast_S128x1x1_S128x1x384_0_1_2 v35) (broadcastInDim S128x1x384 ![0, 1, 2] bcast_S1x1x384_S128x1x384_0_1_2 v37)
  let v43 : IVec S128x128x384 32 := subi (broadcastInDim S128x128x384 ![0, 1, 2] bcast_S128x1x384_S128x128x384_0_1_2 v40) (broadcastInDim S128x128x384 ![0, 1, 2] bcast_S128x128x1_S128x128x384_0_1_2 v31)
  let v46 : IVec S128x128x384 1 := cmpi .sle (absi v43) (broadcastInDim S128x128x384 ![] bcast_S_S128x128x384 (constantI S_ 32 128#32))
  let v48 : IVec S128x1x384 1 := cmpi .sge v40 (broadcastInDim S128x1x384 ![] bcast_S_S128x1x384 (constantI S_ 32 0#32))
  let v50 : IVec S128x128x384 1 := andi v46 (broadcastInDim S128x128x384 ![0, 1, 2] bcast_S128x1x384_S128x128x384_0_1_2 v48)
  let v52 : IVec S128x1x384 1 := cmpi .slt v40 (broadcastInDim S128x1x384 ![] bcast_S_S128x1x384 (constantI S_ 32 16384#32))
  let v54 : IVec S128x128x384 1 := andi v50 (broadcastInDim S128x128x384 ![0, 1, 2] bcast_S128x1x384_S128x128x384_0_1_2 v52)
  broadcastInDim S1x128x1x1x128x384 ![1, 4, 5] bcast_S128x128x384_S1x128x1x1x128x384_1_4_5 v54

theorem maskR_apply (B : Fin 128) (r : Fin 128) (j : Fin 384) :
    maskR (ix6 0 B 0 0 r j) = 1#1 ↔ ((r : ℕ) ≤ j ∧ (j : ℕ) ≤ r + 256) ∧ 128 ≤ 128 * (B : ℕ) + j ∧ 128 * (B : ℕ) + j < 16512 := by
  pointwise [maskR]
  rw [kpos_word, dist_word, IntOp.andi_eq_one, IntOp.andi_eq_one, IntOp.cmpi_sle, IntOp.cmpi_sge, IntOp.cmpi_slt,
    absi_word _ (by omega) (by omega), toInt_word _ (by omega) (by omega), abs_le]
  have a1 : (128#32 : BitVec 32).toInt = 128 := by decide
  have a2 : (0#32 : BitVec 32).toInt = 0 := by decide
  have a3 : (16384#32 : BitVec 32).toInt = 16384 := by decide
  rw [a1, a2, a3]
  omega

theorem neg_inf : Ideal.ofBits FTy.f32 0xFF800000#32 = ⊥ := by
  simp [Ideal.ofBits, Ideal.ieee]

/-- The masked scores. -/
def sgR (s : FVec Ideal S2x128x2x4x128x384 .f32) : FVec Ideal S2x128x2x4x128x384 .f32 :=
  select (broadcastInDim S2x128x2x4x128x384 ![0, 1, 2, 3, 4, 5] bcast_S1x128x1x1x128x384_S2x128x2x4x128x384_0_1_2_3_4_5 maskR) s
    (broadcastInDim S2x128x2x4x128x384 ![] bcast_S_S2x128x2x4x128x384 (id (constant S_ .f32 0xFF800000#32 : FVec Ideal S_ .f32)))

theorem sgR_apply (s : FVec Ideal S2x128x2x4x128x384 .f32) (T : Fin 2) (B : Fin 128) (h : Fin 2) (g : Fin 4) (r : Fin 128) (j : Fin 384) :
    sgR s (ix6 T B h g r j) = if ((r : ℕ) ≤ j ∧ (j : ℕ) ≤ r + 256) ∧ 128 ≤ 128 * (B : ℕ) + j ∧ 128 * (B : ℕ) + j < 16512 then s (ix6 T B h g r j) else ⊥ := by
  pointwise [sgR]
  by_cases hc : ((r : ℕ) ≤ j ∧ (j : ℕ) ≤ r + 256) ∧ 128 ≤ 128 * (B : ℕ) + j ∧ 128 * (B : ℕ) + j < 16512
  · rw [if_pos hc, (maskR_apply B r j).2 hc]
    rfl
  · rw [if_neg hc]
    have hz : maskR (ix6 0 B 0 0 r j) = 0#1 := by
      have := mt (maskR_apply B r j).1 hc
      exact (BitVec.eq_zero_or_eq_one _).resolve_right this
    rw [hz]
    exact neg_inf

end Cert.ReferenceIdeal.Hand
end
-- ==== Proof.RefSoft.lean ====
module
public import proofs.«01_k».proof.Proof.Gen.ReferenceIdeal.Run
public import proofs.«01_k».proof.Proof.RefParts
public import Idealize.ShloMosaic.Lib.Pointwise
public import Idealize.ShloMosaic.Lib.WordCmp
public import Idealize.ShloMosaic.Lib.Affine
@[expose] public section
set_option maxRecDepth 16384
noncomputable section
namespace Cert.ReferenceIdeal.Hand
open Idealize.ShloMosaic Idealize.ShloMosaic.TcCoe Cert.ReferenceIdeal Cert.ReferenceIdeal.Gen Idealize.SL.Sem

/-- The sinks of the heads, at every query. -/
def sinkR (sink : Vec Ideal S8 .f32) : FVec Ideal S2x128x2x4x128x1 .f32 :=
  broadcastInDim S2x128x2x4x128x1 ![0, 1, 2, 3, 4, 5] bcast_S1x1x2x4x1x1_S2x128x2x4x128x1_0_1_2_3_4_5 (shapeCast S1x1x2x4x1x1 sink shapeCasts_S8_S1x1x2x4x1x1)

variable {n0 n1 n2 n3 n4 n5 : ℕ}

/-- The entries that a reduction of the last of six axes gathers at a place. -/
theorem fiber6 (h : (⟨6, ![n0, n1, n2, n3, n4, n5]⟩ : Shape).ReducesTo [5] ⟨5, ![n0, n1, n2, n3, n4]⟩) (a : Fin n0) (b : Fin n1) (c : Fin n2) (d : Fin n3) (e : Fin n4)
    (i : (⟨6, ![n0, n1, n2, n3, n4, n5]⟩ : Shape).Idx) : h.drop i = ix5 a b c d e ↔ ∃ k : Fin n5, ix6 a b c d e k = i := by
  constructor
  · intro q
    refine ⟨i 5, ?_⟩
    funext x; apply Fin.ext
    match x with
    | ⟨0, _⟩ => exact (congrArg Fin.val (congrFun q 0)).symm
    | ⟨1, _⟩ => exact (congrArg Fin.val (congrFun q 1)).symm
    | ⟨2, _⟩ => exact (congrArg Fin.val (congrFun q 2)).symm
    | ⟨3, _⟩ => exact (congrArg Fin.val (congrFun q 3)).symm
    | ⟨4, _⟩ => exact (congrArg Fin.val (congrFun q 4)).symm
    | ⟨5, _⟩ => rfl
  · rintro ⟨k, rfl⟩
    funext x
    apply Fin.ext
    match x with
    | ⟨0, _⟩ => rfl
    | ⟨1, _⟩ => rfl
    | ⟨2, _⟩ => rfl
    | ⟨3, _⟩ => rfl
    | ⟨4, _⟩ => rfl

theorem sum6 (h : (⟨6, ![n0, n1, n2, n3, n4, n5]⟩ : Shape).ReducesTo [5] ⟨5, ![n0, n1, n2, n3, n4]⟩) (a : Fin n0) (b : Fin n1) (c : Fin n2) (d : Fin n3) (e : Fin n4)
    (v : (⟨6, ![n0, n1, n2, n3, n4, n5]⟩ : Shape).Idx → EReal) (z : EReal) :
    Ideal.hostReduceAdd h v z (ix5 a b c d e) = z + ∑ k : Fin n5, v (ix6 a b c d e k) :=
  congrArg (z + ·) (Finset.sum_filter_eq_sum_of_fiber _ (fun k : Fin n5 => ix6 a b c d e k) (fun _ _ q => congrFun q 5) (fiber6 h a b c d e) v)

theorem fold6 (h : (⟨6, ![n0, n1, n2, n3, n4, n5]⟩ : Shape).ReducesTo [5] ⟨5, ![n0, n1, n2, n3, n4]⟩) (a : Fin n0) (b : Fin n1) (c : Fin n2) (d : Fin n3) (e : Fin n4)
    (v : (⟨6, ![n0, n1, n2, n3, n4, n5]⟩ : Shape).Idx → EReal) (z : EReal) :
    (Finset.univ.filter (fun i => h.drop i = ix5 a b c d e)).fold max z v = (Finset.univ : Finset (Fin n5)).fold max z (fun k => v (ix6 a b c d e k)) :=
  Finset.fold_filter_eq_fold_of_fiber max _ (fun k : Fin n5 => ix6 a b c d e k) (fun _ _ q => congrFun q 5) (fiber6 h a b c d e) z v

/-- The host's maximum along the last of six axes. -/
theorem max6 (h : (⟨6, ![n0, n1, n2, n3, n4, n5]⟩ : Shape).ReducesTo [5] ⟨5, ![n0, n1, n2, n3, n4]⟩) (hu : 0 < (⟨0, ![]⟩ : Shape).numel) (a : Fin n0) (b : Fin n1) (c : Fin n2) (d : Fin n3) (e : Fin n4)
    (v : FVec Ideal ⟨6, ![n0, n1, n2, n3, n4, n5]⟩ .f32) (z : FVec Ideal ⟨0, ![]⟩ .f32) (w : EReal) (hz : ∀ i, z i = w) :
    Host.reduce FloatOps.maximumf v z h hu (ix5 a b c d e) = (Finset.univ : Finset (Fin n5)).fold max w (fun k => v (ix6 a b c d e k)) := by
  refine (Host.reduce_eq_fold (f := (max : EReal → EReal → EReal)) v z h hu _).trans ?_
  rw [hz]
  exact fold6 h a b c d e v w

/-- The greatest score of a query. -/
def redR (sg : FVec Ideal S2x128x2x4x128x384 .f32) : FVec Ideal S2x128x2x4x128 .f32 :=
  Host.reduce FloatOps.maximumf sg (constant S_ .f32 0xFF800000#32 : FVec Ideal S_ .f32) reducesTo_S2x128x2x4x128x384_S2x128x2x4x128_d5 h_S_

theorem redR_apply (sg : FVec Ideal S2x128x2x4x128x384 .f32) (T : Fin 2) (B : Fin 128) (h : Fin 2) (g : Fin 4) (r : Fin 128) :
    redR sg (ix5 T B h g r) = Finset.univ.fold max ⊥ fun j : Fin 384 => sg (ix6 T B h g r j) :=
  max6 _ _ T B h g r sg _ ⊥ fun _ => neg_inf

/-- The greater of a query's greatest score and the sink. -/
def mxOf (red : FVec Ideal S2x128x2x4x128 .f32) (sk : FVec Ideal S2x128x2x4x128x1 .f32) : FVec Ideal S2x128x2x4x128x1 .f32 :=
  maximumf (broadcastInDim S2x128x2x4x128x1 ![0, 1, 2, 3, 4] bcast_S2x128x2x4x128_S2x128x2x4x128x1_0_1_2_3_4 red) sk

theorem mxOf_apply (red : FVec Ideal S2x128x2x4x128 .f32) (sk : FVec Ideal S2x128x2x4x128x1 .f32) (T : Fin 2) (B : Fin 128) (h : Fin 2) (g : Fin 4) (r : Fin 128) :
    mxOf red sk (ix6 T B h g r 0) = max (red (ix5 T B h g r)) (sk (ix6 T B h g r 0)) := by
  pointwise [mxOf]

/-- The greatest score of a query, the sink's among them. -/
def mxR (sg : FVec Ideal S2x128x2x4x128x384 .f32) (sink : Vec Ideal S8 .f32) : FVec Ideal S2x128x2x4x128x1 .f32 := mxOf (redR sg) (sinkR sink)

/-- The exponentials of the scores. -/
def pR (sg : FVec Ideal S2x128x2x4x128x384 .f32) (mx : FVec Ideal S2x128x2x4x128x1 .f32) : FVec Ideal S2x128x2x4x128x384 .f32 :=
  Host.exp (subf sg (broadcastInDim S2x128x2x4x128x384 ![0, 1, 2, 3, 4, 5] bcast_S2x128x2x4x128x1_S2x128x2x4x128x384_0_1_2_3_4_5 mx))

theorem sinkR_apply (sink : Vec Ideal S8 .f32) (T : Fin 2) (B : Fin 128) (h : Fin 2) (g : Fin 4) (r : Fin 128) :
    sinkR sink (ix6 T B h g r 0) = sink (ix1 ⟨4 * h + g, by omega⟩) := by
  pointwise [sinkR]
  exact congrArg (fun n => sink (ix1 n)) (Fin.ext (by simp only; omega))

theorem mxR_apply (sg : FVec Ideal S2x128x2x4x128x384 .f32) (sink : Vec Ideal S8 .f32) (T : Fin 2) (B : Fin 128) (h : Fin 2) (g : Fin 4) (r : Fin 128) :
    mxR sg sink (ix6 T B h g r 0) = max (Finset.univ.fold max ⊥ fun j : Fin 384 => sg (ix6 T B h g r j)) (sink (ix1 ⟨4 * h + g, by omega⟩)) := by
  unfold mxR
  rw [mxOf_apply, redR_apply, sinkR_apply]

theorem pR_apply (sg : FVec Ideal S2x128x2x4x128x384 .f32) (mx : FVec Ideal S2x128x2x4x128x1 .f32) (T : Fin 2) (B : Fin 128) (h : Fin 2) (g : Fin 4) (r : Fin 128) (j : Fin 384) :
    pR sg mx (ix6 T B h g r j) = Ideal.exp (sg (ix6 T B h g r j) - mx (ix6 T B h g r 0)) := by
  pointwise [pR]

/-- The weights of the keys. -/
def probR (sink : Vec Ideal S8 .f32) (p : FVec Ideal S2x128x2x4x128x384 .f32) (mx : FVec Ideal S2x128x2x4x128x1 .f32) : FVec Ideal S2x128x2x4x128x384 .f32 :=
  Host.divf p (broadcastInDim S2x128x2x4x128x384 ![0, 1, 2, 3, 4, 5] bcast_S2x128x2x4x128x1_S2x128x2x4x128x384_0_1_2_3_4_5
    (addf (broadcastInDim S2x128x2x4x128x1 ![0, 1, 2, 3, 4] bcast_S2x128x2x4x128_S2x128x2x4x128x1_0_1_2_3_4
      (Host.reduceAdd p (constant S_ .f32 0x00000000#32 : FVec Ideal S_ .f32) reducesTo_S2x128x2x4x128x384_S2x128x2x4x128_d5 h_S_)) (Host.exp (subf (sinkR sink) mx))))

theorem probR_apply (sink : Vec Ideal S8 .f32) (p : FVec Ideal S2x128x2x4x128x384 .f32) (mx : FVec Ideal S2x128x2x4x128x1 .f32) (T : Fin 2) (B : Fin 128) (h : Fin 2) (g : Fin 4) (r : Fin 128) (j : Fin 384) :
    probR sink p mx (ix6 T B h g r j) = Ideal.div (p (ix6 T B h g r j)) ((∑ i : Fin 384, p (ix6 T B h g r i)) + Ideal.exp (sink (ix1 ⟨4 * h + g, by omega⟩) - mx (ix6 T B h g r 0))) := by
  pointwise [probR, sinkR_apply]
  rw [sum6, zero_add]

/-- The weighted sums of the values, the heads side by side. -/
def attnV (vn : FVec Ideal S2x128x384x2x128 .f32) (p : FVec Ideal S2x128x2x4x128x384 .f32) : FVec Ideal S2x16384x1024 .f32 :=
  shapeCast S2x16384x1024 (transpose S2x128x128x2x4x128 [0, 1, 5, 2, 4, 3]
    (Host.dotGeneral dot_S2x128x384x2x128_S2x128x2x4x128x384_S2x128x2x128x4x128_2_5_4_34_013_012 none vn p : FVec Ideal S2x128x2x128x4x128 .f32)
    transposes_S2x128x2x128x4x128_S2x128x128x2x4x128_0_1_5_2_4_3) shapeCasts_S2x128x128x2x4x128_S2x16384x1024

theorem attnV_apply (vn : FVec Ideal S2x128x384x2x128 .f32) (p : FVec Ideal S2x128x2x4x128x384 .f32) (T : Fin 2) (B r : Fin 128) (h : Fin 2) (g : Fin 4) (d : Fin 128) :
    attnV vn p (ix3 T ⟨128 * B + r, by omega⟩ ⟨512 * h + 128 * g + d, by omega⟩) = ∑ j : Fin 384, vn (ix5 T B j h d) * p (ix6 T B h g r j) := by
  pointwise [attnV]

/-- The residual with the projection of the two halves. -/
def outR (x : Vec Ideal S2x16384x2048 .f32) (at' : FVec Ideal S2x16384x1024 .f32) (cv : Vec Ideal S2x16384x1024 .bf16) (w : Vec Ideal S2048x2048 .bf16) : Vec Ideal S32768x2048 .f32 :=
  shapeCast S32768x2048 (addf x (Host.dotGeneral dot_S2x16384x2048_S2048x2048_S2x16384x2048_2_0_01_1_n_n none
    (concatenate S2x16384x2048 2 [⟨S2x16384x1024, at'⟩, ⟨S2x16384x1024, (extf .f32 cv bitsLt_bf16_f32 : FVec Ideal S2x16384x1024 .f32)⟩] concatenates_S2x16384x1024_S2x16384x1024_S2x16384x2048_d2)
    (extf .f32 w bitsLt_bf16_f32 : FVec Ideal S2048x2048 .f32))) shapeCasts_S2x16384x2048_S32768x2048

theorem outR_apply (x : Vec Ideal S2x16384x2048 .f32) (at' : FVec Ideal S2x16384x1024 .f32) (cv : Vec Ideal S2x16384x1024 .bf16) (w : Vec Ideal S2048x2048 .bf16)
    (T : Fin 2) (n : Fin 16384) (e : Fin 2048) :
    outR x at' cv w (ix2 ⟨16384 * T + n, by omega⟩ e) = x (ix3 T n e) + ∑ l : Fin 2048, (if h : (l : ℕ) < 1024 then at' (ix3 T n ⟨l, h⟩) else cv (ix3 T n ⟨l - 1024, by omega⟩)) * w (ix2 l e) := by
  pointwise [outR]

end Cert.ReferenceIdeal.Hand
end
-- ==== Proof.Head.lean ====
module
public import proofs.«01_k».proof.Proof.Gen.KernelIdeal.Skeleton
public import Idealize.ShloMosaic.Lib.Pointwise
@[expose] public section
set_option maxRecDepth 16384
noncomputable section
namespace Cert.KernelIdeal.Hand
open Idealize.ShloMosaic Cert.KernelIdeal Cert.KernelIdeal.Gen

/-- One query row of attention with a sink, over the extended reals: the masked scores `sg`, one column `v` of the
    values and the sink's logit `sk`. -/
def attnS (sg v : Fin 384 → EReal) (sk : EReal) : EReal :=
  Ideal.div (∑ j, Ideal.exp (sg j - max (Finset.univ.fold max ⊥ sg) sk) * v j)
    ((∑ j, Ideal.exp (sg j - max (Finset.univ.fold max ⊥ sg) sk)) + Ideal.exp (sk - max (Finset.univ.fold max ⊥ sg) sk))

/-- The scale that both programs multiply the scores by. -/
def sc : EReal := (((Real.sqrt 128)⁻¹ : ℝ) : EReal)

/-- The vector operations of one head: rows `o … o + 127` of the four heads' scores, masked, against one value window. -/
def headVec (o : Nat) (h : S512x384.Slices ![o, 0] S128x384) (valid : IVec S128x384 1) (vw : Vec Ideal S384x128 .bf16)
    (s : FVec Ideal S512x384 .f32) (sk : Elt Ideal .f32) : FVec Ideal S128x128 .bf16 :=
  let sg : FVec Ideal S128x384 .f32 := select valid (extractStridedSlice S128x384 ![o, 0] s h) (broadcast S128x384 (Named.named κ "mask" 0xF149F2CA#32 : Ideal .f32))
  let mx : FVec Ideal S128x1 .f32 := maximumf (shapeCast S128x1 (multiReduction .maximumf [1] S128 sg 0xFF800000#32 reduces_S128x384_S128 (.inl rfl) rfl) shapeCasts_S128_S128x1) (broadcast S128x1 sk)
  let p : FVec Ideal S128x384 .f32 := exp (subf sg (broadcastTo S128x384 mx broadcasts_S128x1_S128x384))
  let den : FVec Ideal S128x1 .f32 := addf (shapeCast S128x1 (multiReduction .add [1] S128 p 0x00000000#32 reduces_S128x384_S128 (.inl rfl) rfl) shapeCasts_S128_S128x1) (exp (subf (broadcast S128x1 sk) mx))
  shapeCast S128x128 (truncf .bf16 (divf (matmul (φ₂ := .bf16) dot_S128x384_S384x128_S128x128_1_0_0_1_n_n none (truncf .bf16 p bitsLt_bf16_f32) vw (constant S128x128 .f32 0x00000000#32)) (broadcastTo S128x128 den broadcasts_S128x1_S128x128)) bitsLt_bf16_f32) shapeCasts_S128x128_S128x128

theorem named_mask : (Named.named κ "mask" 0xF149F2CA#32 : Ideal .f32) = (⊥ : EReal) := by
  simp [Named.named, κ]

theorem ofBits_neg_inf : Ideal.ofBits .f32 0xFF800000#32 = ⊥ := by
  simp [Ideal.ofBits, Ideal.ieee]

theorem named_scale : (Named.named κ "scale" 0x3DB504F3#32 : Ideal .f32) = sc := by
  simp [Named.named, κ, sc]

/-- One head at a query row and a lane: attention of that row. -/
theorem headVec_apply (o : Nat) (ho : o + 128 ≤ 512) (h : S512x384.Slices ![o, 0] S128x384) (valid : IVec S128x384 1) (vw : Vec Ideal S384x128 .bf16)
    (s : FVec Ideal S512x384 .f32) (sk : Elt Ideal .f32) (r d : Fin 128) :
    headVec o h valid vw s sk (ix2 r d)
      = attnS (fun j => if valid (ix2 r j) = 1#1 then s (ix2 ⟨o + r, by omega⟩ j) else ⊥) (fun j => vw (ix2 j d)) sk := by
  pointwise [headVec]
  simp only [named_mask]
  rw [ofBits_neg_inf]
  rfl

theorem scores_apply (kw : Vec Ideal S384x128 .bf16) (q0 q1 q2 q3 : Vec Ideal S128x128 .bf16) (g : Fin 4) (r : Fin 128) (j : Fin 384) :
    k0_pay10 kw q0 q1 q2 q3 (ix2 ⟨128 * g + r, by omega⟩ j) = (∑ d : Fin 128, (![q0, q1, q2, q3] g) (ix2 r d) * kw (ix2 j d)) * sc := by
  pointwise [k0_pay10]
  simp only [named_scale]
  refine congrArg (· * sc) (Finset.sum_congr rfl fun x _ => congrArg (· * kw (ix2 j x)) ?_)
  fin_cases g <;> dsimp only <;> split_ifs <;>
    first
    | (exfalso; omega)
    | (refine congrArg _ (congrArg (ix2 · x) (Fin.ext ?_)); dsimp only; omega)

theorem fold_max_ne_top (sg : Fin 384 → EReal) (h : ∀ j, sg j ≠ ⊤) : Finset.univ.fold max ⊥ sg ≠ ⊤ := by
  have : Finset.univ.fold max ⊥ sg < ⊤ := by
    rw [Finset.fold_max_lt]
    exact ⟨bot_lt_top, fun j _ => lt_top_iff_ne_top.mpr (h j)⟩
  exact this.ne

theorem sum_mul_real (f : Fin 384 → EReal) (c : ℝ) (hc : 0 ≤ c) : (∑ j, f j) * (c : EReal) = ∑ j, f j * (c : EReal) := by
  have key : ∀ s : Finset (Fin 384), (∑ j ∈ s, f j) * (c : EReal) = ∑ j ∈ s, f j * (c : EReal) := by
    intro s
    induction s using Finset.induction_on with
    | empty => simp
    | insert a s ha ih =>
      rw [Finset.sum_insert ha, Finset.sum_insert ha, EReal.right_distrib_of_nonneg_of_ne_top (by exact_mod_cast hc) (EReal.coe_ne_top c), ih]
  exact key Finset.univ

theorem exp_real_of_ne_top {x : EReal} (h : x ≠ ⊤) : ∃ r : ℝ, 0 ≤ r ∧ Ideal.exp x = (r : EReal) := by
  induction x using EReal.rec with
  | bot => exact ⟨0, le_rfl, by simp⟩
  | coe r => exact ⟨Real.exp r, (Real.exp_pos r).le, by simp⟩
  | top => exact absurd rfl h

theorem sub_real_ne_top {x : EReal} (h : x ≠ ⊤) (r : ℝ) : x - (r : EReal) ≠ ⊤ := by
  induction x using EReal.rec with
  | bot => simp
  | coe s => rw [← EReal.coe_sub]; exact EReal.coe_ne_top _
  | top => exact absurd rfl h

/-- The row of attention with each weight divided before the sum, as the reference divides. -/
def attnR (sg v : Fin 384 → EReal) (sk : EReal) : EReal :=
  ∑ j, v j * Ideal.div (Ideal.exp (sg j - max (Finset.univ.fold max ⊥ sg) sk))
    ((∑ j, Ideal.exp (sg j - max (Finset.univ.fold max ⊥ sg) sk)) + Ideal.exp (sk - max (Finset.univ.fold max ⊥ sg) sk))

/-- Dividing before or after the sum is the same when the scores are below infinity and the sink is finite, and the
    values at the masked places do not matter. -/
theorem attnS_eq_attnR (sg v v' : Fin 384 → EReal) (sk : ℝ) (h : ∀ j, sg j ≠ ⊤) (hv : ∀ j, sg j = ⊥ ∨ v j = v' j) :
    attnS sg v sk = attnR sg v' sk := by
  unfold attnS attnR
  obtain ⟨mr, hm⟩ : ∃ mr : ℝ, max (Finset.univ.fold max ⊥ sg) (sk : EReal) = (mr : EReal) := by
    have h1 : max (Finset.univ.fold max ⊥ sg) (sk : EReal) ≠ ⊤ := by
      rcases max_choice (Finset.univ.fold max ⊥ sg) (sk : EReal) with e | e <;> rw [e]
      · exact fold_max_ne_top sg h
      · exact EReal.coe_ne_top sk
    have h2 : max (Finset.univ.fold max ⊥ sg) (sk : EReal) ≠ ⊥ := fun e =>
      EReal.coe_ne_bot sk (le_bot_iff.mp (e ▸ le_max_right _ _))
    exact ⟨_, (EReal.coe_toReal h1 h2).symm⟩
  rw [hm]
  choose p hp0 hp using fun j => exp_real_of_ne_top (sub_real_ne_top (h j) mr)
  have hs : Ideal.exp ((sk : EReal) - (mr : EReal)) = ((Real.exp (sk - mr) : ℝ) : EReal) := by
    rw [← EReal.coe_sub, Ideal.exp_coe]
  have hden : (∑ j, Ideal.exp (sg j - (mr : EReal))) + Ideal.exp ((sk : EReal) - (mr : EReal))
      = (((∑ j, p j) + Real.exp (sk - mr) : ℝ) : EReal) := by
    rw [hs, EReal.coe_add]
    congr 1
    simp only [hp]
    exact (map_sum (⟨⟨Real.toEReal, rfl⟩, EReal.coe_add⟩ : ℝ →+ EReal) p Finset.univ).symm
  have hpos : 0 < (∑ j, p j) + Real.exp (sk - mr) :=
    add_pos_of_nonneg_of_pos (Finset.sum_nonneg fun j _ => hp0 j) (Real.exp_pos _)
  rw [hden]
  simp only [Ideal.div_coe hpos.ne']
  rw [sum_mul_real _ _ (by positivity)]
  refine Finset.sum_congr rfl fun j _ => ?_
  rcases hv j with e | e
  · have : Ideal.exp (sg j - (mr : EReal)) = 0 := by rw [e, EReal.bot_sub, Ideal.exp_bot]
    rw [this, zero_mul, zero_mul, mul_zero]
  · rw [e, mul_comm (v' j), mul_assoc, mul_assoc, mul_comm (v' j)]

end Cert.KernelIdeal.Hand
end
-- ==== Proof.Spec.lean ====
module
public import proofs.«01_k».proof.Proof.Head
@[expose] public section
set_option maxRecDepth 16384
noncomputable section
namespace Cert.Spec
open Idealize.ShloMosaic Cert.KernelIdeal.Hand

/-- Row `j` of the window of block `B`: the sequence's row `128 B + j - 128`, and zero outside the sequence. -/
def kv (a : (⟨4, ![2, 16384, 2, 128]⟩ : Shape).Idx → EReal) (T : Fin 2) (B : Fin 128) (j : Fin 384) (h : Fin 2) (d : Fin 128) : EReal :=
  if hh : 128 ≤ 128 * (B : ℕ) + j ∧ 128 * (B : ℕ) + j < 16512 then a (ix4 T ⟨128 * B + j - 128, by omega⟩ h d) else 0

/-- The score of row `r` of block `B` against row `j` of its window: minus infinity further than 128 away or outside the sequence. -/
def sg (q : (⟨4, ![2, 16384, 8, 128]⟩ : Shape).Idx → EReal) (k : (⟨4, ![2, 16384, 2, 128]⟩ : Shape).Idx → EReal) (T : Fin 2) (B r : Fin 128) (hd : Fin 8) (j : Fin 384) : EReal :=
  if ((r : ℕ) ≤ j ∧ (j : ℕ) ≤ r + 256) ∧ 128 ≤ 128 * (B : ℕ) + j ∧ 128 * (B : ℕ) + j < 16512 then
    (∑ d : Fin 128, q (ix4 T ⟨128 * B + r, by omega⟩ hd d) * kv k T B j ⟨hd / 4, by omega⟩ d) * sc else ⊥

/-- Attention of row `r` of block `B` with head `hd`, at lane `d`. -/
def head (q : (⟨4, ![2, 16384, 8, 128]⟩ : Shape).Idx → EReal) (k v : (⟨4, ![2, 16384, 2, 128]⟩ : Shape).Idx → EReal) (sink : (⟨1, ![8]⟩ : Shape).Idx → EReal)
    (T : Fin 2) (B r : Fin 128) (hd : Fin 8) (d : Fin 128) : EReal :=
  attnR (sg q k T B r hd) (fun j => kv v T B j ⟨hd / 4, by omega⟩ d) (sink (ix1 hd))

/-- Attention's heads side by side, then the convolution's lanes. -/
def mix (q : (⟨4, ![2, 16384, 8, 128]⟩ : Shape).Idx → EReal) (k v : (⟨4, ![2, 16384, 2, 128]⟩ : Shape).Idx → EReal)
    (cv : (⟨3, ![2, 16384, 1024]⟩ : Shape).Idx → EReal) (sink : (⟨1, ![8]⟩ : Shape).Idx → EReal) (T : Fin 2) (n : Fin 16384) (l : Fin 2048) : EReal :=
  if h : (l : ℕ) < 1024 then head q k v sink T ⟨n / 128, by omega⟩ ⟨n % 128, by omega⟩ ⟨l / 128, by omega⟩ ⟨l % 128, by omega⟩ else cv (ix3 T n ⟨l - 1024, by omega⟩)

/-- The residual with the output projection of the mix. -/
def out (x : (⟨3, ![2, 16384, 2048]⟩ : Shape).Idx → EReal) (q : (⟨4, ![2, 16384, 8, 128]⟩ : Shape).Idx → EReal) (k v : (⟨4, ![2, 16384, 2, 128]⟩ : Shape).Idx → EReal)
    (cv : (⟨3, ![2, 16384, 1024]⟩ : Shape).Idx → EReal) (sink : (⟨1, ![8]⟩ : Shape).Idx → EReal) (w : (⟨2, ![2048, 2048]⟩ : Shape).Idx → EReal)
    (T : Fin 2) (n : Fin 16384) (e : Fin 2048) : EReal :=
  x (ix3 T n e) + ∑ l : Fin 2048, mix q k v cv sink T n l * w (ix2 l e)

end Cert.Spec
end
-- ==== Proof.RefRun.lean ====
module
public import proofs.«01_k».proof.Proof.Gen.ReferenceIdeal.Run
public import proofs.«01_k».proof.Proof.RefSoft
public import proofs.«01_k».proof.Proof.Spec
public import Idealize.ShloMosaic.Lib.Pointwise
public import Idealize.ShloMosaic.Lib.WordCmp
public import Idealize.ShloMosaic.Lib.Affine
@[expose] public section
set_option maxRecDepth 16384
noncomputable section
namespace Cert.ReferenceIdeal.Hand
open Idealize.ShloMosaic Idealize.ShloMosaic.TcCoe Cert.ReferenceIdeal Cert.ReferenceIdeal.Gen Idealize.SL.Sem

/-- One head of the reference: attention as the specification states it. -/
theorem head_eq (q : Vec Ideal S2x16384x8x128 .bf16) (k v : Vec Ideal S2x16384x2x128 .bf16) (sink : Vec Ideal S8 .f32)
    (T : Fin 2) (B r : Fin 128) (h : Fin 2) (g : Fin 4) (d : Fin 128) :
    attnV (kvWin v) (probR sink (pR (sgR (scoresR q (kvWin k))) (mxR (sgR (scoresR q (kvWin k))) sink)) (mxR (sgR (scoresR q (kvWin k))) sink))
      (ix3 T ⟨128 * B + r, by omega⟩ ⟨512 * h + 128 * g + d, by omega⟩) = Cert.Spec.head q k v sink T B r ⟨4 * h + g, by omega⟩ d := by
  have hs : ∀ j : Fin 384, sgR (scoresR q (kvWin k)) (ix6 T B h g r j) = Cert.Spec.sg q k T B r ⟨4 * h + g, by omega⟩ j := by
    intro j
    rw [sgR_apply, scoresR_apply]
    unfold Cert.Spec.sg
    have e4 : (⟨(⟨4 * (h : ℕ) + g, by omega⟩ : Fin 8) / 4, by omega⟩ : Fin 2) = h := Fin.ext (by simp only; omega)
    rw [e4]
    refine if_congr Iff.rfl (congrArg (· * _) (Finset.sum_congr rfl fun x _ => ?_)) rfl
    rw [kvWin_apply]
    rfl
  rw [attnV_apply]
  unfold Cert.Spec.head Cert.KernelIdeal.Hand.attnR
  have e4 : (⟨(⟨4 * (h : ℕ) + g, by omega⟩ : Fin 8) / 4, by omega⟩ : Fin 2) = h := Fin.ext (by simp only; omega)
  rw [e4]
  refine Finset.sum_congr rfl fun j _ => ?_
  rw [probR_apply, kvWin_apply]
  simp only [pR_apply, mxR_apply, hs]
  rfl

theorem mix_eq (q : Vec Ideal S2x16384x8x128 .bf16) (k v : Vec Ideal S2x16384x2x128 .bf16) (sink : Vec Ideal S8 .f32)
    (T : Fin 2) (n : Fin 16384) (l : Fin 1024) :
    attnV (kvWin v) (probR sink (pR (sgR (scoresR q (kvWin k))) (mxR (sgR (scoresR q (kvWin k))) sink)) (mxR (sgR (scoresR q (kvWin k))) sink))
      (ix3 T n l) = Cert.Spec.head q k v sink T ⟨n / 128, by omega⟩ ⟨n % 128, by omega⟩ ⟨l / 128, by omega⟩ ⟨l % 128, by omega⟩ := by
  have e := head_eq q k v sink T ⟨n / 128, by omega⟩ ⟨n % 128, by omega⟩ ⟨l / 512, by omega⟩ ⟨l % 512 / 128, by omega⟩ ⟨l % 128, by omega⟩
  have e1 : (⟨128 * (n / 128 : ℕ) + n % 128, by omega⟩ : Fin 16384) = n := Fin.ext (by simp only; omega)
  have e2 : (⟨512 * (l / 512 : ℕ) + 128 * (l % 512 / 128) + l % 128, by omega⟩ : Fin 1024) = l := Fin.ext (by simp only; omega)
  have e3 : (⟨4 * (l / 512 : ℕ) + l % 512 / 128, by omega⟩ : Fin 8) = ⟨l / 128, by omega⟩ := Fin.ext (by simp only; omega)
  simp only [e1, e2, e3] at e
  exact e

/-- The reference's stages compute the specification. -/
theorem out_eq (x : Vec Ideal S2x16384x2048 .f32) (q : Vec Ideal S2x16384x8x128 .bf16) (k v : Vec Ideal S2x16384x2x128 .bf16)
    (cv : Vec Ideal S2x16384x1024 .bf16) (sink : Vec Ideal S8 .f32) (w : Vec Ideal S2048x2048 .bf16) (T : Fin 2) (n : Fin 16384) (e : Fin 2048) :
    outR x (attnV (kvWin v) (probR sink (pR (sgR (scoresR q (kvWin k))) (mxR (sgR (scoresR q (kvWin k))) sink)) (mxR (sgR (scoresR q (kvWin k))) sink))) cv w
      (ix2 ⟨16384 * T + n, by omega⟩ e) = Cert.Spec.out x q k v cv sink w T n e := by
  refine (outR_apply _ _ _ _ T n e).trans ?_
  unfold Cert.Spec.out
  refine congrArg (fun z : EReal => (x (ix3 T n e) : EReal) + z) (Finset.sum_congr rfl fun l _ => congrArg (fun z : EReal => z * (w (ix2 l e) : EReal)) ?_)
  unfold Cert.Spec.mix
  by_cases h : (l : ℕ) < 1024
  · rw [dif_pos h, dif_pos h]
    exact mix_eq _ _ _ _ T n ⟨l, h⟩
  · rw [dif_neg h, dif_neg h]

variable (m : (ℓ : Loc nD τ sig) → Buf (Elt Ideal) ℓ)

theorem res_eq (c : Dev nD) : Cert.ReferenceIdeal.Value.res_main_v79 m c
    = (let q : Vec Ideal S2x16384x8x128 .bf16 := m ((c.tc : Thread nD τ).loc main_arg1)
       let sink : Vec Ideal S8 .f32 := m ((c.tc : Thread nD τ).loc main_arg5)
       let sg := sgR (scoresR q (kvWin (m ((c.tc : Thread nD τ).loc main_arg2))))
       let mx := mxR sg sink
       outR (m ((c.tc : Thread nD τ).loc main_arg0)) (attnV (kvWin (m ((c.tc : Thread nD τ).loc main_arg3))) (probR sink (pR sg mx) mx))
        (m ((c.tc : Thread nD τ).loc main_arg4)) (m ((c.tc : Thread nD τ).loc main_arg6))) := by
  unfold Cert.ReferenceIdeal.Value.res_main_v79
  rfl

/-- The reference's result is the specification's. -/
theorem res_apply (c : Dev nD) (T : Fin 2) (n : Fin 16384) (e : Fin 2048) :
    (Cert.ReferenceIdeal.Value.res_main_v79 m c : Vec Ideal S32768x2048 .f32) (ix2 ⟨16384 * T + n, by omega⟩ e)
      = Cert.Spec.out (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) (m ((c.tc : Thread nD τ).loc main_arg6)) T n e := by
  rw [res_eq]
  exact out_eq _ _ _ _ _ _ _ T n e

end Cert.ReferenceIdeal.Hand
end
-- ==== Proof.Tile.lean ====
module
public import proofs.«01_k».proof.Proof.Head
public import proofs.«01_k».proof.Proof.Gen.KernelIdeal.Value
public import Idealize.ShloMosaic.Lib.Pipeline.ValueKit
public import Idealize.ShloMosaic.Lib.Pipeline.ReadBack
@[expose] public section
set_option maxRecDepth 16384
noncomputable section
namespace Cert.KernelIdeal.Hand
open Idealize.ShloMosaic Idealize.ShloMosaic.TcCoe Cert.KernelIdeal Cert.KernelIdeal.Gen Idealize.SL.Sem

/-- The mask of one block of rows, between the words `lo` and `hi`. -/
def maskVec (lo hi : BitVec 32) : IVec S128x384 1 :=
  k0_pay9 (iota .tc S128x384 32 [0] iota_S128x384_d0_w32) (iota .tc S128x384 32 [1] iota_S128x384_d1_w32) lo hi k0_pay8

/-- The rows of keys (or of values) that a tile sees: the block before it, its own rows, the block after it. -/
def rows3 (p : Vec Ideal S128x256 .bf16) (c : Vec Ideal S512x256 .bf16) (n : Vec Ideal S128x256 .bf16) : Vec Ideal S768x256 .bf16 := fun i =>
  if h : (i 0 : ℕ) < 128 then p (ix2 ⟨i 0, h⟩ ⟨i 1, (i 1).isLt⟩)
  else if h' : (i 0 : ℕ) < 640 then c (ix2 ⟨i 0 - 128, by omega⟩ ⟨i 1, (i 1).isLt⟩)
  else n (ix2 ⟨i 0 - 640, by have : (i 0 : ℕ) < 768 := (i 0).isLt; omega⟩ ⟨i 1, (i 1).isLt⟩)

theorem readAt_whole {sp : Space} {s : Shape} {e : EltTy} (a : Memref sig .tc sp s e) (ha : a.IsWhole) (x : Vec Ideal s e) (r : Rect s) :
    View.readAt (Elt Ideal) a.view r.toLoadRect (ha.unread x) = View.ld x r := by
  rw [View.readAt_eq_ld, ha.read_unread]

theorem rows3_last (p : Vec Ideal S128x256 .bf16) (c : Vec Ideal S512x256 .bf16) (n : Vec Ideal S128x256 .bf16) (x : S128x256.Idx) (y : S768x256.Idx)
    (h0 : (y 0 : ℕ) = 640 + x 0) (h1 : (y 1 : ℕ) = 0 + x 1) : rows3 p c n y = n x := by
  unfold rows3
  rw [dif_neg (by omega), dif_neg (by omega)]
  refine congrArg n (funext fun a => Fin.ext ?_)
  fin_cases a
  · show (y 0 : ℕ) - 640 = x 0
    omega
  · exact h1.trans (Nat.zero_add _)

theorem rows3_own (p : Vec Ideal S128x256 .bf16) (c : Vec Ideal S512x256 .bf16) (n : Vec Ideal S128x256 .bf16) (x : S512x256.Idx) (y : S768x256.Idx)
    (h0 : (y 0 : ℕ) = 128 + x 0) (h1 : (y 1 : ℕ) = 0 + x 1) : rows3 p c n y = c x := by
  have hx : (x 0 : ℕ) < 512 := (x 0).isLt
  unfold rows3
  rw [dif_neg (by omega), dif_pos (by omega)]
  refine congrArg c (funext fun a => Fin.ext ?_)
  fin_cases a
  · show (y 0 : ℕ) - 128 = x 0
    omega
  · exact h1.trans (Nat.zero_add _)

theorem rows3_first (p : Vec Ideal S128x256 .bf16) (c : Vec Ideal S512x256 .bf16) (n : Vec Ideal S128x256 .bf16) (x : S128x256.Idx) (y : S768x256.Idx)
    (h0 : (y 0 : ℕ) = 0 + x 0) (h1 : (y 1 : ℕ) = 0 + x 1) : rows3 p c n y = p x := by
  have hx : (x 0 : ℕ) < 128 := (x 0).isLt
  unfold rows3
  rw [dif_pos (by omega)]
  refine congrArg p (funext fun a => Fin.ext ?_)
  fin_cases a
  · exact h0.trans (Nat.zero_add _)
  · exact h1.trans (Nat.zero_add _)

theorem rows3_read (v : View sig .tc .vmem S768x256 .bf16) (p : Vec Ideal S128x256 .bf16) (c : Vec Ideal S512x256 .bf16) (n : Vec Ideal S128x256 .bf16)
    (h0 : ∀ a, (![0, 0] : Fin 2 → ℕ) a + S128x256.size a ≤ S768x256.size a) (h1 : ∀ a, (![128, 0] : Fin 2 → ℕ) a + S512x256.size a ≤ S768x256.size a)
    (h2 : ∀ a, (![640, 0] : Fin 2 → ℕ) a + S128x256.size a ≤ S768x256.size a) (r : Rect S768x256) :
    v.readCov [(⟨Rect.unit ![640, 0] S128x256.size h2, n⟩ : View.Piece (Elt Ideal) S768x256 .bf16), ⟨Rect.unit ![128, 0] S512x256.size h1, c⟩,
      ⟨Rect.unit ![0, 0] S128x256.size h0, p⟩] r.toLoadRect = View.ld (rows3 p c n) r := by
  rw [View.readCov_eq_canon']
  funext j
  have hp : View.PiecesOf (rows3 p c n) [(⟨Rect.unit ![640, 0] S128x256.size h2, n⟩ : View.Piece (Elt Ideal) S768x256 .bf16), ⟨Rect.unit ![128, 0] S512x256.size h1, c⟩,
      ⟨Rect.unit ![0, 0] S128x256.size h0, p⟩] := by
   refine ⟨?_, ?_, ?_, trivial⟩
   · exact fun x => (rows3_last p c n x ((Rect.unit (s := S768x256) ![640, 0] S128x256.size h2).emb x) (Rect.idx_unit_val _ _ _ x 0) (Rect.idx_unit_val _ _ _ x 1)).symm
   · exact fun x => (rows3_own p c n x ((Rect.unit (s := S768x256) ![128, 0] S512x256.size h1).emb x) (Rect.idx_unit_val _ _ _ x 0) (Rect.idx_unit_val _ _ _ x 1)).symm
   · exact fun x => (rows3_first p c n x ((Rect.unit (s := S768x256) ![0, 0] S128x256.size h0).emb x) (Rect.idx_unit_val _ _ _ x 0) (Rect.idx_unit_val _ _ _ x 1)).symm
  exact View.canon_append_of_piecesOf (rows3 p c n) [] _ hp _ (View.cover_of_tiledBy _ ![128, 256] (by sl_kernel_rfl) _)

/-- The attention that a tile computes for its block `b`, head `hd`, row `r` of the block and lane `d`. -/
def tileAttn (lo hi : BitVec 32) (sink : Vec Ideal S8 .f32) (q : Vec Ideal S512x1024 .bf16) (kb vb : Vec Ideal S768x256 .bf16)
    (b : Fin 4) (hd : Fin 8) (r d : Fin 128) : EReal :=
  attnS
    (fun j => if maskVec lo hi (ix2 r j) = 1#1 then
        (∑ l : Fin 128, q (ix2 ⟨128 * b + r, by omega⟩ ⟨128 * hd + l, by omega⟩) * kb (ix2 ⟨128 * b + j, by omega⟩ ⟨128 * (hd / 4) + l, by omega⟩)) * sc
      else ⊥)
    (fun j => vb (ix2 ⟨128 * b + j, by omega⟩ ⟨128 * (hd / 4) + d, by omega⟩))
    (sink (ix1 hd))

/-- The first masked word of block `b` at a grid point. -/
def loW (i : grid0.Coords) (b : Fin 4) : BitVec 32 := Scalar.select (Scalar.andi (kernelRun0_A.sl.v10 i) (if b = 0 then 1#1 else 0#1)) 128#32 0#32
/-- The word the mask of block `b` ends at, at a grid point. -/
def hiW (i : grid0.Coords) (b : Fin 4) : BitVec 32 := Scalar.select (Scalar.andi (kernelRun0_A.sl.v21 i) (if b = 3 then 1#1 else 0#1)) 256#32 384#32

/-- The rows that a tile multiplies by the output weights: the attention's lanes, then the convolution's. -/
def mixTile (i : grid0.Coords) (sink : Vec Ideal S8 .f32) (q : Vec Ideal S512x1024 .bf16) (kb vb : Vec Ideal S768x256 .bf16)
    (cv : Vec Ideal S512x1024 .bf16) : Vec Ideal S512x2048 .bf16 := fun y =>
  if h : (y 1 : ℕ) < 1024 then
    have : (y 0 : ℕ) < 512 := (y 0).isLt
    tileAttn (loW i ⟨y 0 / 128, by omega⟩) (hiW i ⟨y 0 / 128, by omega⟩) sink q kb vb ⟨y 0 / 128, by omega⟩ ⟨y 1 / 128, by omega⟩ ⟨y 0 % 128, by omega⟩ ⟨y 1 % 128, by omega⟩
  else cv (ix2 ⟨y 0, (y 0).isLt⟩ ⟨y 1 - 1024, by have : (y 1 : ℕ) < 2048 := (y 1).isLt; omega⟩)

theorem mixTile_head (i : grid0.Coords) (sink : Vec Ideal S8 .f32) (q : Vec Ideal S512x1024 .bf16) (kb vb : Vec Ideal S768x256 .bf16)
    (cv : Vec Ideal S512x1024 .bf16) (b : Fin 4) (hd : Fin 8) (r d : Fin 128) (y : S512x2048.Idx) (h0 : (y 0 : ℕ) = 128 * b + r) (h1 : (y 1 : ℕ) = 128 * hd + d) :
    mixTile i sink q kb vb cv y = tileAttn (loW i b) (hiW i b) sink q kb vb b hd r d := by
  unfold mixTile
  rw [dif_pos (by omega)]
  have e1 : (⟨y 0 / 128, by have : (y 0 : ℕ) < 512 := (y 0).isLt; omega⟩ : Fin 4) = b := Fin.ext (by show (y 0 : ℕ) / 128 = b; omega)
  have e2 : (⟨y 1 / 128, by omega⟩ : Fin 8) = hd := Fin.ext (by show (y 1 : ℕ) / 128 = hd; omega)
  have e3 : (⟨y 0 % 128, by omega⟩ : Fin 128) = r := Fin.ext (by show (y 0 : ℕ) % 128 = r; omega)
  have e4 : (⟨y 1 % 128, by omega⟩ : Fin 128) = d := Fin.ext (by show (y 1 : ℕ) % 128 = d; omega)
  dsimp only
  rw [e1, e2, e3, e4]

/-- A load of a block of 128 columns out of the keys or the values a tile holds, or out of its queries. -/
theorem ld_apply {n w : ℕ} (X : Vec Ideal ⟨2, ![n, w]⟩ .bf16) {a b : ℕ} (o0 o1 : ℕ) (h : ∀ x, (![o0, o1] : Fin 2 → ℕ) x + (![a, b] : Fin 2 → ℕ) x ≤ (![n, w] : Fin 2 → ℕ) x)
    (r : Fin a) (d : Fin b) : View.ld X (Rect.unit (s := ⟨2, ![n, w]⟩) ![o0, o1] ![a, b] h) (ix2 r d)
      = X (ix2 ⟨o0 + r, by have := h 0; simp at this; omega⟩ ⟨o1 + d, by have := h 1; simp at this; omega⟩) :=
  View.ld_unit_apply_of X ![o0, o1] ![a, b] h (ix2 r d) (ix2 ⟨o0 + r, by have := h 0; simp at this; omega⟩ ⟨o1 + d, by have := h 1; simp at this; omega⟩) (fun x => by fin_cases x <;> rfl)

/-- One head of one block, as the body's vector operations leave it, is the attention of its rows. -/
theorem head_piece (i : grid0.Coords) (sink : Vec Ideal S8 .f32) (q : Vec Ideal S512x1024 .bf16) (kb vb : Vec Ideal S768x256 .bf16)
    (cv : Vec Ideal S512x1024 .bf16) (b : Fin 4) (kvh : Fin 2) (g : Fin 4) (row col0 col1 col2 col3 col kcol o hd : ℕ)
    (hrow : row = 128 * b) (hhd : hd = 4 * kvh + g) (hcol : col = 128 * hd) (hkcol : kcol = 128 * kvh) (ho : o = 128 * g)
    (hc0 : col0 = 128 * (4 * kvh)) (hc1 : col1 = 128 * (4 * kvh + 1)) (hc2 : col2 = 128 * (4 * kvh + 2)) (hc3 : col3 = 128 * (4 * kvh + 3))
    (hsl : S512x384.Slices ![o, 0] S128x384)
    (hk : ∀ a, (![row, kcol] : Fin 2 → ℕ) a + S384x128.size a ≤ S768x256.size a)
    (hq0 : ∀ a, (![row, col0] : Fin 2 → ℕ) a + S128x128.size a ≤ S512x1024.size a)
    (hq1 : ∀ a, (![row, col1] : Fin 2 → ℕ) a + S128x128.size a ≤ S512x1024.size a)
    (hq2 : ∀ a, (![row, col2] : Fin 2 → ℕ) a + S128x128.size a ≤ S512x1024.size a)
    (hq3 : ∀ a, (![row, col3] : Fin 2 → ℕ) a + S128x128.size a ≤ S512x1024.size a)
    (hout : ∀ a, (![row, col] : Fin 2 → ℕ) a + S128x128.size a ≤ S512x2048.size a)
    (hs : ∀ a, (![hd] : Fin 1 → ℕ) a < S8.size a)
    (x : (Rect.unit (s := S512x2048) ![row, col] S128x128.size hout).shape.Idx) :
    headVec o hsl (maskVec (loW i b) (hiW i b)) (View.ld vb (Rect.unit ![row, kcol] S384x128.size hk))
      (k0_pay10 (View.ld kb (Rect.unit ![row, kcol] S384x128.size hk)) (View.ld q (Rect.unit ![row, col0] S128x128.size hq0))
        (View.ld q (Rect.unit ![row, col1] S128x128.size hq1)) (View.ld q (Rect.unit ![row, col2] S128x128.size hq2)) (View.ld q (Rect.unit ![row, col3] S128x128.size hq3)))
      (sink (ix1 ⟨hd, hs 0⟩)) x
      = mixTile i sink q kb vb cv ((Rect.unit (s := S512x2048) ![row, col] S128x128.size hout).emb x) := by
  have e0 : ((Rect.unit (s := S512x2048) ![row, col] S128x128.size hout).emb x 0 : ℕ) = row + x 0 := Rect.idx_unit_val _ _ _ x 0
  have e1 : ((Rect.unit (s := S512x2048) ![row, col] S128x128.size hout).emb x 1 : ℕ) = col + x 1 := Rect.idx_unit_val _ _ _ x 1
  obtain ⟨r, d, rfl⟩ : ∃ r d : Fin 128, x = ix2 r d := ⟨x 0, x 1, funext fun a => by fin_cases a <;> rfl⟩
  subst hrow hcol hkcol ho hhd
  rw [mixTile_head i sink q kb vb cv b ⟨4 * kvh + g, by omega⟩ r d _ e0 e1]
  rw [headVec_apply _ (by omega)]
  unfold tileAttn
  have hkv : (4 * (kvh : ℕ) + g) / 4 = kvh := by omega
  congr 1
  · funext j
    refine if_congr Iff.rfl ?_ rfl
    rw [scores_apply]
    refine congrArg (· * sc) (Finset.sum_congr rfl fun l _ => ?_)
    refine congrArg₂ (· * ·) ?_ ?_
    · subst hc0 hc1 hc2 hc3
      fin_cases g <;> exact ld_apply q _ _ _ r l
    · refine (ld_apply kb _ _ hk j l).trans (congrArg kb ?_)
      simp only [hkv]
  · funext j
    refine (ld_apply vb _ _ hk j d).trans (congrArg vb ?_)
    simp only [hkv]

end Cert.KernelIdeal.Hand
end
-- ==== Proof.Pieces.lean ====
module
public import proofs.«01_k».proof.Proof.Tile
@[expose] public section
set_option maxRecDepth 16384
noncomputable section
namespace Cert.KernelIdeal.Hand
open Idealize.ShloMosaic Idealize.ShloMosaic.TcCoe Cert.KernelIdeal Cert.KernelIdeal.Gen Idealize.SL.Sem

variable (c : Dev nD) (i : grid0.Coords) (arg1 : Memref sig .tc .smem S8 .f32) (harg1 : arg1.IsWhole) (arg3 : Memref sig .tc .vmem S512x1024 .bf16) (harg3 : arg3.IsWhole)
  (arg4 : Memref sig .tc .vmem S128x256 .bf16) (harg4 : arg4.IsWhole) (arg5 : Memref sig .tc .vmem S512x256 .bf16) (harg5 : arg5.IsWhole)
  (arg6 : Memref sig .tc .vmem S128x256 .bf16) (harg6 : arg6.IsWhole) (arg7 : Memref sig .tc .vmem S128x256 .bf16) (harg7 : arg7.IsWhole)
  (arg8 : Memref sig .tc .vmem S512x256 .bf16) (harg8 : arg8.IsWhole) (arg9 : Memref sig .tc .vmem S128x256 .bf16) (harg9 : arg9.IsWhole)
  (arg10 : Memref sig .tc .vmem S512x1024 .bf16) (harg10 : arg10.IsWhole) (arg13 arg14 : Memref sig .tc .vmem S768x256 .bf16)
  (x0 : Vec Ideal S8 .f32) (x2 : Vec Ideal S512x1024 .bf16) (x3 : Vec Ideal S128x256 .bf16) (x4 : Vec Ideal S512x256 .bf16) (x5 : Vec Ideal S128x256 .bf16)
  (x6 : Vec Ideal S128x256 .bf16) (x7 : Vec Ideal S512x256 .bf16) (x8 : Vec Ideal S128x256 .bf16) (x9 : Vec Ideal S512x1024 .bf16)

theorem kwin_read (r : Rect S768x256) : arg13.view.readCov (kernelRun0_A.sl.HS0_3 (F := Ideal) c arg4 harg4 arg5 harg5 arg6 harg6 x3 x4 x5) r.toLoadRect
    = View.ld (rows3 x3 x4 x5) r := by
  have e5 : kernelRun0_A.sl.v41 (F := Ideal) c arg6 harg6 x5 = x5 := by
    show shapeCast S128x256 (shapeCast S128x256 (View.readAt (Elt Ideal) arg6.view (Rect.unit (s := S128x256) ![0, 0] S128x256.size inb_S128x256_S128x256_0_0).toLoadRect (harg6.unread x5)) _) _ = x5
    refine (shapeCast_self _ _).trans ((shapeCast_self (s := S128x256) _ _).trans ?_)
    rw [readAt_whole, View.ld_unit_lit' _ _ (fun a => by fin_cases a <;> rfl)]
  have e4 : kernelRun0_A.sl.v36 (F := Ideal) c arg5 harg5 x4 = x4 := by
    show shapeCast S512x256 (shapeCast S512x256 (View.readAt (Elt Ideal) arg5.view (Rect.unit (s := S512x256) ![0, 0] S512x256.size inb_S512x256_S512x256_0_0).toLoadRect (harg5.unread x4)) _) _ = x4
    refine (shapeCast_self _ _).trans ((shapeCast_self (s := S512x256) _ _).trans ?_)
    rw [readAt_whole, View.ld_unit_lit' _ _ (fun a => by fin_cases a <;> rfl)]
  have e3 : kernelRun0_A.sl.v31 (F := Ideal) c arg4 harg4 x3 = x3 := by
    show shapeCast S128x256 (shapeCast S128x256 (View.readAt (Elt Ideal) arg4.view (Rect.unit (s := S128x256) ![0, 0] S128x256.size inb_S128x256_S128x256_0_0).toLoadRect (harg4.unread x3)) _) _ = x3
    refine (shapeCast_self _ _).trans ((shapeCast_self (s := S128x256) _ _).trans ?_)
    rw [readAt_whole, View.ld_unit_lit' _ _ (fun a => by fin_cases a <;> rfl)]
  unfold kernelRun0_A.sl.HS0_3
  rw [e3, e4, e5]
  exact rows3_read _ _ _ _ _ _ _ r

theorem vwin_read (r : Rect S768x256) : arg14.view.readCov (kernelRun0_A.sl.HS1_3 (F := Ideal) c arg7 harg7 arg8 harg8 arg9 harg9 x6 x7 x8) r.toLoadRect
    = View.ld (rows3 x6 x7 x8) r := by
  have h := kwin_read c arg7 harg7 arg8 harg8 arg9 harg9 arg14 x6 x7 x8 r
  exact h

theorem cv_read : kernelRun0_A.sl.v26 (F := Ideal) c arg10 harg10 x9 = x9 := by
  show shapeCast S512x1024 (shapeCast S512x1024 (View.readAt (Elt Ideal) arg10.view (Rect.unit (s := S512x1024) ![0, 0] S512x1024.size inb_S512x1024_S512x1024_0_0).toLoadRect (harg10.unread x9)) _) _ = x9
  refine (shapeCast_self _ _).trans ((shapeCast_self (s := S512x1024) _ _).trans ?_)
  rw [readAt_whole, View.ld_unit_lit' _ _ (fun a => by fin_cases a <;> rfl)]

/-- A head's vector operations over what the body loaded: the attention of its rows. -/
theorem run_piece (b : Fin 4) (kvh : Fin 2) (g : Fin 4) (row col0 col1 col2 col3 col kcol o hd : ℕ)
    (hrow : row = 128 * b) (hhd : hd = 4 * kvh + g) (hcol : col = 128 * hd) (hkcol : kcol = 128 * kvh) (ho : o = 128 * g)
    (hc0 : col0 = 128 * (4 * kvh)) (hc1 : col1 = 128 * (4 * kvh + 1)) (hc2 : col2 = 128 * (4 * kvh + 2)) (hc3 : col3 = 128 * (4 * kvh + 3))
    (hsl : S512x384.Slices ![o, 0] S128x384)
    (hk : ∀ a, (![row, kcol] : Fin 2 → ℕ) a + S384x128.size a ≤ S768x256.size a)
    (hq0 : ∀ a, (![row, col0] : Fin 2 → ℕ) a + S128x128.size a ≤ S512x1024.size a)
    (hq1 : ∀ a, (![row, col1] : Fin 2 → ℕ) a + S128x128.size a ≤ S512x1024.size a)
    (hq2 : ∀ a, (![row, col2] : Fin 2 → ℕ) a + S128x128.size a ≤ S512x1024.size a)
    (hq3 : ∀ a, (![row, col3] : Fin 2 → ℕ) a + S128x128.size a ≤ S512x1024.size a)
    (hout : ∀ a, (![row, col] : Fin 2 → ℕ) a + S128x128.size a ≤ S512x2048.size a)
    (hs : ∀ a, (![hd] : Fin 1 → ℕ) a + S1.size a ≤ S8.size a) (hn : 0 < S1.numel)
    (x : (Rect.unit (s := S512x2048) ![row, col] S128x128.size hout).shape.Idx) :
    headVec o hsl (maskVec (loW i b) (hiW i b))
      (arg14.view.readCov (kernelRun0_A.sl.HS1_3 (F := Ideal) c arg7 harg7 arg8 harg8 arg9 harg9 x6 x7 x8) (Rect.unit (s := S768x256) ![row, kcol] S384x128.size hk).toLoadRect)
      (k0_pay10 (arg13.view.readCov (kernelRun0_A.sl.HS0_3 (F := Ideal) c arg4 harg4 arg5 harg5 arg6 harg6 x3 x4 x5) (Rect.unit (s := S768x256) ![row, kcol] S384x128.size hk).toLoadRect)
        (View.readAt (Elt Ideal) arg3.view (Rect.unit (s := S512x1024) ![row, col0] S128x128.size hq0).toLoadRect (harg3.unread x2))
        (View.readAt (Elt Ideal) arg3.view (Rect.unit (s := S512x1024) ![row, col1] S128x128.size hq1).toLoadRect (harg3.unread x2))
        (View.readAt (Elt Ideal) arg3.view (Rect.unit (s := S512x1024) ![row, col2] S128x128.size hq2).toLoadRect (harg3.unread x2))
        (View.readAt (Elt Ideal) arg3.view (Rect.unit (s := S512x1024) ![row, col3] S128x128.size hq3).toLoadRect (harg3.unread x2)))
      (View.readAt (Elt Ideal) arg1.view (Rect.unit (s := S8) ![hd] S1.size hs).toLoadRect (harg1.unread x0) (Shape.Idx.first hn)) x
      = mixTile i x0 x2 (rows3 x3 x4 x5) (rows3 x6 x7 x8) x9 ((Rect.unit (s := S512x2048) ![row, col] S128x128.size hout).emb x) := by
  rw [kwin_read, vwin_read, readAt_whole, readAt_whole, readAt_whole, readAt_whole, readAt_whole]
  have hlt : hd < 8 := by omega
  have e : View.ld x0 (Rect.unit (s := S8) ![hd] S1.size hs) (Shape.Idx.first hn) = x0 (ix1 ⟨hd, hlt⟩) :=
    View.ld_unit_apply_of x0 _ _ hs _ _ (fun a => by fin_cases a; rfl)
  rw [e]
  exact head_piece i x0 x2 (rows3 x3 x4 x5) (rows3 x6 x7 x8) x9 b kvh g row col0 col1 col2 col3 col kcol o hd hrow hhd hcol hkcol ho hc0 hc1 hc2 hc3
    hsl hk hq0 hq1 hq2 hq3 hout (fun a => by fin_cases a; exact hlt) x

/-- The convolution's columns, stored first, are the convolution's columns. -/
theorem cv_piece (hout : ∀ a, (![0, 1024] : Fin 2 → ℕ) a + S512x1024.size a ≤ S512x2048.size a)
    (x : (Rect.unit (s := S512x2048) ![0, 1024] S512x1024.size hout).shape.Idx) :
    kernelRun0_A.sl.v26 (F := Ideal) c arg10 harg10 x9 x
      = mixTile i x0 x2 (rows3 x3 x4 x5) (rows3 x6 x7 x8) x9 ((Rect.unit (s := S512x2048) ![0, 1024] S512x1024.size hout).emb x) := by
  have e0 : ((Rect.unit (s := S512x2048) ![0, 1024] S512x1024.size hout).emb x 0 : ℕ) = 0 + x 0 := Rect.idx_unit_val _ _ _ x 0
  have e1 : ((Rect.unit (s := S512x2048) ![0, 1024] S512x1024.size hout).emb x 1 : ℕ) = 1024 + x 1 := Rect.idx_unit_val _ _ _ x 1
  rw [cv_read]
  unfold mixTile
  rw [dif_neg (by omega)]
  refine congrArg x9 (funext fun a => Fin.ext ?_)
  fin_cases a
  · exact (e0.trans (Nat.zero_add _)).symm
  · show (x 1 : ℕ) = _ - 1024
    omega

set_option maxHeartbeats 4000000 in
/-- The stores of one tile into the rows that are multiplied by the output weights: each is a block of `mixTile`. -/
theorem mix_pieces : View.PiecesOf (mixTile i x0 x2 (rows3 x3 x4 x5) (rows3 x6 x7 x8) x9) (kernelRun0_A.sl.HS2_33 (F := Ideal) c i arg1 harg1 arg3 harg3 arg4 harg4 arg5 harg5 arg6 harg6 arg7 harg7 arg8 harg8 arg9 harg9 arg10 harg10 arg13 arg14 x0 x2 x3 x4 x5 x6 x7 x8 x9) := by
  unfold kernelRun0_A.sl.HS2_33
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩
  · exact fun x => run_piece c i arg1 harg1 arg3 harg3 arg4 harg4 arg5 harg5 arg6 harg6 arg7 harg7 arg8 harg8 arg9 harg9 arg13 arg14 x0 x2 x3 x4 x5 x6 x7 x8 x9 3 1 3 384 512 640 768 896 896 128 384 7 rfl rfl rfl rfl rfl rfl rfl rfl rfl slices_S512x384_o384_0_S128x384 inb_S768x256_S384x128_384_128 inb_S512x1024_S128x128_384_512 inb_S512x1024_S128x128_384_640 inb_S512x1024_S128x128_384_768 inb_S512x1024_S128x128_384_896 inb_S512x2048_S128x128_384_896 inb_S8_S1_7 (by decide) x
  · exact fun x => run_piece c i arg1 harg1 arg3 harg3 arg4 harg4 arg5 harg5 arg6 harg6 arg7 harg7 arg8 harg8 arg9 harg9 arg13 arg14 x0 x2 x3 x4 x5 x6 x7 x8 x9 3 1 2 384 512 640 768 896 768 128 256 6 rfl rfl rfl rfl rfl rfl rfl rfl rfl slices_S512x384_o256_0_S128x384 inb_S768x256_S384x128_384_128 inb_S512x1024_S128x128_384_512 inb_S512x1024_S128x128_384_640 inb_S512x1024_S128x128_384_768 inb_S512x1024_S128x128_384_896 inb_S512x2048_S128x128_384_768 inb_S8_S1_6 (by decide) x
  · exact fun x => run_piece c i arg1 harg1 arg3 harg3 arg4 harg4 arg5 harg5 arg6 harg6 arg7 harg7 arg8 harg8 arg9 harg9 arg13 arg14 x0 x2 x3 x4 x5 x6 x7 x8 x9 3 1 1 384 512 640 768 896 640 128 128 5 rfl rfl rfl rfl rfl rfl rfl rfl rfl slices_S512x384_o128_0_S128x384 inb_S768x256_S384x128_384_128 inb_S512x1024_S128x128_384_512 inb_S512x1024_S128x128_384_640 inb_S512x1024_S128x128_384_768 inb_S512x1024_S128x128_384_896 inb_S512x2048_S128x128_384_640 inb_S8_S1_5 (by decide) x
  · exact fun x => run_piece c i arg1 harg1 arg3 harg3 arg4 harg4 arg5 harg5 arg6 harg6 arg7 harg7 arg8 harg8 arg9 harg9 arg13 arg14 x0 x2 x3 x4 x5 x6 x7 x8 x9 3 1 0 384 512 640 768 896 512 128 0 4 rfl rfl rfl rfl rfl rfl rfl rfl rfl slices_S512x384_o0_0_S128x384 inb_S768x256_S384x128_384_128 inb_S512x1024_S128x128_384_512 inb_S512x1024_S128x128_384_640 inb_S512x1024_S128x128_384_768 inb_S512x1024_S128x128_384_896 inb_S512x2048_S128x128_384_512 inb_S8_S1_4 (by decide) x
  · exact fun x => run_piece c i arg1 harg1 arg3 harg3 arg4 harg4 arg5 harg5 arg6 harg6 arg7 harg7 arg8 harg8 arg9 harg9 arg13 arg14 x0 x2 x3 x4 x5 x6 x7 x8 x9 3 0 3 384 0 128 256 384 384 0 384 3 rfl rfl rfl rfl rfl rfl rfl rfl rfl slices_S512x384_o384_0_S128x384 inb_S768x256_S384x128_384_0 inb_S512x1024_S128x128_384_0 inb_S512x1024_S128x128_384_128 inb_S512x1024_S128x128_384_256 inb_S512x1024_S128x128_384_384 inb_S512x2048_S128x128_384_384 inb_S8_S1_3 (by decide) x
  · exact fun x => run_piece c i arg1 harg1 arg3 harg3 arg4 harg4 arg5 harg5 arg6 harg6 arg7 harg7 arg8 harg8 arg9 harg9 arg13 arg14 x0 x2 x3 x4 x5 x6 x7 x8 x9 3 0 2 384 0 128 256 384 256 0 256 2 rfl rfl rfl rfl rfl rfl rfl rfl rfl slices_S512x384_o256_0_S128x384 inb_S768x256_S384x128_384_0 inb_S512x1024_S128x128_384_0 inb_S512x1024_S128x128_384_128 inb_S512x1024_S128x128_384_256 inb_S512x1024_S128x128_384_384 inb_S512x2048_S128x128_384_256 inb_S8_S1_2 (by decide) x
  · exact fun x => run_piece c i arg1 harg1 arg3 harg3 arg4 harg4 arg5 harg5 arg6 harg6 arg7 harg7 arg8 harg8 arg9 harg9 arg13 arg14 x0 x2 x3 x4 x5 x6 x7 x8 x9 3 0 1 384 0 128 256 384 128 0 128 1 rfl rfl rfl rfl rfl rfl rfl rfl rfl slices_S512x384_o128_0_S128x384 inb_S768x256_S384x128_384_0 inb_S512x1024_S128x128_384_0 inb_S512x1024_S128x128_384_128 inb_S512x1024_S128x128_384_256 inb_S512x1024_S128x128_384_384 inb_S512x2048_S128x128_384_128 inb_S8_S1_1 (by decide) x
  · exact fun x => run_piece c i arg1 harg1 arg3 harg3 arg4 harg4 arg5 harg5 arg6 harg6 arg7 harg7 arg8 harg8 arg9 harg9 arg13 arg14 x0 x2 x3 x4 x5 x6 x7 x8 x9 3 0 0 384 0 128 256 384 0 0 0 0 rfl rfl rfl rfl rfl rfl rfl rfl rfl slices_S512x384_o0_0_S128x384 inb_S768x256_S384x128_384_0 inb_S512x1024_S128x128_384_0 inb_S512x1024_S128x128_384_128 inb_S512x1024_S128x128_384_256 inb_S512x1024_S128x128_384_384 inb_S512x2048_S128x128_384_0 inb_S8_S1_0 (by decide) x
  · exact fun x => run_piece c i arg1 harg1 arg3 harg3 arg4 harg4 arg5 harg5 arg6 harg6 arg7 harg7 arg8 harg8 arg9 harg9 arg13 arg14 x0 x2 x3 x4 x5 x6 x7 x8 x9 2 1 3 256 512 640 768 896 896 128 384 7 rfl rfl rfl rfl rfl rfl rfl rfl rfl slices_S512x384_o384_0_S128x384 inb_S768x256_S384x128_256_128 inb_S512x1024_S128x128_256_512 inb_S512x1024_S128x128_256_640 inb_S512x1024_S128x128_256_768 inb_S512x1024_S128x128_256_896 inb_S512x2048_S128x128_256_896 inb_S8_S1_7 (by decide) x
  · exact fun x => run_piece c i arg1 harg1 arg3 harg3 arg4 harg4 arg5 harg5 arg6 harg6 arg7 harg7 arg8 harg8 arg9 harg9 arg13 arg14 x0 x2 x3 x4 x5 x6 x7 x8 x9 2 1 2 256 512 640 768 896 768 128 256 6 rfl rfl rfl rfl rfl rfl rfl rfl rfl slices_S512x384_o256_0_S128x384 inb_S768x256_S384x128_256_128 inb_S512x1024_S128x128_256_512 inb_S512x1024_S128x128_256_640 inb_S512x1024_S128x128_256_768 inb_S512x1024_S128x128_256_896 inb_S512x2048_S128x128_256_768 inb_S8_S1_6 (by decide) x
  · exact fun x => run_piece c i arg1 harg1 arg3 harg3 arg4 harg4 arg5 harg5 arg6 harg6 arg7 harg7 arg8 harg8 arg9 harg9 arg13 arg14 x0 x2 x3 x4 x5 x6 x7 x8 x9 2 1 1 256 512 640 768 896 640 128 128 5 rfl rfl rfl rfl rfl rfl rfl rfl rfl slices_S512x384_o128_0_S128x384 inb_S768x256_S384x128_256_128 inb_S512x1024_S128x128_256_512 inb_S512x1024_S128x128_256_640 inb_S512x1024_S128x128_256_768 inb_S512x1024_S128x128_256_896 inb_S512x2048_S128x128_256_640 inb_S8_S1_5 (by decide) x
  · exact fun x => run_piece c i arg1 harg1 arg3 harg3 arg4 harg4 arg5 harg5 arg6 harg6 arg7 harg7 arg8 harg8 arg9 harg9 arg13 arg14 x0 x2 x3 x4 x5 x6 x7 x8 x9 2 1 0 256 512 640 768 896 512 128 0 4 rfl rfl rfl rfl rfl rfl rfl rfl rfl slices_S512x384_o0_0_S128x384 inb_S768x256_S384x128_256_128 inb_S512x1024_S128x128_256_512 inb_S512x1024_S128x128_256_640 inb_S512x1024_S128x128_256_768 inb_S512x1024_S128x128_256_896 inb_S512x2048_S128x128_256_512 inb_S8_S1_4 (by decide) x
  · exact fun x => run_piece c i arg1 harg1 arg3 harg3 arg4 harg4 arg5 harg5 arg6 harg6 arg7 harg7 arg8 harg8 arg9 harg9 arg13 arg14 x0 x2 x3 x4 x5 x6 x7 x8 x9 2 0 3 256 0 128 256 384 384 0 384 3 rfl rfl rfl rfl rfl rfl rfl rfl rfl slices_S512x384_o384_0_S128x384 inb_S768x256_S384x128_256_0 inb_S512x1024_S128x128_256_0 inb_S512x1024_S128x128_256_128 inb_S512x1024_S128x128_256_256 inb_S512x1024_S128x128_256_384 inb_S512x2048_S128x128_256_384 inb_S8_S1_3 (by decide) x
  · exact fun x => run_piece c i arg1 harg1 arg3 harg3 arg4 harg4 arg5 harg5 arg6 harg6 arg7 harg7 arg8 harg8 arg9 harg9 arg13 arg14 x0 x2 x3 x4 x5 x6 x7 x8 x9 2 0 2 256 0 128 256 384 256 0 256 2 rfl rfl rfl rfl rfl rfl rfl rfl rfl slices_S512x384_o256_0_S128x384 inb_S768x256_S384x128_256_0 inb_S512x1024_S128x128_256_0 inb_S512x1024_S128x128_256_128 inb_S512x1024_S128x128_256_256 inb_S512x1024_S128x128_256_384 inb_S512x2048_S128x128_256_256 inb_S8_S1_2 (by decide) x
  · exact fun x => run_piece c i arg1 harg1 arg3 harg3 arg4 harg4 arg5 harg5 arg6 harg6 arg7 harg7 arg8 harg8 arg9 harg9 arg13 arg14 x0 x2 x3 x4 x5 x6 x7 x8 x9 2 0 1 256 0 128 256 384 128 0 128 1 rfl rfl rfl rfl rfl rfl rfl rfl rfl slices_S512x384_o128_0_S128x384 inb_S768x256_S384x128_256_0 inb_S512x1024_S128x128_256_0 inb_S512x1024_S128x128_256_128 inb_S512x1024_S128x128_256_256 inb_S512x1024_S128x128_256_384 inb_S512x2048_S128x128_256_128 inb_S8_S1_1 (by decide) x
  · exact fun x => run_piece c i arg1 harg1 arg3 harg3 arg4 harg4 arg5 harg5 arg6 harg6 arg7 harg7 arg8 harg8 arg9 harg9 arg13 arg14 x0 x2 x3 x4 x5 x6 x7 x8 x9 2 0 0 256 0 128 256 384 0 0 0 0 rfl rfl rfl rfl rfl rfl rfl rfl rfl slices_S512x384_o0_0_S128x384 inb_S768x256_S384x128_256_0 inb_S512x1024_S128x128_256_0 inb_S512x1024_S128x128_256_128 inb_S512x1024_S128x128_256_256 inb_S512x1024_S128x128_256_384 inb_S512x2048_S128x128_256_0 inb_S8_S1_0 (by decide) x
  · exact fun x => run_piece c i arg1 harg1 arg3 harg3 arg4 harg4 arg5 harg5 arg6 harg6 arg7 harg7 arg8 harg8 arg9 harg9 arg13 arg14 x0 x2 x3 x4 x5 x6 x7 x8 x9 1 1 3 128 512 640 768 896 896 128 384 7 rfl rfl rfl rfl rfl rfl rfl rfl rfl slices_S512x384_o384_0_S128x384 inb_S768x256_S384x128_128_128 inb_S512x1024_S128x128_128_512 inb_S512x1024_S128x128_128_640 inb_S512x1024_S128x128_128_768 inb_S512x1024_S128x128_128_896 inb_S512x2048_S128x128_128_896 inb_S8_S1_7 (by decide) x
  · exact fun x => run_piece c i arg1 harg1 arg3 harg3 arg4 harg4 arg5 harg5 arg6 harg6 arg7 harg7 arg8 harg8 arg9 harg9 arg13 arg14 x0 x2 x3 x4 x5 x6 x7 x8 x9 1 1 2 128 512 640 768 896 768 128 256 6 rfl rfl rfl rfl rfl rfl rfl rfl rfl slices_S512x384_o256_0_S128x384 inb_S768x256_S384x128_128_128 inb_S512x1024_S128x128_128_512 inb_S512x1024_S128x128_128_640 inb_S512x1024_S128x128_128_768 inb_S512x1024_S128x128_128_896 inb_S512x2048_S128x128_128_768 inb_S8_S1_6 (by decide) x
  · exact fun x => run_piece c i arg1 harg1 arg3 harg3 arg4 harg4 arg5 harg5 arg6 harg6 arg7 harg7 arg8 harg8 arg9 harg9 arg13 arg14 x0 x2 x3 x4 x5 x6 x7 x8 x9 1 1 1 128 512 640 768 896 640 128 128 5 rfl rfl rfl rfl rfl rfl rfl rfl rfl slices_S512x384_o128_0_S128x384 inb_S768x256_S384x128_128_128 inb_S512x1024_S128x128_128_512 inb_S512x1024_S128x128_128_640 inb_S512x1024_S128x128_128_768 inb_S512x1024_S128x128_128_896 inb_S512x2048_S128x128_128_640 inb_S8_S1_5 (by decide) x
  · exact fun x => run_piece c i arg1 harg1 arg3 harg3 arg4 harg4 arg5 harg5 arg6 harg6 arg7 harg7 arg8 harg8 arg9 harg9 arg13 arg14 x0 x2 x3 x4 x5 x6 x7 x8 x9 1 1 0 128 512 640 768 896 512 128 0 4 rfl rfl rfl rfl rfl rfl rfl rfl rfl slices_S512x384_o0_0_S128x384 inb_S768x256_S384x128_128_128 inb_S512x1024_S128x128_128_512 inb_S512x1024_S128x128_128_640 inb_S512x1024_S128x128_128_768 inb_S512x1024_S128x128_128_896 inb_S512x2048_S128x128_128_512 inb_S8_S1_4 (by decide) x
  · exact fun x => run_piece c i arg1 harg1 arg3 harg3 arg4 harg4 arg5 harg5 arg6 harg6 arg7 harg7 arg8 harg8 arg9 harg9 arg13 arg14 x0 x2 x3 x4 x5 x6 x7 x8 x9 1 0 3 128 0 128 256 384 384 0 384 3 rfl rfl rfl rfl rfl rfl rfl rfl rfl slices_S512x384_o384_0_S128x384 inb_S768x256_S384x128_128_0 inb_S512x1024_S128x128_128_0 inb_S512x1024_S128x128_128_128 inb_S512x1024_S128x128_128_256 inb_S512x1024_S128x128_128_384 inb_S512x2048_S128x128_128_384 inb_S8_S1_3 (by decide) x
  · exact fun x => run_piece c i arg1 harg1 arg3 harg3 arg4 harg4 arg5 harg5 arg6 harg6 arg7 harg7 arg8 harg8 arg9 harg9 arg13 arg14 x0 x2 x3 x4 x5 x6 x7 x8 x9 1 0 2 128 0 128 256 384 256 0 256 2 rfl rfl rfl rfl rfl rfl rfl rfl rfl slices_S512x384_o256_0_S128x384 inb_S768x256_S384x128_128_0 inb_S512x1024_S128x128_128_0 inb_S512x1024_S128x128_128_128 inb_S512x1024_S128x128_128_256 inb_S512x1024_S128x128_128_384 inb_S512x2048_S128x128_128_256 inb_S8_S1_2 (by decide) x
  · exact fun x => run_piece c i arg1 harg1 arg3 harg3 arg4 harg4 arg5 harg5 arg6 harg6 arg7 harg7 arg8 harg8 arg9 harg9 arg13 arg14 x0 x2 x3 x4 x5 x6 x7 x8 x9 1 0 1 128 0 128 256 384 128 0 128 1 rfl rfl rfl rfl rfl rfl rfl rfl rfl slices_S512x384_o128_0_S128x384 inb_S768x256_S384x128_128_0 inb_S512x1024_S128x128_128_0 inb_S512x1024_S128x128_128_128 inb_S512x1024_S128x128_128_256 inb_S512x1024_S128x128_128_384 inb_S512x2048_S128x128_128_128 inb_S8_S1_1 (by decide) x
  · exact fun x => run_piece c i arg1 harg1 arg3 harg3 arg4 harg4 arg5 harg5 arg6 harg6 arg7 harg7 arg8 harg8 arg9 harg9 arg13 arg14 x0 x2 x3 x4 x5 x6 x7 x8 x9 1 0 0 128 0 128 256 384 0 0 0 0 rfl rfl rfl rfl rfl rfl rfl rfl rfl slices_S512x384_o0_0_S128x384 inb_S768x256_S384x128_128_0 inb_S512x1024_S128x128_128_0 inb_S512x1024_S128x128_128_128 inb_S512x1024_S128x128_128_256 inb_S512x1024_S128x128_128_384 inb_S512x2048_S128x128_128_0 inb_S8_S1_0 (by decide) x
  · exact fun x => run_piece c i arg1 harg1 arg3 harg3 arg4 harg4 arg5 harg5 arg6 harg6 arg7 harg7 arg8 harg8 arg9 harg9 arg13 arg14 x0 x2 x3 x4 x5 x6 x7 x8 x9 0 1 3 0 512 640 768 896 896 128 384 7 rfl rfl rfl rfl rfl rfl rfl rfl rfl slices_S512x384_o384_0_S128x384 inb_S768x256_S384x128_0_128 inb_S512x1024_S128x128_0_512 inb_S512x1024_S128x128_0_640 inb_S512x1024_S128x128_0_768 inb_S512x1024_S128x128_0_896 inb_S512x2048_S128x128_0_896 inb_S8_S1_7 (by decide) x
  · exact fun x => run_piece c i arg1 harg1 arg3 harg3 arg4 harg4 arg5 harg5 arg6 harg6 arg7 harg7 arg8 harg8 arg9 harg9 arg13 arg14 x0 x2 x3 x4 x5 x6 x7 x8 x9 0 1 2 0 512 640 768 896 768 128 256 6 rfl rfl rfl rfl rfl rfl rfl rfl rfl slices_S512x384_o256_0_S128x384 inb_S768x256_S384x128_0_128 inb_S512x1024_S128x128_0_512 inb_S512x1024_S128x128_0_640 inb_S512x1024_S128x128_0_768 inb_S512x1024_S128x128_0_896 inb_S512x2048_S128x128_0_768 inb_S8_S1_6 (by decide) x
  · exact fun x => run_piece c i arg1 harg1 arg3 harg3 arg4 harg4 arg5 harg5 arg6 harg6 arg7 harg7 arg8 harg8 arg9 harg9 arg13 arg14 x0 x2 x3 x4 x5 x6 x7 x8 x9 0 1 1 0 512 640 768 896 640 128 128 5 rfl rfl rfl rfl rfl rfl rfl rfl rfl slices_S512x384_o128_0_S128x384 inb_S768x256_S384x128_0_128 inb_S512x1024_S128x128_0_512 inb_S512x1024_S128x128_0_640 inb_S512x1024_S128x128_0_768 inb_S512x1024_S128x128_0_896 inb_S512x2048_S128x128_0_640 inb_S8_S1_5 (by decide) x
  · exact fun x => run_piece c i arg1 harg1 arg3 harg3 arg4 harg4 arg5 harg5 arg6 harg6 arg7 harg7 arg8 harg8 arg9 harg9 arg13 arg14 x0 x2 x3 x4 x5 x6 x7 x8 x9 0 1 0 0 512 640 768 896 512 128 0 4 rfl rfl rfl rfl rfl rfl rfl rfl rfl slices_S512x384_o0_0_S128x384 inb_S768x256_S384x128_0_128 inb_S512x1024_S128x128_0_512 inb_S512x1024_S128x128_0_640 inb_S512x1024_S128x128_0_768 inb_S512x1024_S128x128_0_896 inb_S512x2048_S128x128_0_512 inb_S8_S1_4 (by decide) x
  · exact fun x => run_piece c i arg1 harg1 arg3 harg3 arg4 harg4 arg5 harg5 arg6 harg6 arg7 harg7 arg8 harg8 arg9 harg9 arg13 arg14 x0 x2 x3 x4 x5 x6 x7 x8 x9 0 0 3 0 0 128 256 384 384 0 384 3 rfl rfl rfl rfl rfl rfl rfl rfl rfl slices_S512x384_o384_0_S128x384 inb_S768x256_S384x128_0_0 inb_S512x1024_S128x128_0_0 inb_S512x1024_S128x128_0_128 inb_S512x1024_S128x128_0_256 inb_S512x1024_S128x128_0_384 inb_S512x2048_S128x128_0_384 inb_S8_S1_3 (by decide) x
  · exact fun x => run_piece c i arg1 harg1 arg3 harg3 arg4 harg4 arg5 harg5 arg6 harg6 arg7 harg7 arg8 harg8 arg9 harg9 arg13 arg14 x0 x2 x3 x4 x5 x6 x7 x8 x9 0 0 2 0 0 128 256 384 256 0 256 2 rfl rfl rfl rfl rfl rfl rfl rfl rfl slices_S512x384_o256_0_S128x384 inb_S768x256_S384x128_0_0 inb_S512x1024_S128x128_0_0 inb_S512x1024_S128x128_0_128 inb_S512x1024_S128x128_0_256 inb_S512x1024_S128x128_0_384 inb_S512x2048_S128x128_0_256 inb_S8_S1_2 (by decide) x
  · exact fun x => run_piece c i arg1 harg1 arg3 harg3 arg4 harg4 arg5 harg5 arg6 harg6 arg7 harg7 arg8 harg8 arg9 harg9 arg13 arg14 x0 x2 x3 x4 x5 x6 x7 x8 x9 0 0 1 0 0 128 256 384 128 0 128 1 rfl rfl rfl rfl rfl rfl rfl rfl rfl slices_S512x384_o128_0_S128x384 inb_S768x256_S384x128_0_0 inb_S512x1024_S128x128_0_0 inb_S512x1024_S128x128_0_128 inb_S512x1024_S128x128_0_256 inb_S512x1024_S128x128_0_384 inb_S512x2048_S128x128_0_128 inb_S8_S1_1 (by decide) x
  · exact fun x => run_piece c i arg1 harg1 arg3 harg3 arg4 harg4 arg5 harg5 arg6 harg6 arg7 harg7 arg8 harg8 arg9 harg9 arg13 arg14 x0 x2 x3 x4 x5 x6 x7 x8 x9 0 0 0 0 0 128 256 384 0 0 0 0 rfl rfl rfl rfl rfl rfl rfl rfl rfl slices_S512x384_o0_0_S128x384 inb_S768x256_S384x128_0_0 inb_S512x1024_S128x128_0_0 inb_S512x1024_S128x128_0_128 inb_S512x1024_S128x128_0_256 inb_S512x1024_S128x128_0_384 inb_S512x2048_S128x128_0_0 inb_S8_S1_0 (by decide) x
  · exact fun x => cv_piece c i arg10 harg10 x0 x2 x3 x4 x5 x6 x7 x8 x9 (by decide) x

end Cert.KernelIdeal.Hand
end
-- ==== Proof.Blocks.lean ====
module
public import proofs.«01_k».proof.Proof.Pieces
@[expose] public section
set_option maxRecDepth 16384
noncomputable section
namespace Cert.KernelIdeal.Hand
open Idealize.ShloMosaic Idealize.ShloMosaic.TcCoe Cert.KernelIdeal Cert.KernelIdeal.Gen Idealize.SL.Sem

variable (m : (ℓ : Loc nD τ sig) → Buf (Elt Ideal) ℓ)

/-- The block of every window at every grid point. -/
theorem idx : ∀ t : Fin cfg0.N, win0_0.index t = ![0] ∧ win0_1.index t = ![t.val, 0] ∧ win0_2.index t = ![t.val, 0]
    ∧ win0_3.index t = ![4 * t.val - 1, 0] ∧ win0_4.index t = ![t.val, 0] ∧ win0_5.index t = ![min (4 * t.val + 4) 255, 0]
    ∧ win0_6.index t = ![4 * t.val - 1, 0] ∧ win0_7.index t = ![t.val, 0] ∧ win0_8.index t = ![min (4 * t.val + 4) 255, 0]
    ∧ win0_9.index t = ![t.val, 0] ∧ win0_10.index t = ![0, 0] ∧ win0_11.index t = ![t.val, 0] :=
  (by decide +kernel : ∀ t : Fin grid0.N, _)

theorem t_lt (t : Fin cfg0.N) : t.val < 64 := lt_of_lt_of_eq t.isLt (by decide)

theorem blk0 (c : Dev nD) (t : Fin cfg0.N) (h : Fin 8) : iblk m c 0 t (ix1 h) = m ((c : Thread nD τ).loc main_arg5) (ix1 h) := by
  blk_ext! [iblk, V, idx t]

theorem blk1 (c : Dev nD) (t : Fin cfg0.N) (r : Fin 512) (e : Fin 2048) : iblk m c 1 t (ix2 r e)
    = m ((c : Thread nD τ).loc main_arg0) (ix3 ⟨t / 32, by have := t_lt t; omega⟩ ⟨512 * (t % 32) + r, by omega⟩ e) := by
  have ht := t_lt t
  blk_ext! [iblk, V, idx t]

theorem blk2 (c : Dev nD) (t : Fin cfg0.N) (r : Fin 512) (h : Fin 8) (d : Fin 128) : iblk m c 2 t (ix2 r ⟨128 * h + d, by omega⟩)
    = m ((c : Thread nD τ).loc main_arg1) (ix4 ⟨t / 32, by have := t_lt t; omega⟩ ⟨512 * (t % 32) + r, by omega⟩ h d) := by
  have ht := t_lt t
  blk_ext! [iblk, V, idx t]

theorem blk3 (c : Dev nD) (t : Fin cfg0.N) (h1 : 1 ≤ t.val % 32) (r : Fin 128) (h : Fin 2) (d : Fin 128) : iblk m c 3 t (ix2 r ⟨128 * h + d, by omega⟩)
    = m ((c : Thread nD τ).loc main_arg2) (ix4 ⟨t / 32, by have := t_lt t; omega⟩ ⟨512 * (t % 32) + r - 128, by omega⟩ h d) := by
  have ht := t_lt t
  blk_ext! [iblk, V, idx t]

theorem blk4 (c : Dev nD) (t : Fin cfg0.N) (r : Fin 512) (h : Fin 2) (d : Fin 128) : iblk m c 4 t (ix2 r ⟨128 * h + d, by omega⟩)
    = m ((c : Thread nD τ).loc main_arg2) (ix4 ⟨t / 32, by have := t_lt t; omega⟩ ⟨512 * (t % 32) + r, by omega⟩ h d) := by
  have ht := t_lt t
  blk_ext! [iblk, V, idx t]

theorem blk5 (c : Dev nD) (t : Fin cfg0.N) (h1 : t.val % 32 < 31) (r : Fin 128) (h : Fin 2) (d : Fin 128) : iblk m c 5 t (ix2 r ⟨128 * h + d, by omega⟩)
    = m ((c : Thread nD τ).loc main_arg2) (ix4 ⟨t / 32, by have := t_lt t; omega⟩ ⟨512 * (t % 32) + 512 + r, by omega⟩ h d) := by
  have ht := t_lt t
  blk_ext! [iblk, V, idx t]

theorem blk6 (c : Dev nD) (t : Fin cfg0.N) (h1 : 1 ≤ t.val % 32) (r : Fin 128) (h : Fin 2) (d : Fin 128) : iblk m c 6 t (ix2 r ⟨128 * h + d, by omega⟩)
    = m ((c : Thread nD τ).loc main_arg3) (ix4 ⟨t / 32, by have := t_lt t; omega⟩ ⟨512 * (t % 32) + r - 128, by omega⟩ h d) := by
  have ht := t_lt t
  blk_ext! [iblk, V, idx t]

theorem blk7 (c : Dev nD) (t : Fin cfg0.N) (r : Fin 512) (h : Fin 2) (d : Fin 128) : iblk m c 7 t (ix2 r ⟨128 * h + d, by omega⟩)
    = m ((c : Thread nD τ).loc main_arg3) (ix4 ⟨t / 32, by have := t_lt t; omega⟩ ⟨512 * (t % 32) + r, by omega⟩ h d) := by
  have ht := t_lt t
  blk_ext! [iblk, V, idx t]

theorem blk8 (c : Dev nD) (t : Fin cfg0.N) (h1 : t.val % 32 < 31) (r : Fin 128) (h : Fin 2) (d : Fin 128) : iblk m c 8 t (ix2 r ⟨128 * h + d, by omega⟩)
    = m ((c : Thread nD τ).loc main_arg3) (ix4 ⟨t / 32, by have := t_lt t; omega⟩ ⟨512 * (t % 32) + 512 + r, by omega⟩ h d) := by
  have ht := t_lt t
  blk_ext! [iblk, V, idx t]

theorem blk9 (c : Dev nD) (t : Fin cfg0.N) (r : Fin 512) (e : Fin 1024) : iblk m c 9 t (ix2 r e)
    = m ((c : Thread nD τ).loc main_arg4) (ix3 ⟨t / 32, by have := t_lt t; omega⟩ ⟨512 * (t % 32) + r, by omega⟩ e) := by
  have ht := t_lt t
  blk_ext! [iblk, V, idx t]

theorem blk10 (c : Dev nD) (t : Fin cfg0.N) (r e : Fin 2048) : iblk m c 10 t (ix2 r e) = m ((c : Thread nD τ).loc main_arg6) (ix2 r e) := by
  blk_ext [iblk, V, idx t]

end Cert.KernelIdeal.Hand
end
-- ==== Proof.Mask.lean ====
module
public import proofs.«01_k».proof.Proof.Tile
public import Idealize.ShloMosaic.Lib.WordCmp
public import Idealize.ShloMosaic.Lib.Affine
@[expose] public section
set_option maxRecDepth 16384
noncomputable section
namespace Cert.KernelIdeal.Hand
open Idealize.ShloMosaic Idealize.ShloMosaic.TcCoe Cert.KernelIdeal Cert.KernelIdeal.Gen Idealize.SL.Sem

theorem loW_eq : ∀ (t : Fin cfg0.N) (b : Fin 4), loW (grid0.coords t) b = BitVec.ofNat 32 (if t.val % 32 = 0 ∧ b = 0 then 128 else 0) :=
  (by decide +kernel : ∀ (t : Fin grid0.N) (b : Fin 4), loW (grid0.coords t) b = BitVec.ofNat 32 (if t.val % 32 = 0 ∧ b = 0 then 128 else 0))

theorem hiW_eq : ∀ (t : Fin cfg0.N) (b : Fin 4), hiW (grid0.coords t) b = BitVec.ofNat 32 (if t.val % 32 = 31 ∧ b = 3 then 256 else 384) :=
  (by decide +kernel : ∀ (t : Fin grid0.N) (b : Fin 4), hiW (grid0.coords t) b = BitVec.ofNat 32 (if t.val % 32 = 31 ∧ b = 3 then 256 else 384))

/-- Where the mask of a block of rows is set. -/
theorem maskVec_iff (lo hi : ℕ) (hlo : lo ≤ 384) (hhi : hi ≤ 384) (r : Fin 128) (j : Fin 384) :
    maskVec (BitVec.ofNat 32 lo) (BitVec.ofNat 32 hi) (ix2 r j) = 1#1 ↔ ((r : ℕ) ≤ j ∧ (j : ℕ) ≤ r + 256) ∧ lo ≤ j ∧ (j : ℕ) < hi := by
  pointwise [maskVec, k0_pay9, k0_pay8]
  have ha : IntOp.addi (BitVec.ofNat 32 (r : ℕ)) 256#32 = BitVec.ofNat 32 (r + 256) := by
    show BitVec.ofNat 32 (r : ℕ) + BitVec.ofNat 32 256 = _
    rw [BitVec.ofNat_add]
  rw [ha, IntOp.andi_eq_one, IntOp.andi_eq_one, IntOp.andi_eq_one, WordCmp.cmpi_sge_ofNat_eq_one_iff (by omega) (by omega),
    WordCmp.cmpi_sle_ofNat_eq_one_iff (by omega) (by omega), WordCmp.cmpi_sge_ofNat_eq_one_iff (by omega) (by omega),
    WordCmp.cmpi_slt_ofNat_eq_one_iff (by omega) (by omega)]
  tauto

end Cert.KernelIdeal.Hand
end
-- ==== Proof.TileSpec.lean ====
module
public import proofs.«01_k».proof.Proof.Blocks
public import proofs.«01_k».proof.Proof.Mask
public import proofs.«01_k».proof.Proof.Spec
@[expose] public section
set_option maxRecDepth 16384
noncomputable section
namespace Cert.KernelIdeal.Hand
open Idealize.ShloMosaic Idealize.ShloMosaic.TcCoe Cert.KernelIdeal Cert.KernelIdeal.Gen Idealize.SL.Sem

/-- The three blocks a tile holds, row by row, where they lie in the sequence. -/
theorem rows_eq (a : (⟨4, ![2, 16384, 2, 128]⟩ : Shape).Idx → EReal) (p n : Vec Ideal S128x256 .bf16) (o : Vec Ideal S512x256 .bf16) (T : Fin 2) (s : Fin 32)
    (hp : 1 ≤ (s : ℕ) → ∀ (r : Fin 128) (h : Fin 2) (d : Fin 128), p (ix2 r ⟨128 * h + d, by omega⟩) = a (ix4 T ⟨512 * s + r - 128, by omega⟩ h d))
    (ho : ∀ (r : Fin 512) (h : Fin 2) (d : Fin 128), o (ix2 r ⟨128 * h + d, by omega⟩) = a (ix4 T ⟨512 * s + r, by omega⟩ h d))
    (hn : ∀ hs : (s : ℕ) < 31, ∀ (r : Fin 128) (h : Fin 2) (d : Fin 128), n (ix2 r ⟨128 * h + d, by omega⟩) = a (ix4 T ⟨512 * s + 512 + r, by omega⟩ h d))
    (b : Fin 4) (j : Fin 384) (h : Fin 2) (d : Fin 128) (hv : 128 ≤ 128 * (4 * (s : ℕ) + b) + j ∧ 128 * (4 * (s : ℕ) + b) + j < 16512) :
    rows3 p o n (ix2 ⟨128 * b + j, by omega⟩ ⟨128 * h + d, by omega⟩) = Cert.Spec.kv a T ⟨4 * s + b, by omega⟩ j h d := by
  have e : ∀ x y : Fin 16384, (x : ℕ) = y → a (ix4 T x h d) = a (ix4 T y h d) := fun x y q => congrArg (fun z => a (ix4 T z h d)) (Fin.ext q)
  unfold Cert.Spec.kv
  rw [dif_pos (by simp only; omega)]
  by_cases h1 : 128 * (b : ℕ) + j < 128
  · rw [rows3_first p o n (ix2 ⟨128 * b + j, h1⟩ ⟨128 * h + d, by omega⟩) _ (Nat.zero_add _).symm (Nat.zero_add _).symm, hp (by omega)]
    exact e _ _ (by simp only; omega)
  · by_cases h2 : 128 * (b : ℕ) + j < 640
    · rw [rows3_own p o n (ix2 ⟨128 * b + j - 128, by omega⟩ ⟨128 * h + d, by omega⟩) _ (by show 128 * (b : ℕ) + j = 128 + (128 * (b : ℕ) + j - 128); omega) (Nat.zero_add _).symm, ho]
      exact e _ _ (by simp only; omega)
    · rw [rows3_last p o n (ix2 ⟨128 * b + j - 640, by omega⟩ ⟨128 * h + d, by omega⟩) _ (by show 128 * (b : ℕ) + j = 640 + (128 * (b : ℕ) + j - 640); omega) (Nat.zero_add _).symm, hn (by omega)]
      exact e _ _ (by simp only; omega)

theorem sum_real {n : ℕ} (f : Fin n → EReal) (h : ∀ i, ∃ a : ℝ, f i = a) : ∃ a : ℝ, (∑ i, f i) = a := by
  choose g hg using h
  have key : ∀ u : Finset (Fin n), ∃ a : ℝ, (∑ i ∈ u, f i) = a := by
    intro u
    induction u using Finset.induction_on with
    | empty => exact ⟨0, by simp⟩
    | insert i u hi ih =>
      obtain ⟨a, ha⟩ := ih
      exact ⟨g i + a, by rw [Finset.sum_insert hi, ha, hg, EReal.coe_add]⟩
  exact key Finset.univ

/-- A score of finite queries and keys is below infinity. -/
theorem sg_ne_top (q : (⟨4, ![2, 16384, 8, 128]⟩ : Shape).Idx → EReal) (k : (⟨4, ![2, 16384, 2, 128]⟩ : Shape).Idx → EReal)
    (hq : ∀ i, ∃ a : ℝ, q i = a) (hk : ∀ i, ∃ a : ℝ, k i = a) (T : Fin 2) (B r : Fin 128) (hd : Fin 8) (j : Fin 384) :
    Cert.Spec.sg q k T B r hd j ≠ ⊤ := by
  unfold Cert.Spec.sg
  split_ifs
  · have hkv : ∀ d, ∃ a : ℝ, Cert.Spec.kv k T B j ⟨hd / 4, by omega⟩ d = a := by
      intro d
      unfold Cert.Spec.kv
      split_ifs
      · exact hk _
      · exact ⟨0, rfl⟩
    obtain ⟨s, hs⟩ := sum_real (fun d : Fin 128 => q (ix4 T ⟨128 * B + r, by omega⟩ hd d) * Cert.Spec.kv k T B j ⟨hd / 4, by omega⟩ d) (fun d => by
      obtain ⟨x, hx⟩ := hq (ix4 T ⟨128 * B + r, by omega⟩ hd d)
      obtain ⟨y, hy⟩ := hkv d
      exact ⟨x * y, by rw [hx, hy, EReal.coe_mul]⟩)
    rw [hs]
    unfold sc
    rw [← EReal.coe_mul]
    exact EReal.coe_ne_top _
  · exact bot_ne_top

/-- One head of a tile is the specification's head. -/
theorem tile_head (q : (⟨4, ![2, 16384, 8, 128]⟩ : Shape).Idx → EReal) (k v : (⟨4, ![2, 16384, 2, 128]⟩ : Shape).Idx → EReal) (sink : (⟨1, ![8]⟩ : Shape).Idx → EReal)
    (hq : ∀ i, ∃ a : ℝ, q i = a) (hk : ∀ i, ∃ a : ℝ, k i = a) (hsink : ∀ i, ∃ a : ℝ, sink i = a) (T : Fin 2) (s : Fin 32)
    (t : Fin cfg0.N) (hts : t.val % 32 = s) (qb : Vec Ideal S512x1024 .bf16) (kb vb : Vec Ideal S768x256 .bf16) (x0 : Vec Ideal S8 .f32)
    (h0 : ∀ h, x0 (ix1 h) = sink (ix1 h))
    (hqb : ∀ (r : Fin 512) (h : Fin 8) (d : Fin 128), qb (ix2 r ⟨128 * h + d, by omega⟩) = q (ix4 T ⟨512 * s + r, by omega⟩ h d))
    (hkb : ∀ (b : Fin 4) (j : Fin 384) (h : Fin 2) (d : Fin 128), 128 ≤ 128 * (4 * (s : ℕ) + b) + j ∧ 128 * (4 * (s : ℕ) + b) + j < 16512 →
      kb (ix2 ⟨128 * b + j, by omega⟩ ⟨128 * h + d, by omega⟩) = Cert.Spec.kv k T ⟨4 * s + b, by omega⟩ j h d)
    (hvb : ∀ (b : Fin 4) (j : Fin 384) (h : Fin 2) (d : Fin 128), 128 ≤ 128 * (4 * (s : ℕ) + b) + j ∧ 128 * (4 * (s : ℕ) + b) + j < 16512 →
      vb (ix2 ⟨128 * b + j, by omega⟩ ⟨128 * h + d, by omega⟩) = Cert.Spec.kv v T ⟨4 * s + b, by omega⟩ j h d)
    (b : Fin 4) (hd : Fin 8) (r d : Fin 128) :
    tileAttn (loW (grid0.coords t) b) (hiW (grid0.coords t) b) x0 qb kb vb b hd r d = Cert.Spec.head q k v sink T ⟨4 * s + b, by omega⟩ r hd d := by
  have hsg : ∀ j : Fin 384, (if maskVec (loW (grid0.coords t) b) (hiW (grid0.coords t) b) (ix2 r j) = 1#1 then
        (∑ l : Fin 128, qb (ix2 ⟨128 * b + r, by omega⟩ ⟨128 * hd + l, by omega⟩) * kb (ix2 ⟨128 * b + j, by omega⟩ ⟨128 * (hd / 4) + l, by omega⟩)) * sc
      else ⊥) = Cert.Spec.sg q k T ⟨4 * s + b, by omega⟩ r hd j := by
    intro j
    unfold Cert.Spec.sg
    have hm : maskVec (loW (grid0.coords t) b) (hiW (grid0.coords t) b) (ix2 r j) = 1#1 ↔
        ((r : ℕ) ≤ j ∧ (j : ℕ) ≤ r + 256) ∧ 128 ≤ 128 * (4 * (s : ℕ) + b) + j ∧ 128 * (4 * (s : ℕ) + b) + j < 16512 := by
      have hb := b.isLt
      have hj := j.isLt
      rw [loW_eq, hiW_eq, maskVec_iff _ _ (by split_ifs <;> omega) (by split_ifs <;> omega), hts]
      have b0 : b = 0 ↔ (b : ℕ) = 0 := Fin.ext_iff
      have b3 : b = 3 ↔ (b : ℕ) = 3 := Fin.ext_iff
      split_ifs with u1 u2 u2 <;> simp only [b0, b3] at * <;> omega
    by_cases hc : ((r : ℕ) ≤ j ∧ (j : ℕ) ≤ r + 256) ∧ 128 ≤ 128 * (4 * (s : ℕ) + b) + j ∧ 128 * (4 * (s : ℕ) + b) + j < 16512
    · rw [if_pos (hm.2 hc), if_pos hc]
      refine congrArg (· * sc) (Finset.sum_congr rfl fun l _ => ?_)
      rw [hqb ⟨128 * b + r, by omega⟩ hd l, hkb b j ⟨hd / 4, by omega⟩ l hc.2]
      refine congrArg (fun z : EReal => z * _) (congrArg (fun z => q (ix4 T z hd l)) (Fin.ext ?_))
      show 512 * (s : ℕ) + (128 * b + r) = 128 * (4 * s + b) + r
      omega
    · rw [if_neg (fun h => hc (hm.1 h)), if_neg hc]
  unfold tileAttn
  rw [funext hsg]
  obtain ⟨sk, hsk⟩ := hsink (ix1 hd)
  unfold Cert.Spec.head
  rw [h0, hsk]
  refine attnS_eq_attnR _ _ _ sk (fun j => sg_ne_top q k hq hk T _ r hd j) fun j => ?_
  by_cases hc : ((r : ℕ) ≤ j ∧ (j : ℕ) ≤ r + 256) ∧ 128 ≤ 128 * (4 * (s : ℕ) + b) + j ∧ 128 * (4 * (s : ℕ) + b) + j < 16512
  · exact .inr (hvb b j ⟨hd / 4, by omega⟩ d hc.2)
  · left
    unfold Cert.Spec.sg
    rw [if_neg hc]

end Cert.KernelIdeal.Hand
end
-- ==== Proof.Out.lean ====
module
public import proofs.«01_k».proof.Proof.Pieces
@[expose] public section
set_option maxRecDepth 16384
noncomputable section
namespace Cert.KernelIdeal.Hand
open Idealize.ShloMosaic Idealize.ShloMosaic.TcCoe Cert.KernelIdeal Cert.KernelIdeal.Gen Idealize.SL.Sem

variable (c : Dev nD) (i : grid0.Coords) (arg1 : Memref sig .tc .smem S8 .f32) (harg1 : arg1.IsWhole) (arg3 : Memref sig .tc .vmem S512x1024 .bf16) (harg3 : arg3.IsWhole)
  (arg4 : Memref sig .tc .vmem S128x256 .bf16) (harg4 : arg4.IsWhole) (arg5 : Memref sig .tc .vmem S512x256 .bf16) (harg5 : arg5.IsWhole)
  (arg6 : Memref sig .tc .vmem S128x256 .bf16) (harg6 : arg6.IsWhole) (arg7 : Memref sig .tc .vmem S128x256 .bf16) (harg7 : arg7.IsWhole)
  (arg8 : Memref sig .tc .vmem S512x256 .bf16) (harg8 : arg8.IsWhole) (arg9 : Memref sig .tc .vmem S128x256 .bf16) (harg9 : arg9.IsWhole)
  (arg10 : Memref sig .tc .vmem S512x1024 .bf16) (harg10 : arg10.IsWhole) (arg11 : Memref sig .tc .vmem S2048x2048 .bf16) (harg11 : arg11.IsWhole) (arg12 : Memref sig .tc .vmem S512x2048 .f32) (harg12 : arg12.IsWhole)
  (arg13 : Memref sig .tc .vmem S768x256 .bf16) (harg13 : arg13.IsWhole) (arg14 : Memref sig .tc .vmem S768x256 .bf16) (harg14 : arg14.IsWhole) (arg15 : Memref sig .tc .vmem S512x2048 .bf16) (harg15 : arg15.IsWhole) (arg2 : Memref sig .tc .vmem S512x2048 .f32) (harg2 : arg2.IsWhole)
  (x0 : Vec Ideal S8 .f32) (x2 : Vec Ideal S512x1024 .bf16) (x3 : Vec Ideal S128x256 .bf16) (x4 : Vec Ideal S512x256 .bf16) (x5 : Vec Ideal S128x256 .bf16)
  (x6 : Vec Ideal S128x256 .bf16) (x7 : Vec Ideal S512x256 .bf16) (x8 : Vec Ideal S128x256 .bf16) (x9 : Vec Ideal S512x1024 .bf16)
  (x1 : Vec Ideal S512x2048 .f32) (x10 : Vec Ideal S2048x2048 .bf16)

/-- The rows multiplied by the output weights, read back whole, are the tile's mix. -/
theorem mix_read : kernelRun0_A.sl.v1107 (F := Ideal) c i arg1 harg1 arg3 harg3 arg4 harg4 arg5 harg5 arg6 harg6 arg7 harg7 arg8 harg8 arg9 harg9 arg10 harg10 arg13 arg14 arg15 x0 x2 x3 x4 x5 x6 x7 x8 x9
    = mixTile i x0 x2 (rows3 x3 x4 x5) (rows3 x6 x7 x8) x9 := by
  have hp := mix_pieces c i arg1 harg1 arg3 harg3 arg4 harg4 arg5 harg5 arg6 harg6 arg7 harg7 arg8 harg8 arg9 harg9 arg10 harg10 arg13 arg14 x0 x2 x3 x4 x5 x6 x7 x8 x9
  have hz : View.ld (mixTile i x0 x2 (rows3 x3 x4 x5) (rows3 x6 x7 x8) x9) (Rect.unit (s := S512x2048) ![0, 0] S512x2048.size inb_S512x2048_S512x2048_0_0)
      = mixTile i x0 x2 (rows3 x3 x4 x5) (rows3 x6 x7 x8) x9 := View.ld_unit_lit' _ _ (fun a => by fin_cases a <;> rfl)
  refine Eq.trans ?_ hz
  unfold kernelRun0_A.sl.v1107
  rw [View.readCov_eq_canon']
  funext j
  exact View.canon_append_of_piecesOf _ [] _ hp _ (View.cover_of_tiledBy _ ![128, 128] (by sl_kernel_rfl) _)

/-- What a tile's last store holds: the residual and the mix's product with the output weights. -/
theorem pay_apply (x : Vec Ideal S512x2048 .f32) (mix : Vec Ideal S512x2048 .bf16) (w : Vec Ideal S2048x2048 .bf16) (r : Fin 512) (e : Fin 2048) :
    k0_pay110 (F := Ideal) x mix w (ix2 r e) = x (ix2 r e) + ∑ l : Fin 2048, mix (ix2 r l) * w (ix2 l e) := by
  pointwise [k0_pay110]

/-- The block of the result that a grid point leaves. -/
theorem out_block (r : Fin 512) (e : Fin 2048) : out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 (ix2 r e)
    = x1 (ix2 r e) + ∑ l : Fin 2048, mixTile i x0 x2 (rows3 x3 x4 x5) (rows3 x6 x7 x8) x9 (ix2 r l) * x10 (ix2 l e) := by
  unfold out0_A_11
  rw [View.read_writes_junk_eq_canon]
  have e2 : View.readAt (Elt Ideal) arg2.view (Rect.unit (s := S512x2048) ![0, 0] S512x2048.size inb_S512x2048_S512x2048_0_0).toLoadRect (harg2.unread x1) = x1 := by
    rw [readAt_whole, View.ld_unit_lit' _ _ (fun a => by fin_cases a <;> rfl)]
  have e11 : View.readAt (Elt Ideal) arg11.view (Rect.unit (s := S2048x2048) ![0, 0] S2048x2048.size inb_S2048x2048_S2048x2048_0_0).toLoadRect (harg11.unread x10) = x10 := by
    rw [readAt_whole, View.ld_unit_lit' _ _ (fun a => by fin_cases a <;> rfl)]
  have hr : kernelRun0_A.sl.r_58 (F := Ideal) c i arg1 harg1 arg2 harg2 arg3 harg3 arg4 harg4 arg5 harg5 arg6 harg6 arg7 harg7 arg8 harg8 arg9 harg9 arg10 harg10 arg11 harg11 arg13 arg14 arg15 x0 x1 x2 x3 x4 x5 x6 x7 x8 x9 x10
      = k0_pay110 x1 (mixTile i x0 x2 (rows3 x3 x4 x5) (rows3 x6 x7 x8) x9) x10 := by
    unfold kernelRun0_A.sl.r_58
    rw [e2, e11, mix_read c i arg1 harg1 arg3 harg3]
  refine Eq.trans (congrFun (?_ : _ = kernelRun0_A.sl.r_58 (F := Ideal) c i arg1 harg1 arg2 harg2 arg3 harg3 arg4 harg4 arg5 harg5 arg6 harg6 arg7 harg7 arg8 harg8 arg9 harg9 arg10 harg10 arg11 harg11 arg13 arg14 arg15 x0 x1 x2 x3 x4 x5 x6 x7 x8 x9 x10) _) ((congrFun hr _).trans (pay_apply _ _ _ r e))
  unfold kernelRun0_A
  exact View.canon_cons_unit_lit' (S := S512x2048) (off := ![0, 0]) inb_S512x2048_S512x2048_0_0 _ [] (fun a => by fin_cases a <;> rfl)

end Cert.KernelIdeal.Hand
end
-- ==== Proof.KernelValue.lean ====
module
public import proofs.«01_k».proof.Proof.TileSpec
public import proofs.«01_k».proof.Proof.Out
@[expose] public section
set_option maxRecDepth 16384
noncomputable section
namespace Cert.KernelIdeal.Hand
open Idealize.ShloMosaic Idealize.ShloMosaic.TcCoe Cert.KernelIdeal Cert.KernelIdeal.Gen Idealize.SL.Sem

variable (m : (ℓ : Loc nD τ sig) → Buf (Elt Ideal) ℓ)

/-- Every entry is a finite number. -/
def AllReal {s : Shape} (v : s.Idx → EReal) : Prop := ∀ i, ∃ a : ℝ, v i = a

/-- Queries, keys and sinks are finite numbers. -/
structure Finite (c : Dev nD) : Prop where
  q : AllReal (s := ⟨4, ![2, 16384, 8, 128]⟩) (m ((c : Thread nD τ).loc main_arg1))
  k : AllReal (s := ⟨4, ![2, 16384, 2, 128]⟩) (m ((c : Thread nD τ).loc main_arg2))
  s : AllReal (s := ⟨1, ![8]⟩) (m ((c : Thread nD τ).loc main_arg5))

theorem mixTile_conv (i : grid0.Coords) (sink : Vec Ideal S8 .f32) (q : Vec Ideal S512x1024 .bf16) (kb vb : Vec Ideal S768x256 .bf16)
    (cv : Vec Ideal S512x1024 .bf16) (r : Fin 512) (l : Fin 2048) (h : ¬ (l : ℕ) < 1024) :
    mixTile i sink q kb vb cv (ix2 r l) = cv (ix2 r ⟨l - 1024, by omega⟩) := dif_neg h

/-- The specification at the arguments in memory. -/
def specOut (c : Dev nD) (T : Fin 2) (n : Fin 16384) (e : Fin 2048) : EReal :=
  Cert.Spec.out (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6)) T n e

theorem tile_mix (c : Dev nD) (hf : Finite m c) (t : Fin cfg0.N) (r : Fin 512) (l : Fin 2048) :
    (mixTile (grid0.coords t) (iblk m c 0 t) (iblk m c 2 t) (rows3 (iblk m c 3 t) (iblk m c 4 t) (iblk m c 5 t)) (rows3 (iblk m c 6 t) (iblk m c 7 t) (iblk m c 8 t)) (iblk m c 9 t) (ix2 r l) : EReal)
      = Cert.Spec.mix (m ((c : Thread nD τ).loc main_arg1)) (m ((c : Thread nD τ).loc main_arg2)) (m ((c : Thread nD τ).loc main_arg3)) (m ((c : Thread nD τ).loc main_arg4))
          (m ((c : Thread nD τ).loc main_arg5)) ⟨t / 32, by have := t_lt t; omega⟩ ⟨512 * (t % 32) + r, by omega⟩ l := by
  have ht := t_lt t
  unfold Cert.Spec.mix
  by_cases hl : (l : ℕ) < 1024
  · rw [dif_pos hl, mixTile_head (grid0.coords t) _ _ _ _ _ ⟨r / 128, by omega⟩ ⟨l / 128, by omega⟩ ⟨r % 128, by omega⟩ ⟨l % 128, by omega⟩ (ix2 r l)
      (by show (r : ℕ) = 128 * (r / 128) + r % 128; omega) (by show (l : ℕ) = 128 * (l / 128) + l % 128; omega)]
    have key := tile_head (m ((c : Thread nD τ).loc main_arg1)) (m ((c : Thread nD τ).loc main_arg2)) (m ((c : Thread nD τ).loc main_arg3)) (m ((c : Thread nD τ).loc main_arg5))
      hf.q hf.k hf.s ⟨t / 32, by omega⟩ ⟨t % 32, by omega⟩ t rfl (iblk m c 2 t) (rows3 (iblk m c 3 t) (iblk m c 4 t) (iblk m c 5 t)) (rows3 (iblk m c 6 t) (iblk m c 7 t) (iblk m c 8 t)) (iblk m c 0 t)
      (blk0 m c t) (blk2 m c t)
      (rows_eq _ _ _ _ _ ⟨t % 32, by omega⟩ (blk3 m c t) (blk4 m c t) (blk5 m c t)) (rows_eq _ _ _ _ _ ⟨t % 32, by omega⟩ (blk6 m c t) (blk7 m c t) (blk8 m c t))
      ⟨r / 128, by omega⟩ ⟨l / 128, by omega⟩ ⟨r % 128, by omega⟩ ⟨l % 128, by omega⟩
    have e1 : (⟨(512 * (t.val % 32) + r) / 128, by omega⟩ : Fin 128) = ⟨4 * (t % 32) + r / 128, by omega⟩ := Fin.ext (by show (512 * (t.val % 32) + (r : ℕ)) / 128 = 4 * (t.val % 32) + r / 128; omega)
    have e2 : (⟨(512 * (t.val % 32) + r) % 128, by omega⟩ : Fin 128) = ⟨r % 128, by omega⟩ := Fin.ext (by show (512 * (t.val % 32) + (r : ℕ)) % 128 = r % 128; omega)
    rw [e1, e2]
    exact key
  · rw [dif_neg hl]
    refine (mixTile_conv _ _ _ _ _ _ r l hl).trans ?_
    exact blk9 m c t r ⟨l - 1024, by omega⟩

theorem block_spec (c : Dev nD) (hf : Finite m c) (t : Fin cfg0.N) (r : Fin 512) (e : Fin 2048) :
    (outsAt0 m c t : Vec Ideal S512x2048 .f32) (ix2 r e) = specOut m c ⟨t / 32, by have := t_lt t; omega⟩ ⟨512 * (t % 32) + r, by omega⟩ e := by
  have ht := t_lt t
  unfold outsAt0
  refine (out_block (x0 := iblk m c 0 t) (x1 := iblk m c 1 t) (x2 := iblk m c 2 t) (x3 := iblk m c 3 t) (x4 := iblk m c 4 t) (x5 := iblk m c 5 t) (x6 := iblk m c 6 t) (x7 := iblk m c 7 t)
    (x8 := iblk m c 8 t) (x9 := iblk m c 9 t) (x10 := iblk m c 10 t) (r := r) (e := e) ..).trans ?_
  unfold specOut Cert.Spec.out
  refine congrArg₂ (fun a b : EReal => a + b) (blk1 m c t r e) (Finset.sum_congr rfl fun l _ => congrArg₂ (fun a b : EReal => a * b) (tile_mix m c hf t r l) (blk10 m c t l e))

/-- The specification as the array the kernel returns. -/
def specArr (c : Dev nD) : Vec Ideal S32768x2048 .f32 := fun i =>
  specOut m c ⟨i 0 / 16384, by have : (i 0 : ℕ) < 32768 := (i 0).isLt; omega⟩ ⟨i 0 % 16384, by omega⟩ ⟨i 1, (i 1).isLt⟩

theorem final_arr (c : Dev nD) (hf : Finite m c) : (dats m 0 c).arrAt 11 cfg0.N = specArr m c := by
  refine (dats m 0 c).arrAt_eq_of_covers 11 _ (by decide +kernel) fun t hff y => ?_
  have ht := t_lt t
  have h := idx t
  idx_vars y
  blk_simp
  rw [after0_11]
  refine (block_spec m c hf t y0 y1).trans ?_
  have h11 := h.2.2.2.2.2.2.2.2.2.2.2
  have e0 : ((win0_11.blk t).view.emb (ix2 y0 y1) 0 : ℕ) = t.val * 512 + y0 := by blk_simp [h11]
  have e1 : ((win0_11.blk t).view.emb (ix2 y0 y1) 1 : ℕ) = y1 := by blk_simp [h11]
  unfold specArr
  have f0 : (⟨t.val / 32, by omega⟩ : Fin 2) = ⟨((win0_11.blk t).view.emb (ix2 y0 y1) 0 : ℕ) / 16384, by omega⟩ := Fin.ext (by simp only [e0]; omega)
  have f1 : (⟨512 * (t.val % 32) + y0, by omega⟩ : Fin 16384) = ⟨((win0_11.blk t).view.emb (ix2 y0 y1) 0 : ℕ) % 16384, by omega⟩ := Fin.ext (by simp only [e0]; omega)
  have f2 : y1 = ⟨((win0_11.blk t).view.emb (ix2 y0 y1) 1 : ℕ), by omega⟩ := Fin.ext e1.symm
  exact congr (congrArg₂ (specOut m c) f0 f1) f2

end Cert.KernelIdeal.Hand
end
-- ==== Proof.Finite.lean ====
module
public import proofs.«01_k».proof.Defs
public import proofs.«01_k».proof.Proof.KernelValue
public import Idealize.ShloMosaic.Lib.Pointwise
@[expose] public section
set_option maxRecDepth 16384
noncomputable section
namespace Cert.KernelIdeal.Hand
open Idealize.ShloMosaic Idealize.ShloMosaic.TcCoe Cert.KernelIdeal Cert.KernelIdeal.Gen Idealize.SL.Sem

/-- An entry whose absolute value is below infinity is a finite number. -/
theorem real_of_abs (x : EReal) (h : max x (-x) < ⊤) : ∃ a : ℝ, x = a := by
  induction x using EReal.rec with
  | bot => simp at h
  | coe a => exact ⟨a, rfl⟩
  | top => simp at h

theorem facts : Cert.Pre_finite_scores.Facts := by
  constructor <;> decide

theorem real_of_cmp (x : EReal) (h : Ideal.cmp .olt (max x (-x)) ⊤ = 1#1) : ∃ a : ℝ, x = a := by
  apply real_of_abs
  by_contra hn
  simp [Ideal.cmp, hn] at h

theorem top_b : Ideal.ofBits .bf16 0x7F80#16 = ⊤ := by
  simp [Ideal.ofBits, Ideal.ieee]

theorem top_f : Ideal.ofBits .f32 0x7F800000#32 = ⊤ := by
  simp [Ideal.ofBits, Ideal.ieee]

/-- Queries and keys: the comparison with infinity says that every entry is finite. -/
theorem allReal_b {s : Shape} (x : FVec Ideal s .bf16) (hb : (⟨0, ![]⟩ : Shape).BroadcastsInDim s ![])
    (h : cmpf .olt (Host.absf x) (broadcastInDim s ![] hb (constant ⟨0, ![]⟩ .bf16 0x7F80#16)) = fun _ => 1#1) : AllReal x := by
  intro i
  have h1 : Ideal.cmp .olt (max (x i) (-(x i))) (Ideal.ofBits .bf16 0x7F80#16) = 1#1 := congrFun h i
  rw [top_b] at h1
  exact real_of_cmp _ h1

/-- The sinks: the comparison with infinity says that every entry is finite. -/
theorem allReal_f {s : Shape} (x : FVec Ideal s .f32) (hb : (⟨0, ![]⟩ : Shape).BroadcastsInDim s ![])
    (h : cmpf .olt (Host.absf x) (broadcastInDim s ![] hb (constant ⟨0, ![]⟩ .f32 0x7F800000#32)) = fun _ => 1#1) : AllReal x := by
  intro i
  have h1 : Ideal.cmp .olt (max (x i) (-(x i))) (Ideal.ofBits .f32 0x7F800000#32) = 1#1 := congrFun h i
  rw [top_f] at h1
  exact real_of_cmp _ h1

variable (m : (ℓ : Loc nD τ sig) → Buf (Elt Ideal) ℓ)

/-- The precondition says that queries, keys and sinks are finite. -/
theorem finite_of_pre (h : Cert.Pre_KernelIdeal_finite_scores (hPre_finite_scores := facts) m) (c : Dev nD) : Finite m c :=
  ⟨allReal_b (s := Cert.Pre_finite_scores.S2x16384x8x128) _ _ (h c).1,
   allReal_b (s := Cert.Pre_finite_scores.S2x16384x2x128) _ _ (h c).2.1,
   allReal_f (s := Cert.Pre_finite_scores.S8) _ _ (h c).2.2⟩

end Cert.KernelIdeal.Hand
end
-- ==== Proof.Claims.lean ====
module
public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.RefRun
public import proofs.«01_k».proof.Proof.Finite
public import Idealize.ShloMosaic.Lib.Quiescent
@[expose] public section
set_option maxRecDepth 16384
noncomputable section
namespace Cert.Proof
open Idealize.ShloMosaic Idealize.ShloMosaic.TcCoe Idealize.SL.Sem

/-- The reference's result at the kernel's arguments is the kernel's own array. -/
theorem ref_arr (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : Cert.Spec.out (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
      = Cert.KernelIdeal.Hand.specOut m c) :
    (Cert.ReferenceIdeal.Value.res_main_v79 m' c : Vec Ideal Cert.ReferenceIdeal.S32768x2048 .f32) = Cert.KernelIdeal.Hand.specArr m c := by
  funext j
  idx_vars j
  have hi := j0.isLt
  have hn : (j0 : ℕ) % 16384 < 16384 := Nat.mod_lt _ (by norm_num)
  have hT : (j0 : ℕ) / 16384 < 2 := by omega
  have e1 : j0 = ⟨16384 * ((⟨(j0 : ℕ) / 16384, hT⟩ : Fin 2) : ℕ) + ((⟨(j0 : ℕ) % 16384, hn⟩ : Fin 16384) : ℕ), by
      show 16384 * ((j0 : ℕ) / 16384) + (j0 : ℕ) % 16384 < 32768
      omega⟩ := Fin.ext (by show (j0 : ℕ) = 16384 * ((j0 : ℕ) / 16384) + (j0 : ℕ) % 16384; omega)
  have h2 := Cert.ReferenceIdeal.Hand.res_apply m' c ⟨(j0 : ℕ) / 16384, hT⟩ ⟨(j0 : ℕ) % 16384, hn⟩ j1
  rw [h, ← e1] at h2
  exact h2

/-- With finite queries, keys and sinks the kernel and the reference end with the same array. -/
theorem algebraic : Cert.algebraic_KernelIdeal_ReferenceIdeal_pre_finite_scores (hPre_finite_scores := Cert.KernelIdeal.Hand.facts) := by
  intro m ρ m' ρ' hpre hagree
  refine ⟨fun c => Cert.KernelIdeal.Hand.specArr m c, ?_, ?_⟩
  · exact (θ_run Cert.KernelIdeal.defs _ _).mono
      (fun _ h c => ⟨(h c).1.trans (Cert.KernelIdeal.Hand.final_arr m c (Cert.KernelIdeal.Hand.finite_of_pre m hpre c)), (h c).2⟩)
      (Cert.KernelIdeal.Value.run_blocks (F := Ideal) m ρ)
  · refine (θ_run Cert.ReferenceIdeal.defs _ _).mono (fun _ h c => ⟨(h c).1.trans (ref_arr m m' c ?_), (h c).2⟩)
      (Cert.ReferenceIdeal.Value.run (F := Ideal) m' ρ')
    obtain ⟨h0, h1, h2, h3, h4, h5, h6⟩ := hagree c
    rw [h0, h1, h2, h3, h4, h5, h6]
    rfl

end Cert.Proof
end
-- ==== Proof.lean ====
module

public import proofs.«01_k».proof.Defs
public import proofs.«01_k».proof.Proof.MlpRun
public import proofs.«01_k».proof.Proof.MlpRunB
public import proofs.«01_k».proof.Proof.MlpFin
public import proofs.«01_k».proof.Proof.MlpRun3
public import proofs.«01_k».proof.Proof.MlpRun3B
public import proofs.«01_k».proof.Proof.MlpFin3
public import proofs.«01_k».proof.Proof.Gen.Reference3Ideal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import Idealize.ShloMosaic.Adequacy
public import Idealize.ShloMosaic.Init
public import Idealize.ShloMosaic.Lib.Quiescent
public import proofs.«01_k».proof.Proof.Gen.Reference2Ideal.Run
public import proofs.«01_k».proof.Proof.Claims

@[expose] public section

noncomputable section

namespace Cert.Proof

open Idealize.ShloMosaic Idealize.SL.Sem Cert.Kernel

/-- The kernel runs to its end with no race, keeps its arguments and leaves every counter at zero. -/
theorem frame_p : Cert.quiescent_Kernel := fun m ρ _ => Cert.Kernel.Gen.frame m ρ

/-- The same of the idealized kernel. -/
theorem frame_pi : Cert.quiescent_KernelIdeal := fun m ρ _ => Cert.KernelIdeal.Gen.frame m ρ

/-- The same of the idealized reference: a host program without counters. -/
theorem frame_ri : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The two named constants: the scale and the mask. -/
theorem preserves : Cert.preserves_Kernel_KernelIdeal :=
  ⟨IdealRules.named_const.statement Cert.KernelIdeal.κ "scale" .f32 0x3DB504F3#32 (((Real.sqrt 128)⁻¹ : ℝ) : EReal) rfl,
   IdealRules.named_const.statement Cert.KernelIdeal.κ "mask" .f32 0xF149F2CA#32 ⊥ rfl⟩

/-- The feed-forward call runs to its end with no race, keeps its arguments and leaves every counter at zero. -/
theorem frame_p2 : Cert.quiescent_Kernel2 := fun m ρ _ => MlpBodyB.frame (F := Bits) m ρ

/-- The same of it idealized. -/
theorem frame_pi2 : Cert.quiescent_Kernel2Ideal := fun m ρ _ => MlpBody.frame (F := Ideal) m ρ

/-- The same of its reference: a host program without counters. -/
theorem frame_ri2 : Cert.quiescent_Reference2Ideal := fun m ρ _ =>
  (θ_run Cert.Reference2Ideal.defs _ _).mono
    (fun r h => ⟨fun c => (h c).2, Idealize.ShloMosaic.sem_eq_zero_of_no_sems (by decide) r.2⟩)
    (Cert.Reference2Ideal.Value.run (F := Ideal) m ρ)

/-- Nothing was rewritten in the feed-forward call. -/
theorem preserves2 : Cert.preserves_Kernel2_Kernel2Ideal := trivial

/-- The feed-forward call without the final normalization runs to its end with no race, keeps its arguments and leaves every counter at zero. -/
theorem frame_p3 : Cert.quiescent_Kernel3 := fun m ρ _ => MlpBody3B.frame (F := Bits) m ρ

/-- The same of it idealized. -/
theorem frame_pi3 : Cert.quiescent_Kernel3Ideal := fun m ρ _ => MlpBody3.frame (F := Ideal) m ρ

/-- The same of its reference: a host program without counters. -/
theorem frame_ri3 : Cert.quiescent_Reference3Ideal := fun m ρ _ =>
  (θ_run Cert.Reference3Ideal.defs _ _).mono
    (fun r h => ⟨fun c => (h c).2, Idealize.ShloMosaic.sem_eq_zero_of_no_sems (by decide) r.2⟩)
    (Cert.Reference3Ideal.Value.run (F := Ideal) m ρ)

/-- Nothing was rewritten in it. -/
theorem preserves3 : Cert.preserves_Kernel3_Kernel3Ideal := trivial

theorem claim : Cert.Claim := ⟨Cert.Kernel.Gen.facts, Cert.KernelIdeal.Gen.facts, Cert.ReferenceIdeal.Gen.facts, Cert.Kernel2.Gen.facts, Cert.Kernel2Ideal.Gen.facts,
  Cert.Reference2Ideal.Gen.facts, Cert.Kernel3.Gen.facts, Cert.Kernel3Ideal.Gen.facts, Cert.Reference3Ideal.Gen.facts, Cert.KernelIdeal.Hand.facts,
  frame_p, frame_pi, fun m ρ _ => frame_pi m ρ trivial, frame_ri, fun m ρ _ => frame_ri m ρ trivial, frame_p2, frame_pi2, frame_ri2, frame_p3, frame_pi3, frame_ri3,
  preserves, preserves2, preserves3, algebraic, algebraic2, algebraic3⟩

end Cert.Proof

end
